-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  IdealRules.named_const.Statement Cert.Kernel5Ideal.κ "qscale" .f32 0x3E0293EE#32 (((Real.sqrt 128)⁻¹ * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v56) = v0 c
          ∧ r.2.mem ((c.tc : Thread Cert.Reference5Ideal.nD Cert.Reference5Ideal.τ).loc Cert.Reference5Ideal.main_v57) = v1 c
          ∧ r.2.mem ((c.tc : Thread Cert.Reference5Ideal.nD Cert.Reference5Ideal.τ).loc Cert.Reference5Ideal.main_v59) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v13_0)) (v1 : (c : Dev Cert.Kernel6Ideal.nD) → Buf (Elt Ideal) ((c.tc : Thread Cert.Kernel6Ideal.nD Cert.Kernel6Ideal.τ).loc Cert.Kernel6Ideal.main_v13_1)) (v2 : (c : Dev Cert.Kernel6Ideal.nD) → Buf (Elt Ideal) ((c.tc : Thread Cert.Kernel6Ideal.nD Cert.Kernel6Ideal.τ).loc Cert.Kernel6Ideal.main_v13_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_0) = v0 c
          ∧ r.2.mem ((c.tc : Thread Cert.Kernel6Ideal.nD Cert.Kernel6Ideal.τ).loc Cert.Kernel6Ideal.main_v13_1) = v1 c
          ∧ r.2.mem ((c.tc : Thread Cert.Kernel6Ideal.nD Cert.Kernel6Ideal.τ).loc Cert.Kernel6Ideal.main_v13_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v61) = v0 c
          ∧ r.2.mem ((c.tc : Thread Cert.Reference6Ideal.nD Cert.Reference6Ideal.τ).loc Cert.Reference6Ideal.main_v60) = v1 c
          ∧ r.2.mem ((c.tc : Thread Cert.Reference6Ideal.nD Cert.Reference6Ideal.τ).loc Cert.Reference6Ideal.main_v63) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S33024x6144 : Shape := ⟨2, ![33024, 6144]⟩
abbrev S16x2064x128 : Shape := ⟨3, ![16, 2064, 128]⟩
abbrev S33024x4096 : Shape := ⟨2, ![33024, 4096]⟩
abbrev S_ : Shape := ⟨0, ![]⟩
abbrev S16x2064x16 : Shape := ⟨3, ![16, 2064, 16]⟩

class Facts : Prop where
  slices_S33024x6144_S33024x4096_0_0 : S33024x6144.Slices ![0, 0] S33024x4096
  bitsLt_bf16_f32 : FTy.bits .bf16 < FTy.bits .f32
  bcast_S_S33024x4096 : S_.BroadcastsInDim S33024x4096 (![] : Fin 0 → Fin S33024x4096.rank)
  slices_S16x2064x128_S16x2064x16_0_0_0 : S16x2064x128.Slices ![0, 0, 0] S16x2064x16
  bcast_S_S16x2064x16 : S_.BroadcastsInDim S16x2064x16 (![] : Fin 0 → Fin S16x2064x16.rank)

variable [Facts]

def fn {F : FTy → Type} [FloatOps F] (main_arg0 : FVec F S33024x6144 .bf16) (main_arg1 : FVec F S16x2064x128 .f32) : IVec S33024x4096 1 × IVec S16x2064x16 1 :=
  let main_v0 : FVec F S33024x4096 .bf16 := (extractStridedSlice S33024x4096 ![0, 0] · slices_S33024x6144_S33024x4096_0_0) main_arg0
  let main_v1 : FVec F S33024x4096 .f32 := (extf .f32 · bitsLt_bf16_f32) main_v0
  let main_v2 : FVec F S33024x4096 .f32 := Host.absf main_v1
  let main_cst : FVec F S_ .f32 := constant S_ .f32 0x7F800000#32
  let main_v3 : FVec F S33024x4096 .f32 := broadcastInDim S33024x4096 ![] bcast_S_S33024x4096 main_cst
  let main_v4 : IVec S33024x4096 1 := cmpf .olt main_v2 main_v3
  let main_v5 : FVec F S16x2064x16 .f32 := (extractStridedSlice S16x2064x16 ![0, 0, 0] · slices_S16x2064x128_S16x2064x16_0_0_0) main_arg1
  let main_v6 : FVec F S16x2064x16 .f32 := Host.absf main_v5
  let main_cst_0 : FVec F S_ .f32 := constant S_ .f32 0x7F800000#32
  let main_v7 : FVec F S16x2064x16 .f32 := broadcastInDim S16x2064x16 ![] bcast_S_S16x2064x16 main_cst_0
  let main_v8 : IVec S16x2064x16 1 := cmpf .olt main_v6 main_v7
  (main_v4, main_v8)
-- ==== Kernel.lean ====
abbrev S33024x6144 : Shape := ⟨2, ![33024, 6144]⟩
abbrev S16x2064x128 : Shape := ⟨3, ![16, 2064, 128]⟩
abbrev S16x2064x6144 : Shape := ⟨3, ![16, 2064, 6144]⟩
abbrev S16x2064x16 : Shape := ⟨3, ![16, 2064, 16]⟩
abbrev S16x16x2064 : Shape := ⟨3, ![16, 16, 2064]⟩
abbrev S_ : Shape := ⟨0, ![]⟩
abbrev S16x16x2176 : Shape := ⟨3, ![16, 16, 2176]⟩
abbrev S16x16x1x2176 : Shape := ⟨4, ![16, 16, 1, 2176]⟩
abbrev S16x2064x2048 : Shape := ⟨3, ![16, 2064, 2048]⟩
abbrev S1x2064x128 : Shape := ⟨3, ![1, 2064, 128]⟩
abbrev S1x1x1x2176 : Shape := ⟨4, ![1, 1, 1, 2176]⟩
abbrev S2176x128 : Shape := ⟨2, ![2176, 128]⟩
abbrev S2176x1 : Shape := ⟨2, ![2176, 1]⟩
abbrev S112x128 : Shape := ⟨2, ![112, 128]⟩
abbrev S112x1 : Shape := ⟨2, ![112, 1]⟩
abbrev S2064x128 : Shape := ⟨2, ![2064, 128]⟩
abbrev S2064 : Shape := ⟨1, ![2064]⟩
abbrev S2064x1 : Shape := ⟨2, ![2064, 1]⟩
abbrev S256x128 : Shape := ⟨2, ![256, 128]⟩
abbrev S256x256 : Shape := ⟨2, ![256, 256]⟩
abbrev S512x128 : Shape := ⟨2, ![512, 128]⟩
abbrev S256x512 : Shape := ⟨2, ![256, 512]⟩
abbrev S1x1x1x256 : Shape := ⟨4, ![1, 1, 1, 256]⟩
abbrev S1x256 : Shape := ⟨2, ![1, 256]⟩
abbrev S256 : Shape := ⟨1, ![256]⟩
abbrev S256x1 : Shape := ⟨2, ![256, 1]⟩
abbrev S1x256x128 : Shape := ⟨3, ![1, 256, 128]⟩
abbrev S768x128 : Shape := ⟨2, ![768, 128]⟩
abbrev S256x768 : Shape := ⟨2, ![256, 768]⟩
abbrev S1x1x1x512 : Shape := ⟨4, ![1, 1, 1, 512]⟩
abbrev S1x512 : Shape := ⟨2, ![1, 512]⟩
abbrev S1024x128 : Shape := ⟨2, ![1024, 128]⟩
abbrev S256x1024 : Shape := ⟨2, ![256, 1024]⟩
abbrev S1x1x1x768 : Shape := ⟨4, ![1, 1, 1, 768]⟩
abbrev S1x768 : Shape := ⟨2, ![1, 768]⟩
abbrev S1280x128 : Shape := ⟨2, ![1280, 128]⟩
abbrev S256x1280 : Shape := ⟨2, ![256, 1280]⟩
abbrev S1x1x1x1024 : Shape := ⟨4, ![1, 1, 1, 1024]⟩
abbrev S1x1024 : Shape := ⟨2, ![1, 1024]⟩
abbrev S1536x128 : Shape := ⟨2, ![1536, 128]⟩
abbrev S256x1536 : Shape := ⟨2, ![256, 1536]⟩
abbrev S1x1x1x1280 : Shape := ⟨4, ![1, 1, 1, 1280]⟩
abbrev S1x1280 : Shape := ⟨2, ![1, 1280]⟩
abbrev S1792x128 : Shape := ⟨2, ![1792, 128]⟩
abbrev S256x1792 : Shape := ⟨2, ![256, 1792]⟩
abbrev S1x1x1x1536 : Shape := ⟨4, ![1, 1, 1, 1536]⟩
abbrev S1x1536 : Shape := ⟨2, ![1, 1536]⟩
abbrev S2048x128 : Shape := ⟨2, ![2048, 128]⟩
abbrev S256x2048 : Shape := ⟨2, ![256, 2048]⟩
abbrev S1x1x1x1792 : Shape := ⟨4, ![1, 1, 1, 1792]⟩
abbrev S1x1792 : Shape := ⟨2, ![1, 1792]⟩
abbrev S128x128 : Shape := ⟨2, ![128, 128]⟩
abbrev S128x2176 : Shape := ⟨2, ![128, 2176]⟩
abbrev S1x1x1x2048 : Shape := ⟨4, ![1, 1, 1, 2048]⟩
abbrev S1x2048 : Shape := ⟨2, ![1, 2048]⟩
abbrev S1x2176 : Shape := ⟨2, ![1, 2176]⟩
abbrev S128 : Shape := ⟨1, ![128]⟩
abbrev S128x1 : Shape := ⟨2, ![128, 1]⟩
abbrev S128x2048 : Shape := ⟨2, ![128, 2048]⟩
abbrev S16x128 : Shape := ⟨2, ![16, 128]⟩
abbrev S1x16x128 : Shape := ⟨3, ![1, 16, 128]⟩

abbrev nBuf : Space → Nat
  | .hbm => 10
  | .vmem => 16
  | .smem => 0
  | _ => 0

abbrev bufTy : (tb : Table) → Fin (tcTables nBuf tb) → BufTy
  | .hbm, ⟨0, _⟩ => ⟨S33024x6144, .bf16⟩
  | .hbm, ⟨1, _⟩ => ⟨S16x2064x128, .f32⟩
  | .hbm, ⟨2, _⟩ => ⟨S16x2064x6144, .bf16⟩
  | .hbm, ⟨3, _⟩ => ⟨S16x2064x16, .f32⟩
  | .hbm, ⟨4, _⟩ => ⟨S16x16x2064, .f32⟩
  | .hbm, ⟨5, _⟩ => ⟨S_, .i32⟩
  | .hbm, ⟨6, _⟩ => ⟨S_, .f32⟩
  | .hbm, ⟨7, _⟩ => ⟨S16x16x2176, .f32⟩
  | .hbm, ⟨8, _⟩ => ⟨S16x16x1x2176, .f32⟩
  | .hbm, ⟨9, _⟩ => ⟨S16x2064x2048, .bf16⟩
  | .local _ .vmem, ⟨0, _⟩ => ⟨S1x2064x128, .bf16⟩
  | .local _ .vmem, ⟨1, _⟩ => ⟨S1x2064x128, .bf16⟩
  | .local _ .vmem, ⟨2, _⟩ => ⟨S1x2064x128, .bf16⟩
  | .local _ .vmem, ⟨3, _⟩ => ⟨S1x2064x128, .bf16⟩
  | .local _ .vmem, ⟨4, _⟩ => ⟨S1x2064x128, .bf16⟩
  | .local _ .vmem, ⟨5, _⟩ => ⟨S1x2064x128, .bf16⟩
  | .local _ .vmem, ⟨6, _⟩ => ⟨S1x2064x128, .f32⟩
  | .local _ .vmem, ⟨7, _⟩ => ⟨S1x2064x128, .f32⟩
  | .local _ .vmem, ⟨8, _⟩ => ⟨S1x1x1x2176, .f32⟩
  | .local _ .vmem, ⟨9, _⟩ => ⟨S1x1x1x2176, .f32⟩
  | .local _ .vmem, ⟨10, _⟩ => ⟨S1x2064x128, .bf16⟩
  | .local _ .vmem, ⟨11, _⟩ => ⟨S1x2064x128, .bf16⟩
  | .local _ .vmem, ⟨12, _⟩ => ⟨S2176x128, .bf16⟩
  | .local _ .vmem, ⟨13, _⟩ => ⟨S2176x128, .bf16⟩
  | .local _ .vmem, ⟨14, _⟩ => ⟨S2176x128, .bf16⟩
  | .local _ .vmem, ⟨15, _⟩ => ⟨S2176x1, .f32⟩
  | _, _ => ⟨S33024x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2064x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2064x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2064x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2064x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2064x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S33024x6144 : Shape := ⟨2, ![33024, 6144]⟩
abbrev S16x2064x128 : Shape := ⟨3, ![16, 2064, 128]⟩
abbrev S16x2064x6144 : Shape := ⟨3, ![16, 2064, 6144]⟩
abbrev S16x2064x2048 : Shape := ⟨3, ![16, 2064, 2048]⟩
abbrev S16x2064x16x128 : Shape := ⟨4, ![16, 2064, 16, 128]⟩
abbrev S16x2064x16 : Shape := ⟨3, ![16, 2064, 16]⟩
abbrev S16x16x2064 : Shape := ⟨3, ![16, 16, 2064]⟩
abbrev S16x16x2064x2064 : Shape := ⟨4, ![16, 16, 2064, 2064]⟩
abbrev S_ : Shape := ⟨0, ![]⟩
abbrev S16x16x2064x1 : Shape := ⟨4, ![16, 16, 2064, 1]⟩
abbrev S16x16x1x2064 : Shape := ⟨4, ![16, 16, 1, 2064]⟩
abbrev S2064 : Shape := ⟨1, ![2064]⟩
abbrev S2064x1 : Shape := ⟨2, ![2064, 1]⟩
abbrev S1x2064 : Shape := ⟨2, ![1, 2064]⟩
abbrev S2064x2064 : Shape := ⟨2, ![2064, 2064]⟩
abbrev S16x16x128x2064 : Shape := ⟨4, ![16, 16, 128, 2064]⟩

abbrev nBuf : Space → Nat
  | .hbm => 52
  | .vmem => 0
  | .smem => 0
  | _ => 0

abbrev bufTy : (tb : Table) → Fin (tcTables nBuf tb) → BufTy
  | .hbm, ⟨0, _⟩ => ⟨S33024x6144, .bf16⟩
  | .hbm, ⟨1, _⟩ => ⟨S16x2064x128, .f32⟩
  | .hbm, ⟨2, _⟩ => ⟨S16x2064x6144, .bf16⟩
  | .hbm, ⟨3, _⟩ => ⟨S16x2064x6144, .f32⟩
  | .hbm, ⟨4, _⟩ => ⟨S16x2064x2048, .f32⟩
  | .hbm, ⟨5, _⟩ => ⟨S16x2064x16x128, .f32⟩
  | .hbm, ⟨6, _⟩ => ⟨S16x2064x2048, .f32⟩
  | .hbm, ⟨7, _⟩ => ⟨S16x2064x16x128, .f32⟩
  | .hbm, ⟨8, _⟩ => ⟨S16x2064x2048, .f32⟩
  | .hbm, ⟨9, _⟩ => ⟨S16x2064x16x128, .f32⟩
  | .hbm, ⟨10, _⟩ => ⟨S16x2064x16, .f32⟩
  | .hbm, ⟨11, _⟩ => ⟨S16x16x2064, .f32⟩
  | .hbm, ⟨12, _⟩ => ⟨S16x16x2064x2064, .f32⟩
  | .hbm, ⟨13, _⟩ => ⟨S_, .f32⟩
  | .hbm, ⟨14, _⟩ => ⟨S_, .f32⟩
  | .hbm, ⟨15, _⟩ => ⟨S16x16x2064x2064, .f32⟩
  | .hbm, ⟨16, _⟩ => ⟨S16x16x2064x2064, .f32⟩
  | .hbm, ⟨17, _⟩ => ⟨S16x16x2064x1, .f32⟩
  | .hbm, ⟨18, _⟩ => ⟨S16x16x2064x2064, .f32⟩
  | .hbm, ⟨19, _⟩ => ⟨S16x16x2064x2064, .f32⟩
  | .hbm, ⟨20, _⟩ => ⟨S16x16x1x2064, .f32⟩
  | .hbm, ⟨21, _⟩ => ⟨S16x16x2064x2064, .f32⟩
  | .hbm, ⟨22, _⟩ => ⟨S16x16x2064x2064, .f32⟩
  | .hbm, ⟨23, _⟩ => ⟨S2064, .i32⟩
  | .hbm, ⟨24, _⟩ => ⟨S2064x1, .i32⟩
  | .hbm, ⟨25, _⟩ => ⟨S1x2064, .i32⟩
  | .hbm, ⟨26, _⟩ => ⟨S2064x2064, .i32⟩
  | .hbm, ⟨27, _⟩ => ⟨S2064x2064, .i32⟩
  | .hbm, ⟨28, _⟩ => ⟨S2064x2064, .i1⟩
  | .hbm, ⟨29, _⟩ => ⟨S_, .f32⟩
  | .hbm, ⟨30, _⟩ => ⟨S_, .f32⟩
  | .hbm, ⟨31, _⟩ => ⟨S16x16x2064x2064, .i1⟩
  | .hbm, ⟨32, _⟩ => ⟨S16x16x2064x2064, .f32⟩
  | .hbm, ⟨33, _⟩ => ⟨S16x16x2064x2064, .f32⟩
  | .hbm, ⟨34, _⟩ => ⟨S_, .f32⟩
  | .hbm, ⟨35, _⟩ => ⟨S16x16x2064, .f32⟩
  | .hbm, ⟨36, _⟩ => ⟨S_, .f32⟩
  | .hbm, ⟨37, _⟩ => ⟨S16x16x2064, .f32⟩
  | .hbm, ⟨38, _⟩ => ⟨S16x16x2064, .f32⟩
  | .hbm, ⟨39, _⟩ => ⟨S16x16x2064x1, .f32⟩
  | .hbm, ⟨40, _⟩ => ⟨S16x16x2064x2064, .f32⟩
  | .hbm, ⟨41, _⟩ => ⟨S16x16x2064x2064, .f32⟩
  | .hbm, ⟨42, _⟩ => ⟨S16x16x2064x2064, .f32⟩
  | .hbm, ⟨43, _⟩ => ⟨S_, .f32⟩
  | .hbm, ⟨44, _⟩ => ⟨S16x16x2064, .f32⟩
  | .hbm, ⟨45, _⟩ => ⟨S16x16x2064x1, .f32⟩
  | .hbm, ⟨46, _⟩ => ⟨S16x16x2064x2064, .f32⟩
  | .hbm, ⟨47, _⟩ => ⟨S16x16x2064x2064, .f32⟩
  | .hbm, ⟨48, _⟩ => ⟨S16x16x128x2064, .f32⟩
  | .hbm, ⟨49, _⟩ => ⟨S16x2064x16x128, .f32⟩
  | .hbm, ⟨50, _⟩ => ⟨S16x2064x2048, .f32⟩
  | .hbm, ⟨51, _⟩ => ⟨S16x2064x2048, .bf16⟩
  | _, _ => ⟨S33024x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Kernel2.lean ====
abbrev S33024x2048 : Shape := ⟨2, ![33024, 2048]⟩
abbrev S2048 : Shape := ⟨1, ![2048]⟩
abbrev S4x2x2048x11264 : Shape := ⟨4, ![4, 2, 2048, 11264]⟩
abbrev S4x2x5632x2048 : Shape := ⟨4, ![4, 2, 5632, 2048]⟩
abbrev S1x2048 : Shape := ⟨2, ![1, 2048]⟩
abbrev S768x2048 : Shape := ⟨2, ![768, 2048]⟩
abbrev S1x1x2048x512 : Shape := ⟨4, ![1, 1, 2048, 512]⟩
abbrev S1x1x512x2048 : Shape := ⟨4, ![1, 1, 512, 2048]⟩
abbrev S768 : Shape := ⟨1, ![768]⟩
abbrev S768x1 : Shape := ⟨2, ![768, 1]⟩
abbrev S2048x512 : Shape := ⟨2, ![2048, 512]⟩
abbrev S768x512 : Shape := ⟨2, ![768, 512]⟩
abbrev S512x2048 : Shape := ⟨2, ![512, 2048]⟩

abbrev nBuf : Space → Nat
  | .hbm => 10
  | .vmem => 13
  | .smem => 0
  | _ => 0

abbrev bufTy : (tb : Table) → Fin (tcTables nBuf tb) → BufTy
  | .hbm, ⟨0, _⟩ => ⟨S33024x2048, .f32⟩
  | .hbm, ⟨1, _⟩ => ⟨S2048, .f32⟩
  | .hbm, ⟨2, _⟩ => ⟨S4x2x2048x11264, .f32⟩
  | .hbm, ⟨3, _⟩ => ⟨S4x2x5632x2048, .f32⟩
  | .hbm, ⟨4, _⟩ => ⟨S2048, .f32⟩
  | .hbm, ⟨5, _⟩ => ⟨S4x2x2048x11264, .bf16⟩
  | .hbm, ⟨6, _⟩ => ⟨S4x2x5632x2048, .bf16⟩
  | .hbm, ⟨7, _⟩ => ⟨S1x2048, .f32⟩
  | .hbm, ⟨8, _⟩ => ⟨S1x2048, .f32⟩
  | .hbm, ⟨9, _⟩ => ⟨S33024x2048, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x512x2048, .bf16⟩
  | .local _ .vmem, ⟨8, _⟩ => ⟨S1x1x512x2048, .bf16⟩
  | .local _ .vmem, ⟨9, _⟩ => ⟨S1x2048, .f32⟩
  | .local _ .vmem, ⟨10, _⟩ => ⟨S768x2048, .f32⟩
  | .local _ .vmem, ⟨11, _⟩ => ⟨S768x2048, .f32⟩
  | .local _ .vmem, ⟨12, _⟩ => ⟨S768x2048, .bf16⟩
  | _, _ => ⟨S33024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![43, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_3 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S768x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S33024x2048 : Shape := ⟨2, ![33024, 2048]⟩
abbrev S2048 : Shape := ⟨1, ![2048]⟩
abbrev S4x2x2048x11264 : Shape := ⟨4, ![4, 2, 2048, 11264]⟩
abbrev S4x2x5632x2048 : Shape := ⟨4, ![4, 2, 5632, 2048]⟩
abbrev S_ : Shape := ⟨0, ![]⟩
abbrev S33024 : Shape := ⟨1, ![33024]⟩
abbrev S33024x1 : Shape := ⟨2, ![33024, 1]⟩
abbrev S1x2048 : Shape := ⟨2, ![1, 2048]⟩
abbrev S1x1x2048x11264 : Shape := ⟨4, ![1, 1, 2048, 11264]⟩
abbrev S2048x11264 : Shape := ⟨2, ![2048, 11264]⟩
abbrev S1x1x5632x2048 : Shape := ⟨4, ![1, 1, 5632, 2048]⟩
abbrev S5632x2048 : Shape := ⟨2, ![5632, 2048]⟩
abbrev S33024x11264 : Shape := ⟨2, ![33024, 11264]⟩
abbrev S33024x5632 : Shape := ⟨2, ![33024, 5632]⟩

abbrev nBuf : Space → Nat
  | .hbm => 59
  | .vmem => 0
  | .smem => 0
  | _ => 0

abbrev bufTy : (tb : Table) → Fin (tcTables nBuf tb) → BufTy
  | .hbm, ⟨0, _⟩ => ⟨S33024x2048, .f32⟩
  | .hbm, ⟨1, _⟩ => ⟨S2048, .f32⟩
  | .hbm, ⟨2, _⟩ => ⟨S4x2x2048x11264, .f32⟩
  | .hbm, ⟨3, _⟩ => ⟨S4x2x5632x2048, .f32⟩
  | .hbm, ⟨4, _⟩ => ⟨S2048, .f32⟩
  | .hbm, ⟨5, _⟩ => ⟨S33024x2048, .f32⟩
  | .hbm, ⟨6, _⟩ => ⟨S_, .f32⟩
  | .hbm, ⟨7, _⟩ => ⟨S33024, .f32⟩
  | .hbm, ⟨8, _⟩ => ⟨S33024x1, .f32⟩
  | .hbm, ⟨9, _⟩ => ⟨S_, .f32⟩
  | .hbm, ⟨10, _⟩ => ⟨S33024x1, .f32⟩
  | .hbm, ⟨11, _⟩ => ⟨S33024x1, .f32⟩
  | .hbm, ⟨12, _⟩ => ⟨S_, .f32⟩
  | .hbm, ⟨13, _⟩ => ⟨S33024x1, .f32⟩
  | .hbm, ⟨14, _⟩ => ⟨S33024x1, .f32⟩
  | .hbm, ⟨15, _⟩ => ⟨S33024x1, .f32⟩
  | .hbm, ⟨16, _⟩ => ⟨S33024x2048, .f32⟩
  | .hbm, ⟨17, _⟩ => ⟨S33024x2048, .f32⟩
  | .hbm, ⟨18, _⟩ => ⟨S1x2048, .f32⟩
  | .hbm, ⟨19, _⟩ => ⟨S33024x2048, .f32⟩
  | .hbm, ⟨20, _⟩ => ⟨S33024x2048, .f32⟩
  | .hbm, ⟨21, _⟩ => ⟨S1x1x2048x11264, .f32⟩
  | .hbm, ⟨22, _⟩ => ⟨S2048x11264, .f32⟩
  | .hbm, ⟨23, _⟩ => ⟨S1x1x5632x2048, .f32⟩
  | .hbm, ⟨24, _⟩ => ⟨S5632x2048, .f32⟩
  | .hbm, ⟨25, _⟩ => ⟨S33024x11264, .f32⟩
  | .hbm, ⟨26, _⟩ => ⟨S33024x5632, .f32⟩
  | .hbm, ⟨27, _⟩ => ⟨S33024x5632, .f32⟩
  | .hbm, ⟨28, _⟩ => ⟨S33024x5632, .f32⟩
  | .hbm, ⟨29, _⟩ => ⟨S_, .f32⟩
  | .hbm, ⟨30, _⟩ => ⟨S33024x5632, .f32⟩
  | .hbm, ⟨31, _⟩ => ⟨S33024x5632, .f32⟩
  | .hbm, ⟨32, _⟩ => ⟨S_, .f32⟩
  | .hbm, ⟨33, _⟩ => ⟨S33024x5632, .f32⟩
  | .hbm, ⟨34, _⟩ => ⟨S33024x5632, .f32⟩
  | .hbm, ⟨35, _⟩ => ⟨S33024x5632, .f32⟩
  | .hbm, ⟨36, _⟩ => ⟨S33024x5632, .f32⟩
  | .hbm, ⟨37, _⟩ => ⟨S33024x5632, .f32⟩
  | .hbm, ⟨38, _⟩ => ⟨S33024x2048, .f32⟩
  | .hbm, ⟨39, _⟩ => ⟨S33024x2048, .f32⟩
  | .hbm, ⟨40, _⟩ => ⟨S_, .f32⟩
  | .hbm, ⟨41, _⟩ => ⟨S33024, .f32⟩
  | .hbm, ⟨42, _⟩ => ⟨S33024x1, .f32⟩
  | .hbm, ⟨43, _⟩ => ⟨S_, .f32⟩
  | .hbm, ⟨44, _⟩ => ⟨S33024x1, .f32⟩
  | .hbm, ⟨45, _⟩ => ⟨S33024x1, .f32⟩
  | .hbm, ⟨46, _⟩ => ⟨S_, .f32⟩
  | .hbm, ⟨47, _⟩ => ⟨S33024x1, .f32⟩
  | .hbm, ⟨48, _⟩ => ⟨S33024x1, .f32⟩
  | .hbm, ⟨49, _⟩ => ⟨S33024x1, .f32⟩
  | .hbm, ⟨50, _⟩ => ⟨S33024x2048, .f32⟩
  | .hbm, ⟨51, _⟩ => ⟨S33024x2048, .f32⟩
  | .hbm, ⟨52, _⟩ => ⟨S1x2048, .f32⟩
  | .hbm, ⟨53, _⟩ => ⟨S33024x2048, .f32⟩
  | .hbm, ⟨54, _⟩ => ⟨S33024x2048, .f32⟩
  | .hbm, ⟨55, _⟩ => ⟨S_, .f32⟩
  | .hbm, ⟨56, _⟩ => ⟨S33024x2048, .f32⟩
  | .hbm, ⟨57, _⟩ => ⟨S33024x2048, .f32⟩
  | .hbm, ⟨58, _⟩ => ⟨S33024x2048, .f32⟩
  | _, _ => ⟨S33024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Kernel3.lean ====
abbrev S33024x2048 : Shape := ⟨2, ![33024, 2048]⟩
abbrev S2x2048x2048 : Shape := ⟨3, ![2, 2048, 2048]⟩
abbrev S2048 : Shape := ⟨1, ![2048]⟩
abbrev S1x2048 : Shape := ⟨2, ![1, 2048]⟩
abbrev S384x2048 : Shape := ⟨2, ![384, 2048]⟩
abbrev S1x2048x2048 : Shape := ⟨3, ![1, 2048, 2048]⟩
abbrev S2048x2048 : Shape := ⟨2, ![2048, 2048]⟩
abbrev S384 : Shape := ⟨1, ![384]⟩
abbrev S384x1 : Shape := ⟨2, ![384, 1]⟩

abbrev nBuf : Space → Nat
  | .hbm => 8
  | .vmem => 10
  | .smem => 0
  | _ => 0

abbrev bufTy : (tb : Table) → Fin (tcTables nBuf tb) → BufTy
  | .hbm, ⟨0, _⟩ => ⟨S33024x2048, .f32⟩
  | .hbm, ⟨1, _⟩ => ⟨S33024x2048, .bf16⟩
  | .hbm, ⟨2, _⟩ => ⟨S33024x2048, .f32⟩
  | .hbm, ⟨3, _⟩ => ⟨S2x2048x2048, .f32⟩
  | .hbm, ⟨4, _⟩ => ⟨S2048, .f32⟩
  | .hbm, ⟨5, _⟩ => ⟨S2x2048x2048, .bf16⟩
  | .hbm, ⟨6, _⟩ => ⟨S1x2048, .f32⟩
  | .hbm, ⟨7, _⟩ => ⟨S33024x2048, .f32⟩
  | .local _ .vmem, ⟨0, _⟩ => ⟨S384x2048, .f32⟩
  | .local _ .vmem, ⟨1, _⟩ => ⟨S384x2048, .f32⟩
  | .local _ .vmem, ⟨2, _⟩ => ⟨S384x2048, .bf16⟩
  | .local _ .vmem, ⟨3, _⟩ => ⟨S384x2048, .bf16⟩
  | .local _ .vmem, ⟨4, _⟩ => ⟨S384x2048, .f32⟩
  | .local _ .vmem, ⟨5, _⟩ => ⟨S384x2048, .f32⟩
  | .local _ .vmem, ⟨6, _⟩ => ⟨S1x2048x2048, .bf16⟩
  | .local _ .vmem, ⟨7, _⟩ => ⟨S1x2048, .f32⟩
  | .local _ .vmem, ⟨8, _⟩ => ⟨S384x2048, .f32⟩
  | .local _ .vmem, ⟨9, _⟩ => ⟨S384x2048, .f32⟩
  | _, _ => ⟨S33024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![86], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S33024x2048 : Shape := ⟨2, ![33024, 2048]⟩
abbrev S2x2048x2048 : Shape := ⟨3, ![2, 2048, 2048]⟩
abbrev S2048 : Shape := ⟨1, ![2048]⟩
abbrev S_ : Shape := ⟨0, ![]⟩
abbrev S1x2048x2048 : Shape := ⟨3, ![1, 2048, 2048]⟩
abbrev S2048x2048 : Shape := ⟨2, ![2048, 2048]⟩
abbrev S33024 : Shape := ⟨1, ![33024]⟩
abbrev S33024x1 : Shape := ⟨2, ![33024, 1]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S33024x2048, .f32⟩
  | .hbm, ⟨1, _⟩ => ⟨S33024x2048, .bf16⟩
  | .hbm, ⟨2, _⟩ => ⟨S33024x2048, .f32⟩
  | .hbm, ⟨3, _⟩ => ⟨S2x2048x2048, .f32⟩
  | .hbm, ⟨4, _⟩ => ⟨S2048, .f32⟩
  | .hbm, ⟨5, _⟩ => ⟨S33024x2048, .f32⟩
  | .hbm, ⟨6, _⟩ => ⟨S33024x2048, .f32⟩
  | .hbm, ⟨7, _⟩ => ⟨S33024x2048, .f32⟩
  | .hbm, ⟨8, _⟩ => ⟨S_, .f32⟩
  | .hbm, ⟨9, _⟩ => ⟨S33024x2048, .f32⟩
  | .hbm, ⟨10, _⟩ => ⟨S33024x2048, .f32⟩
  | .hbm, ⟨11, _⟩ => ⟨S_, .f32⟩
  | .hbm, ⟨12, _⟩ => ⟨S33024x2048, .f32⟩
  | .hbm, ⟨13, _⟩ => ⟨S33024x2048, .f32⟩
  | .hbm, ⟨14, _⟩ => ⟨S33024x2048, .f32⟩
  | .hbm, ⟨15, _⟩ => ⟨S1x2048x2048, .f32⟩
  | .hbm, ⟨16, _⟩ => ⟨S2048x2048, .f32⟩
  | .hbm, ⟨17, _⟩ => ⟨S33024x2048, .f32⟩
  | .hbm, ⟨18, _⟩ => ⟨S33024x2048, .f32⟩
  | .hbm, ⟨19, _⟩ => ⟨S_, .f32⟩
  | .hbm, ⟨20, _⟩ => ⟨S33024, .f32⟩
  | .hbm, ⟨21, _⟩ => ⟨S33024x1, .f32⟩
  | .hbm, ⟨22, _⟩ => ⟨S_, .f32⟩
  | .hbm, ⟨23, _⟩ => ⟨S33024x1, .f32⟩
  | .hbm, ⟨24, _⟩ => ⟨S33024x1, .f32⟩
  | .hbm, ⟨25, _⟩ => ⟨S_, .f32⟩
  | .hbm, ⟨26, _⟩ => ⟨S33024x1, .f32⟩
  | .hbm, ⟨27, _⟩ => ⟨S33024x1, .f32⟩
  | .hbm, ⟨28, _⟩ => ⟨S33024x1, .f32⟩
  | .hbm, ⟨29, _⟩ => ⟨S33024x2048, .f32⟩
  | .hbm, ⟨30, _⟩ => ⟨S33024x2048, .f32⟩
  | .hbm, ⟨31, _⟩ => ⟨S1x2048, .f32⟩
  | .hbm, ⟨32, _⟩ => ⟨S33024x2048, .f32⟩
  | .hbm, ⟨33, _⟩ => ⟨S33024x2048, .f32⟩
  | .hbm, ⟨34, _⟩ => ⟨S33024x2048, .f32⟩
  | _, _ => ⟨S33024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel4.lean ====
abbrev S33024x2048 : Shape := ⟨2, ![33024, 2048]⟩
abbrev S33024x1024 : Shape := ⟨2, ![33024, 1024]⟩
abbrev S2064x16384 : Shape := ⟨2, ![2064, 16384]⟩
abbrev S2x2048x2048 : Shape := ⟨3, ![2, 2048, 2048]⟩
abbrev S2048 : Shape := ⟨1, ![2048]⟩
abbrev S1x2048 : Shape := ⟨2, ![1, 2048]⟩
abbrev S688x2048 : Shape := ⟨2, ![688, 2048]⟩
abbrev S688x1024 : Shape := ⟨2, ![688, 1024]⟩
abbrev S1x1024x2048 : Shape := ⟨3, ![1, 1024, 2048]⟩
abbrev S1024x2048 : Shape := ⟨2, ![1024, 2048]⟩
abbrev S688 : Shape := ⟨1, ![688]⟩
abbrev S688x1 : Shape := ⟨2, ![688, 1]⟩

abbrev nBuf : Space → Nat
  | .hbm => 9
  | .vmem => 13
  | .smem => 0
  | _ => 0

abbrev bufTy : (tb : Table) → Fin (tcTables nBuf tb) → BufTy
  | .hbm, ⟨0, _⟩ => ⟨S33024x2048, .f32⟩
  | .hbm, ⟨1, _⟩ => ⟨S33024x1024, .bf16⟩
  | .hbm, ⟨2, _⟩ => ⟨S2064x16384, .bf16⟩
  | .hbm, ⟨3, _⟩ => ⟨S33024x1024, .f32⟩
  | .hbm, ⟨4, _⟩ => ⟨S2x2048x2048, .f32⟩
  | .hbm, ⟨5, _⟩ => ⟨S2048, .f32⟩
  | .hbm, ⟨6, _⟩ => ⟨S2x2048x2048, .bf16⟩
  | .hbm, ⟨7, _⟩ => ⟨S1x2048, .f32⟩
  | .hbm, ⟨8, _⟩ => ⟨S33024x2048, .f32⟩
  | .local _ .vmem, ⟨0, _⟩ => ⟨S688x2048, .f32⟩
  | .local _ .vmem, ⟨1, _⟩ => ⟨S688x2048, .f32⟩
  | .local _ .vmem, ⟨2, _⟩ => ⟨S688x1024, .bf16⟩
  | .local _ .vmem, ⟨3, _⟩ => ⟨S688x1024, .bf16⟩
  | .local _ .vmem, ⟨4, _⟩ => ⟨S688x1024, .bf16⟩
  | .local _ .vmem, ⟨5, _⟩ => ⟨S688x1024, .bf16⟩
  | .local _ .vmem, ⟨6, _⟩ => ⟨S688x1024, .f32⟩
  | .local _ .vmem, ⟨7, _⟩ => ⟨S688x1024, .f32⟩
  | .local _ .vmem, ⟨8, _⟩ => ⟨S1x1024x2048, .bf16⟩
  | .local _ .vmem, ⟨9, _⟩ => ⟨S1x1024x2048, .bf16⟩
  | .local _ .vmem, ⟨10, _⟩ => ⟨S1x2048, .f32⟩
  | .local _ .vmem, ⟨11, _⟩ => ⟨S688x2048, .f32⟩
  | .local _ .vmem, ⟨12, _⟩ => ⟨S688x2048, .f32⟩
  | _, _ => ⟨S33024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S688x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S33024x2048 : Shape := ⟨2, ![33024, 2048]⟩
abbrev S33024x1024 : Shape := ⟨2, ![33024, 1024]⟩
abbrev S2064x16384 : Shape := ⟨2, ![2064, 16384]⟩
abbrev S2x2048x2048 : Shape := ⟨3, ![2, 2048, 2048]⟩
abbrev S2048 : Shape := ⟨1, ![2048]⟩
abbrev S2064x16x1024 : Shape := ⟨3, ![2064, 16, 1024]⟩
abbrev S16x2064x1024 : Shape := ⟨3, ![16, 2064, 1024]⟩
abbrev S1x2048x2048 : Shape := ⟨3, ![1, 2048, 2048]⟩
abbrev S2048x2048 : Shape := ⟨2, ![2048, 2048]⟩
abbrev S_ : Shape := ⟨0, ![]⟩
abbrev S33024 : Shape := ⟨1, ![33024]⟩
abbrev S33024x1 : Shape := ⟨2, ![33024, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S33024x2048, .f32⟩
  | .hbm, ⟨1, _⟩ => ⟨S33024x1024, .bf16⟩
  | .hbm, ⟨2, _⟩ => ⟨S2064x16384, .bf16⟩
  | .hbm, ⟨3, _⟩ => ⟨S33024x1024, .f32⟩
  | .hbm, ⟨4, _⟩ => ⟨S2x2048x2048, .f32⟩
  | .hbm, ⟨5, _⟩ => ⟨S2048, .f32⟩
  | .hbm, ⟨6, _⟩ => ⟨S2064x16384, .f32⟩
  | .hbm, ⟨7, _⟩ => ⟨S2064x16x1024, .f32⟩
  | .hbm, ⟨8, _⟩ => ⟨S16x2064x1024, .f32⟩
  | .hbm, ⟨9, _⟩ => ⟨S33024x1024, .f32⟩
  | .hbm, ⟨10, _⟩ => ⟨S33024x1024, .f32⟩
  | .hbm, ⟨11, _⟩ => ⟨S33024x1024, .f32⟩
  | .hbm, ⟨12, _⟩ => ⟨S33024x2048, .f32⟩
  | .hbm, ⟨13, _⟩ => ⟨S1x2048x2048, .f32⟩
  | .hbm, ⟨14, _⟩ => ⟨S2048x2048, .f32⟩
  | .hbm, ⟨15, _⟩ => ⟨S33024x2048, .f32⟩
  | .hbm, ⟨16, _⟩ => ⟨S33024x2048, .f32⟩
  | .hbm, ⟨17, _⟩ => ⟨S_, .f32⟩
  | .hbm, ⟨18, _⟩ => ⟨S33024, .f32⟩
  | .hbm, ⟨19, _⟩ => ⟨S33024x1, .f32⟩
  | .hbm, ⟨20, _⟩ => ⟨S_, .f32⟩
  | .hbm, ⟨21, _⟩ => ⟨S33024x1, .f32⟩
  | .hbm, ⟨22, _⟩ => ⟨S33024x1, .f32⟩
  | .hbm, ⟨23, _⟩ => ⟨S_, .f32⟩
  | .hbm, ⟨24, _⟩ => ⟨S33024x1, .f32⟩
  | .hbm, ⟨25, _⟩ => ⟨S33024x1, .f32⟩
  | .hbm, ⟨26, _⟩ => ⟨S33024x1, .f32⟩
  | .hbm, ⟨27, _⟩ => ⟨S33024x2048, .f32⟩
  | .hbm, ⟨28, _⟩ => ⟨S33024x2048, .f32⟩
  | .hbm, ⟨29, _⟩ => ⟨S1x2048, .f32⟩
  | .hbm, ⟨30, _⟩ => ⟨S33024x2048, .f32⟩
  | .hbm, ⟨31, _⟩ => ⟨S33024x2048, .f32⟩
  | .hbm, ⟨32, _⟩ => ⟨S33024x2048, .f32⟩
  | _, _ => ⟨S33024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel5.lean ====
abbrev S33024x2048 : Shape := ⟨2, ![33024, 2048]⟩
abbrev S2048 : Shape := ⟨1, ![2048]⟩
abbrev S2x2048x8208 : Shape := ⟨3, ![2, 2048, 8208]⟩
abbrev S128 : Shape := ⟨1, ![128]⟩
abbrev S1x2048x8208 : Shape := ⟨3, ![1, 2048, 8208]⟩
abbrev S2048x8208 : Shape := ⟨2, ![2048, 8208]⟩
abbrev S2048x16 : Shape := ⟨2, ![2048, 16]⟩
abbrev S_ : Shape := ⟨0, ![]⟩
abbrev S2048x128 : Shape := ⟨2, ![2048, 128]⟩
abbrev S1x2048 : Shape := ⟨2, ![1, 2048]⟩
abbrev S1x128 : Shape := ⟨2, ![1, 128]⟩
abbrev S33024x6144 : Shape := ⟨2, ![33024, 6144]⟩
abbrev S33024x128 : Shape := ⟨2, ![33024, 128]⟩
abbrev S768x2048 : Shape := ⟨2, ![768, 2048]⟩
abbrev S1x2048x1024 : Shape := ⟨3, ![1, 2048, 1024]⟩
abbrev S768x1024 : Shape := ⟨2, ![768, 1024]⟩
abbrev S768x128 : Shape := ⟨2, ![768, 128]⟩
abbrev S768 : Shape := ⟨1, ![768]⟩
abbrev S768x1 : Shape := ⟨2, ![768, 1]⟩
abbrev S2048x1024 : Shape := ⟨2, ![2048, 1024]⟩

abbrev nBuf : Space → Nat
  | .hbm => 19
  | .vmem => 15
  | .smem => 0
  | _ => 0

abbrev bufTy : (tb : Table) → Fin (tcTables nBuf tb) → BufTy
  | .hbm, ⟨0, _⟩ => ⟨S33024x2048, .f32⟩
  | .hbm, ⟨1, _⟩ => ⟨S2048, .f32⟩
  | .hbm, ⟨2, _⟩ => ⟨S2x2048x8208, .f32⟩
  | .hbm, ⟨3, _⟩ => ⟨S128, .f32⟩
  | .hbm, ⟨4, _⟩ => ⟨S128, .f32⟩
  | .hbm, ⟨5, _⟩ => ⟨S2x2048x8208, .bf16⟩
  | .hbm, ⟨6, _⟩ => ⟨S1x2048x8208, .f32⟩
  | .hbm, ⟨7, _⟩ => ⟨S2048x8208, .f32⟩
  | .hbm, ⟨8, _⟩ => ⟨S2048x16, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S1x2048, .f32⟩
  | .hbm, ⟨14, _⟩ => ⟨S1x128, .f32⟩
  | .hbm, ⟨15, _⟩ => ⟨S1x128, .f32⟩
  | .hbm, ⟨16, _⟩ => ⟨S33024x6144, .bf16⟩
  | .hbm, ⟨17, _⟩ => ⟨S33024x2048, .f32⟩
  | .hbm, ⟨18, _⟩ => ⟨S33024x128, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S2048x128, .bf16⟩
  | .local _ .vmem, ⟨6, _⟩ => ⟨S1x128, .f32⟩
  | .local _ .vmem, ⟨7, _⟩ => ⟨S1x128, .f32⟩
  | .local _ .vmem, ⟨8, _⟩ => ⟨S768x1024, .bf16⟩
  | .local _ .vmem, ⟨9, _⟩ => ⟨S768x1024, .bf16⟩
  | .local _ .vmem, ⟨10, _⟩ => ⟨S768x1024, .f32⟩
  | .local _ .vmem, ⟨11, _⟩ => ⟨S768x1024, .f32⟩
  | .local _ .vmem, ⟨12, _⟩ => ⟨S768x128, .f32⟩
  | .local _ .vmem, ⟨13, _⟩ => ⟨S768x128, .f32⟩
  | .local _ .vmem, ⟨14, _⟩ => ⟨S768x2048, .bf16⟩
  | _, _ => ⟨S33024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![43, 8], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32_2 : BitVec 32 := 2#32
  let v6 : BitVec 1 := Scalar.cmpi .sge arg1 c2_i32_2
  let c4_i32 : BitVec 32 := 4#32
  let v7 : BitVec 1 := Scalar.cmpi .slt arg1 c4_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond4 (i : grid0.Coords) : BitVec 1 :=
  let arg1 : BitVec 32 := BitVec.ofNat 32 (i 1).val
  let c4_i32_4 : BitVec 32 := 4#32
  let v11 : BitVec 1 := Scalar.cmpi .sge arg1 c4_i32_4
  let c6_i32 : BitVec 32 := 6#32
  let v12 : BitVec 1 := Scalar.cmpi .slt arg1 c6_i32
  let v13 : BitVec 1 := Scalar.andi v11 v12
  let v14 : BitVec 32 := Scalar.extui v13
  let c0_i32_5 : BitVec 32 := 0#32
  let v15 : BitVec 1 := Scalar.cmpi .ne v14 c0_i32_5
  v15

def k0_cond5 (i : grid0.Coords) : BitVec 1 :=
  let arg1 : BitVec 32 := BitVec.ofNat 32 (i 1).val
  let c6_i32_6 : BitVec 32 := 6#32
  let v16 : BitVec 1 := Scalar.cmpi .sge arg1 c6_i32_6
  let v17 : BitVec 32 := Scalar.extui v16
  let c0_i32_7 : BitVec 32 := 0#32
  let v18 : BitVec 1 := Scalar.cmpi .ne v17 c0_i32_7
  v18

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  ![arg0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S768x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Kernel5Ideal.lean ====
variable {F : FTy → Type} [FloatOps F] [Named F]
def κ : String → Option EReal := fun
  | "qscale" => some (((Real.sqrt 128)⁻¹ * (Real.log 2)⁻¹ : ℝ) : EReal)
  | _ => none
-- ==== Reference5Ideal.lean ====
abbrev S33024x2048 : Shape := ⟨2, ![33024, 2048]⟩
abbrev S2048 : Shape := ⟨1, ![2048]⟩
abbrev S2x2048x8208 : Shape := ⟨3, ![2, 2048, 8208]⟩
abbrev S128 : Shape := ⟨1, ![128]⟩
abbrev S_ : Shape := ⟨0, ![]⟩
abbrev S33024 : Shape := ⟨1, ![33024]⟩
abbrev S33024x1 : Shape := ⟨2, ![33024, 1]⟩
abbrev S1x2048 : Shape := ⟨2, ![1, 2048]⟩
abbrev S1x2048x8208 : Shape := ⟨3, ![1, 2048, 8208]⟩
abbrev S2048x8208 : Shape := ⟨2, ![2048, 8208]⟩
abbrev S33024x8208 : Shape := ⟨2, ![33024, 8208]⟩
abbrev S33024x16x128 : Shape := ⟨3, ![33024, 16, 128]⟩
abbrev S33024x16 : Shape := ⟨2, ![33024, 16]⟩
abbrev S33024x16x1 : Shape := ⟨3, ![33024, 16, 1]⟩
abbrev S1x1x128 : Shape := ⟨3, ![1, 1, 128]⟩
abbrev S33024x6144 : Shape := ⟨2, ![33024, 6144]⟩
abbrev S33024x128 : Shape := ⟨2, ![33024, 128]⟩

abbrev nBuf : Space → Nat
  | .hbm => 78
  | .vmem => 0
  | .smem => 0
  | _ => 0

abbrev bufTy : (tb : Table) → Fin (tcTables nBuf tb) → BufTy
  | .hbm, ⟨0, _⟩ => ⟨S33024x2048, .f32⟩
  | .hbm, ⟨1, _⟩ => ⟨S2048, .f32⟩
  | .hbm, ⟨2, _⟩ => ⟨S2x2048x8208, .f32⟩
  | .hbm, ⟨3, _⟩ => ⟨S128, .f32⟩
  | .hbm, ⟨4, _⟩ => ⟨S128, .f32⟩
  | .hbm, ⟨5, _⟩ => ⟨S33024x2048, .f32⟩
  | .hbm, ⟨6, _⟩ => ⟨S_, .f32⟩
  | .hbm, ⟨7, _⟩ => ⟨S33024, .f32⟩
  | .hbm, ⟨8, _⟩ => ⟨S33024x1, .f32⟩
  | .hbm, ⟨9, _⟩ => ⟨S_, .f32⟩
  | .hbm, ⟨10, _⟩ => ⟨S33024x1, .f32⟩
  | .hbm, ⟨11, _⟩ => ⟨S33024x1, .f32⟩
  | .hbm, ⟨12, _⟩ => ⟨S_, .f32⟩
  | .hbm, ⟨13, _⟩ => ⟨S33024x1, .f32⟩
  | .hbm, ⟨14, _⟩ => ⟨S33024x1, .f32⟩
  | .hbm, ⟨15, _⟩ => ⟨S33024x1, .f32⟩
  | .hbm, ⟨16, _⟩ => ⟨S33024x2048, .f32⟩
  | .hbm, ⟨17, _⟩ => ⟨S33024x2048, .f32⟩
  | .hbm, ⟨18, _⟩ => ⟨S1x2048, .f32⟩
  | .hbm, ⟨19, _⟩ => ⟨S33024x2048, .f32⟩
  | .hbm, ⟨20, _⟩ => ⟨S33024x2048, .f32⟩
  | .hbm, ⟨21, _⟩ => ⟨S1x2048x8208, .f32⟩
  | .hbm, ⟨22, _⟩ => ⟨S2048x8208, .f32⟩
  | .hbm, ⟨23, _⟩ => ⟨S33024x8208, .f32⟩
  | .hbm, ⟨24, _⟩ => ⟨S33024x2048, .f32⟩
  | .hbm, ⟨25, _⟩ => ⟨S33024x16x128, .f32⟩
  | .hbm, ⟨26, _⟩ => ⟨S33024x16x128, .f32⟩
  | .hbm, ⟨27, _⟩ => ⟨S_, .f32⟩
  | .hbm, ⟨28, _⟩ => ⟨S33024x16, .f32⟩
  | .hbm, ⟨29, _⟩ => ⟨S33024x16x1, .f32⟩
  | .hbm, ⟨30, _⟩ => ⟨S_, .f32⟩
  | .hbm, ⟨31, _⟩ => ⟨S33024x16x1, .f32⟩
  | .hbm, ⟨32, _⟩ => ⟨S33024x16x1, .f32⟩
  | .hbm, ⟨33, _⟩ => ⟨S_, .f32⟩
  | .hbm, ⟨34, _⟩ => ⟨S33024x16x1, .f32⟩
  | .hbm, ⟨35, _⟩ => ⟨S33024x16x1, .f32⟩
  | .hbm, ⟨36, _⟩ => ⟨S33024x16x1, .f32⟩
  | .hbm, ⟨37, _⟩ => ⟨S33024x16x128, .f32⟩
  | .hbm, ⟨38, _⟩ => ⟨S33024x16x128, .f32⟩
  | .hbm, ⟨39, _⟩ => ⟨S1x1x128, .f32⟩
  | .hbm, ⟨40, _⟩ => ⟨S33024x16x128, .f32⟩
  | .hbm, ⟨41, _⟩ => ⟨S33024x16x128, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S33024x16x128, .f32⟩
  | .hbm, ⟨49, _⟩ => ⟨S33024x16x128, .f32⟩
  | .hbm, ⟨50, _⟩ => ⟨S33024x2048, .f32⟩
  | .hbm, ⟨51, _⟩ => ⟨S33024x16x128, .f32⟩
  | .hbm, ⟨52, _⟩ => ⟨S33024x16x128, .f32⟩
  | .hbm, ⟨53, _⟩ => ⟨S_, .f32⟩
  | .hbm, ⟨54, _⟩ => ⟨S33024x16, .f32⟩
  | .hbm, ⟨55, _⟩ => ⟨S33024x16x1, .f32⟩
  | .hbm, ⟨56, _⟩ => ⟨S_, .f32⟩
  | .hbm, ⟨57, _⟩ => ⟨S33024x16x1, .f32⟩
  | .hbm, ⟨58, _⟩ => ⟨S33024x16x1, .f32⟩
  | .hbm, ⟨59, _⟩ => ⟨S_, .f32⟩
  | .hbm, ⟨60, _⟩ => ⟨S33024x16x1, .f32⟩
  | .hbm, ⟨61, _⟩ => ⟨S33024x16x1, .f32⟩
  | .hbm, ⟨62, _⟩ => ⟨S33024x16x1, .f32⟩
  | .hbm, ⟨63, _⟩ => ⟨S33024x16x128, .f32⟩
  | .hbm, ⟨64, _⟩ => ⟨S33024x16x128, .f32⟩
  | .hbm, ⟨65, _⟩ => ⟨S1x1x128, .f32⟩
  | .hbm, ⟨66, _⟩ => ⟨S33024x16x128, .f32⟩
  | .hbm, ⟨67, _⟩ => ⟨S33024x16x128, .f32⟩
  | .hbm, ⟨68, _⟩ => ⟨S33024x2048, .f32⟩
  | .hbm, ⟨69, _⟩ => ⟨S33024x2048, .f32⟩
  | .hbm, ⟨70, _⟩ => ⟨S33024x2048, .f32⟩
  | .hbm, ⟨71, _⟩ => ⟨S33024x6144, .f32⟩
  | .hbm, ⟨72, _⟩ => ⟨S33024x6144, .bf16⟩
  | .hbm, ⟨73, _⟩ => ⟨S33024x2048, .f32⟩
  | .hbm, ⟨74, _⟩ => ⟨S33024x16, .f32⟩
  | .hbm, ⟨75, _⟩ => ⟨S_, .i32⟩
  | .hbm, ⟨76, _⟩ => ⟨S_, .f32⟩
  | .hbm, ⟨77, _⟩ => ⟨S33024x128, .f32⟩
  | _, _ => ⟨S33024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c : Ref sig .tc := ⟨.hbm, 75, rfl⟩
abbrev main_call0_v0 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Kernel6.lean ====
abbrev S33024x2048 : Shape := ⟨2, ![33024, 2048]⟩
abbrev S2048 : Shape := ⟨1, ![2048]⟩
abbrev S2x2048x6432 : Shape := ⟨3, ![2, 2048, 6432]⟩
abbrev S2x3x1024 : Shape := ⟨3, ![2, 3, 1024]⟩
abbrev S2x3360 : Shape := ⟨2, ![2, 3360]⟩
abbrev S1x3360 : Shape := ⟨2, ![1, 3360]⟩
abbrev S3360 : Shape := ⟨1, ![3360]⟩
abbrev S3072 : Shape := ⟨1, ![3072]⟩
abbrev S3x1x1024 : Shape := ⟨3, ![3, 1, 1024]⟩
abbrev S1x2048x6432 : Shape := ⟨3, ![1, 2048, 6432]⟩
abbrev S2048x6432 : Shape := ⟨2, ![2048, 6432]⟩
abbrev S2048x288 : Shape := ⟨2, ![2048, 288]⟩
abbrev S_ : Shape := ⟨0, ![]⟩
abbrev S2048x384 : Shape := ⟨2, ![2048, 384]⟩
abbrev S1x3x1024 : Shape := ⟨3, ![1, 3, 1024]⟩
abbrev S3x1024 : Shape := ⟨2, ![3, 1024]⟩
abbrev S1x2048 : Shape := ⟨2, ![1, 2048]⟩
abbrev S33024x1024 : Shape := ⟨2, ![33024, 1024]⟩
abbrev S3x2064x16384 : Shape := ⟨3, ![3, 2064, 16384]⟩
abbrev S33024x384 : Shape := ⟨2, ![33024, 384]⟩
abbrev S688x2048 : Shape := ⟨2, ![688, 2048]⟩
abbrev S1x2048x1024 : Shape := ⟨3, ![1, 2048, 1024]⟩
abbrev S1x1x1024 : Shape := ⟨3, ![1, 1, 1024]⟩
abbrev S688x1024 : Shape := ⟨2, ![688, 1024]⟩
abbrev S1x688x1024 : Shape := ⟨3, ![1, 688, 1024]⟩
abbrev S688x384 : Shape := ⟨2, ![688, 384]⟩
abbrev S8x1024 : Shape := ⟨2, ![8, 1024]⟩
abbrev S3x8x1024 : Shape := ⟨3, ![3, 8, 1024]⟩
abbrev S688 : Shape := ⟨1, ![688]⟩
abbrev S688x1 : Shape := ⟨2, ![688, 1]⟩
abbrev S2048x1024 : Shape := ⟨2, ![2048, 1024]⟩
abbrev S1x1024 : Shape := ⟨2, ![1, 1024]⟩
abbrev S2x1024 : Shape := ⟨2, ![2, 1024]⟩

abbrev nBuf : Space → Nat
  | .hbm => 23
  | .vmem => 20
  | .smem => 0
  | _ => 0

abbrev bufTy : (tb : Table) → Fin (tcTables nBuf tb) → BufTy
  | .hbm, ⟨0, _⟩ => ⟨S33024x2048, .f32⟩
  | .hbm, ⟨1, _⟩ => ⟨S2048, .f32⟩
  | .hbm, ⟨2, _⟩ => ⟨S2x2048x6432, .f32⟩
  | .hbm, ⟨3, _⟩ => ⟨S2x3x1024, .f32⟩
  | .hbm, ⟨4, _⟩ => ⟨S2x3360, .f32⟩
  | .hbm, ⟨5, _⟩ => ⟨S1x3360, .f32⟩
  | .hbm, ⟨6, _⟩ => ⟨S3360, .f32⟩
  | .hbm, ⟨7, _⟩ => ⟨S3072, .f32⟩
  | .hbm, ⟨8, _⟩ => ⟨S3x1x1024, .f32⟩
  | .hbm, ⟨9, _⟩ => ⟨S2x2048x6432, .bf16⟩
  | .hbm, ⟨10, _⟩ => ⟨S1x2048x6432, .f32⟩
  | .hbm, ⟨11, _⟩ => ⟨S2048x6432, .f32⟩
  | .hbm, ⟨12, _⟩ => ⟨S2048x288, .f32⟩
  | .hbm, ⟨13, _⟩ => ⟨S_, .i32⟩
  | .hbm, ⟨14, _⟩ => ⟨S_, .f32⟩
  | .hbm, ⟨15, _⟩ => ⟨S2048x384, .f32⟩
  | .hbm, ⟨16, _⟩ => ⟨S2048x384, .bf16⟩
  | .hbm, ⟨17, _⟩ => ⟨S1x3x1024, .f32⟩
  | .hbm, ⟨18, _⟩ => ⟨S3x1024, .f32⟩
  | .hbm, ⟨19, _⟩ => ⟨S1x2048, .f32⟩
  | .hbm, ⟨20, _⟩ => ⟨S33024x1024, .bf16⟩
  | .hbm, ⟨21, _⟩ => ⟨S3x2064x16384, .f32⟩
  | .hbm, ⟨22, _⟩ => ⟨S33024x384, .f32⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S2048x384, .bf16⟩
  | .local _ .vmem, ⟨6, _⟩ => ⟨S3x1024, .f32⟩
  | .local _ .vmem, ⟨7, _⟩ => ⟨S1x1x1024, .f32⟩
  | .local _ .vmem, ⟨8, _⟩ => ⟨S1x1x1024, .f32⟩
  | .local _ .vmem, ⟨9, _⟩ => ⟨S688x1024, .bf16⟩
  | .local _ .vmem, ⟨10, _⟩ => ⟨S688x1024, .bf16⟩
  | .local _ .vmem, ⟨11, _⟩ => ⟨S1x688x1024, .f32⟩
  | .local _ .vmem, ⟨12, _⟩ => ⟨S1x688x1024, .f32⟩
  | .local _ .vmem, ⟨13, _⟩ => ⟨S688x384, .f32⟩
  | .local _ .vmem, ⟨14, _⟩ => ⟨S688x384, .f32⟩
  | .local _ .vmem, ⟨15, _⟩ => ⟨S688x2048, .bf16⟩
  | .local _ .vmem, ⟨16, _⟩ => ⟨S688x1024, .f32⟩
  | .local _ .vmem, ⟨17, _⟩ => ⟨S688x1024, .f32⟩
  | .local _ .vmem, ⟨18, _⟩ => ⟨S8x1024, .f32⟩
  | .local _ .vmem, ⟨19, _⟩ => ⟨S3x8x1024, .f32⟩
  | _, _ => ⟨S33024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![48, 6], ![false, false]⟩

def k0_cond6 (i : grid0.Coords) : BitVec 1 :=
  let arg1 : BitVec 32 := BitVec.ofNat 32 (i 1).val
  let c3_i32 : BitVec 32 := 3#32
  let v12 : BitVec 1 := Scalar.cmpi .sge arg1 c3_i32
  let v13 : BitVec 32 := Scalar.extui v12
  let c0_i32_5 : BitVec 32 := 0#32
  let v14 : BitVec 1 := Scalar.cmpi .ne v13 c0_i32_5
  v14

def k0_off1 (i : grid0.Coords) : Fin 3 → Nat :=
  let arg1 : BitVec 32 := BitVec.ofNat 32 (i 1).val
  let c3_i32_6 : BitVec 32 := 3#32
  let v15 : BitVec 32 := Scalar.subi arg1 c3_i32_6
  let v20 : Index := Scalar.indexCast v15
  let c0_11 : Index := 0#32
  let c0_12 : Index := 0#32
  ![v20.toNat, 0, 0]
def k0_cond5 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c3_i32_0 : BitVec 32 := 3#32
  let c0_i32_1 : BitVec 32 := 0#32
  let v2 : BitVec 1 := Scalar.cmpi .eq c3_i32_0 c0_i32_1
  let c1_i32 : BitVec 32 := 1#32
  let v3 : BitVec 32 := Scalar.select v2 c1_i32 c3_i32_0
  let v4 : BitVec 32 := Scalar.remsi arg0 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c3_i32_5 : BitVec 32 := 3#32
  let v12 : BitVec 32 := Scalar.divsi arg0 c3_i32_5
  let c0_i32_6 : BitVec 32 := 0#32
  let v13 : BitVec 1 := Scalar.cmpi .sgt arg0 c0_i32_6
  let v14 : BitVec 32 := Scalar.extui v13
  let c0_i32_7 : BitVec 32 := 0#32
  let v15 : BitVec 1 := Scalar.cmpi .slt arg0 c0_i32_7
  let v16 : BitVec 32 := Scalar.extui v15
  let v17 : BitVec 32 := Scalar.subi v14 v16
  let c0_i32_8 : BitVec 32 := 0#32
  let v18 : BitVec 1 := Scalar.cmpi .sgt c3_i32_5 c0_i32_8
  let v19 : BitVec 32 := Scalar.extui v18
  let c0_i32_9 : BitVec 32 := 0#32
  let v20 : BitVec 1 := Scalar.cmpi .slt c3_i32_5 c0_i32_9
  let v21 : BitVec 32 := Scalar.extui v20
  let v22 : BitVec 32 := Scalar.subi v19 v21
  let v23 : BitVec 1 := Scalar.cmpi .ne v17 v22
  let v24 : BitVec 32 := Scalar.remsi arg0 c3_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  ![v1.toNat, v11.toNat, v28.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S688x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x688x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S688x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference6Ideal.lean ====
abbrev S33024x2048 : Shape := ⟨2, ![33024, 2048]⟩
abbrev S2048 : Shape := ⟨1, ![2048]⟩
abbrev S2x2048x6432 : Shape := ⟨3, ![2, 2048, 6432]⟩
abbrev S2x3x1024 : Shape := ⟨3, ![2, 3, 1024]⟩
abbrev S2x3360 : Shape := ⟨2, ![2, 3360]⟩
abbrev S_ : Shape := ⟨0, ![]⟩
abbrev S33024 : Shape := ⟨1, ![33024]⟩
abbrev S33024x1 : Shape := ⟨2, ![33024, 1]⟩
abbrev S1x2048 : Shape := ⟨2, ![1, 2048]⟩
abbrev S1x2048x6432 : Shape := ⟨3, ![1, 2048, 6432]⟩
abbrev S2048x6432 : Shape := ⟨2, ![2048, 6432]⟩
abbrev S33024x6432 : Shape := ⟨2, ![33024, 6432]⟩
abbrev S33024x1024 : Shape := ⟨2, ![33024, 1024]⟩
abbrev S16x2064x1024 : Shape := ⟨3, ![16, 2064, 1024]⟩
abbrev S16x2066x1024 : Shape := ⟨3, ![16, 2066, 1024]⟩
abbrev S1x3x1024 : Shape := ⟨3, ![1, 3, 1024]⟩
abbrev S3x1024 : Shape := ⟨2, ![3, 1024]⟩
abbrev S1x1024 : Shape := ⟨2, ![1, 1024]⟩
abbrev S1024 : Shape := ⟨1, ![1024]⟩
abbrev S1x1x1024 : Shape := ⟨3, ![1, 1, 1024]⟩
abbrev S33024x3072 : Shape := ⟨2, ![33024, 3072]⟩
abbrev S16x2064x3072 : Shape := ⟨3, ![16, 2064, 3072]⟩
abbrev S16x2065x3072 : Shape := ⟨3, ![16, 2065, 3072]⟩
abbrev S1x3360 : Shape := ⟨2, ![1, 3360]⟩
abbrev S3360 : Shape := ⟨1, ![3360]⟩
abbrev S3072 : Shape := ⟨1, ![3072]⟩
abbrev S1x1x3072 : Shape := ⟨3, ![1, 1, 3072]⟩
abbrev S16x2064x3x1024 : Shape := ⟨4, ![16, 2064, 3, 1024]⟩
abbrev S3x2064x16x1024 : Shape := ⟨4, ![3, 2064, 16, 1024]⟩
abbrev S3x2064x16384 : Shape := ⟨3, ![3, 2064, 16384]⟩
abbrev S33024x288 : Shape := ⟨2, ![33024, 288]⟩
abbrev S33024x384 : Shape := ⟨2, ![33024, 384]⟩

abbrev nBuf : Space → Nat
  | .hbm => 78
  | .vmem => 0
  | .smem => 0
  | _ => 0

abbrev bufTy : (tb : Table) → Fin (tcTables nBuf tb) → BufTy
  | .hbm, ⟨0, _⟩ => ⟨S33024x2048, .f32⟩
  | .hbm, ⟨1, _⟩ => ⟨S2048, .f32⟩
  | .hbm, ⟨2, _⟩ => ⟨S2x2048x6432, .f32⟩
  | .hbm, ⟨3, _⟩ => ⟨S2x3x1024, .f32⟩
  | .hbm, ⟨4, _⟩ => ⟨S2x3360, .f32⟩
  | .hbm, ⟨5, _⟩ => ⟨S33024x2048, .f32⟩
  | .hbm, ⟨6, _⟩ => ⟨S_, .f32⟩
  | .hbm, ⟨7, _⟩ => ⟨S33024, .f32⟩
  | .hbm, ⟨8, _⟩ => ⟨S33024x1, .f32⟩
  | .hbm, ⟨9, _⟩ => ⟨S_, .f32⟩
  | .hbm, ⟨10, _⟩ => ⟨S33024x1, .f32⟩
  | .hbm, ⟨11, _⟩ => ⟨S33024x1, .f32⟩
  | .hbm, ⟨12, _⟩ => ⟨S_, .f32⟩
  | .hbm, ⟨13, _⟩ => ⟨S33024x1, .f32⟩
  | .hbm, ⟨14, _⟩ => ⟨S33024x1, .f32⟩
  | .hbm, ⟨15, _⟩ => ⟨S33024x1, .f32⟩
  | .hbm, ⟨16, _⟩ => ⟨S33024x2048, .f32⟩
  | .hbm, ⟨17, _⟩ => ⟨S33024x2048, .f32⟩
  | .hbm, ⟨18, _⟩ => ⟨S1x2048, .f32⟩
  | .hbm, ⟨19, _⟩ => ⟨S33024x2048, .f32⟩
  | .hbm, ⟨20, _⟩ => ⟨S33024x2048, .f32⟩
  | .hbm, ⟨21, _⟩ => ⟨S1x2048x6432, .f32⟩
  | .hbm, ⟨22, _⟩ => ⟨S2048x6432, .f32⟩
  | .hbm, ⟨23, _⟩ => ⟨S33024x6432, .f32⟩
  | .hbm, ⟨24, _⟩ => ⟨S33024x1024, .f32⟩
  | .hbm, ⟨25, _⟩ => ⟨S33024x1024, .f32⟩
  | .hbm, ⟨26, _⟩ => ⟨S33024x1024, .f32⟩
  | .hbm, ⟨27, _⟩ => ⟨S16x2064x1024, .f32⟩
  | .hbm, ⟨28, _⟩ => ⟨S_, .i32⟩
  | .hbm, ⟨29, _⟩ => ⟨S_, .f32⟩
  | .hbm, ⟨30, _⟩ => ⟨S16x2066x1024, .f32⟩
  | .hbm, ⟨31, _⟩ => ⟨S1x3x1024, .f32⟩
  | .hbm, ⟨32, _⟩ => ⟨S3x1024, .f32⟩
  | .hbm, ⟨33, _⟩ => ⟨S1x1024, .f32⟩
  | .hbm, ⟨34, _⟩ => ⟨S1024, .f32⟩
  | .hbm, ⟨35, _⟩ => ⟨S16x2064x1024, .f32⟩
  | .hbm, ⟨36, _⟩ => ⟨S1x1x1024, .f32⟩
  | .hbm, ⟨37, _⟩ => ⟨S16x2064x1024, .f32⟩
  | .hbm, ⟨38, _⟩ => ⟨S16x2064x1024, .f32⟩
  | .hbm, ⟨39, _⟩ => ⟨S1x1024, .f32⟩
  | .hbm, ⟨40, _⟩ => ⟨S1024, .f32⟩
  | .hbm, ⟨41, _⟩ => ⟨S16x2064x1024, .f32⟩
  | .hbm, ⟨42, _⟩ => ⟨S1x1x1024, .f32⟩
  | .hbm, ⟨43, _⟩ => ⟨S16x2064x1024, .f32⟩
  | .hbm, ⟨44, _⟩ => ⟨S16x2064x1024, .f32⟩
  | .hbm, ⟨45, _⟩ => ⟨S16x2064x1024, .f32⟩
  | .hbm, ⟨46, _⟩ => ⟨S1x1024, .f32⟩
  | .hbm, ⟨47, _⟩ => ⟨S1024, .f32⟩
  | .hbm, ⟨48, _⟩ => ⟨S16x2064x1024, .f32⟩
  | .hbm, ⟨49, _⟩ => ⟨S1x1x1024, .f32⟩
  | .hbm, ⟨50, _⟩ => ⟨S16x2064x1024, .f32⟩
  | .hbm, ⟨51, _⟩ => ⟨S16x2064x1024, .f32⟩
  | .hbm, ⟨52, _⟩ => ⟨S16x2064x1024, .f32⟩
  | .hbm, ⟨53, _⟩ => ⟨S33024x1024, .f32⟩
  | .hbm, ⟨54, _⟩ => ⟨S33024x1024, .f32⟩
  | .hbm, ⟨55, _⟩ => ⟨S33024x1024, .f32⟩
  | .hbm, ⟨56, _⟩ => ⟨S33024x3072, .f32⟩
  | .hbm, ⟨57, _⟩ => ⟨S16x2064x3072, .f32⟩
  | .hbm, ⟨58, _⟩ => ⟨S_, .i32⟩
  | .hbm, ⟨59, _⟩ => ⟨S_, .f32⟩
  | .hbm, ⟨60, _⟩ => ⟨S16x2065x3072, .f32⟩
  | .hbm, ⟨61, _⟩ => ⟨S16x2064x3072, .f32⟩
  | .hbm, ⟨62, _⟩ => ⟨S16x2064x3072, .f32⟩
  | .hbm, ⟨63, _⟩ => ⟨S1x3360, .f32⟩
  | .hbm, ⟨64, _⟩ => ⟨S3360, .f32⟩
  | .hbm, ⟨65, _⟩ => ⟨S3072, .f32⟩
  | .hbm, ⟨66, _⟩ => ⟨S1x1x3072, .f32⟩
  | .hbm, ⟨67, _⟩ => ⟨S16x2064x3072, .f32⟩
  | .hbm, ⟨68, _⟩ => ⟨S16x2064x3072, .f32⟩
  | .hbm, ⟨69, _⟩ => ⟨S16x2064x3072, .f32⟩
  | .hbm, ⟨70, _⟩ => ⟨S16x2064x3x1024, .f32⟩
  | .hbm, ⟨71, _⟩ => ⟨S3x2064x16x1024, .f32⟩
  | .hbm, ⟨72, _⟩ => ⟨S3x2064x16384, .f32⟩
  | .hbm, ⟨73, _⟩ => ⟨S33024x1024, .bf16⟩
  | .hbm, ⟨74, _⟩ => ⟨S33024x288, .f32⟩
  | .hbm, ⟨75, _⟩ => ⟨S_, .i32⟩
  | .hbm, ⟨76, _⟩ => ⟨S_, .f32⟩
  | .hbm, ⟨77, _⟩ => ⟨S33024x384, .f32⟩
  | _, _ => ⟨S33024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_c_2 : Ref sig .tc := ⟨.hbm, 58, rfl⟩
abbrev main_call1_v0 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_c_3 : Ref sig .tc := ⟨.hbm, 75, rfl⟩
abbrev main_call2_v0 : Ref sig .tc := ⟨.hbm, 76, rfl⟩
abbrev main_v63 : Ref sig .tc := ⟨.hbm, 77, rfl⟩

abbrev nD : Nat := 1
abbrev τ : Topo := Topo.v7x

variable {F : FTy → Type} [FloatOps F]
-- ==== Proof.Shapes.lean ====
/-
  Layout and contraction operations read at an index, at shapes whose extents are variables: the matrix products, the
  column and row broadcasts, the casts that add or drop unit axes, and a row maximum.
-/
module

public import Idealize.ShloMosaic.Lib.Pipeline.ValueKit
public import Idealize.ShloMosaic.Lib.Pointwise

@[expose] public section

noncomputable section

namespace Cert.Shapes

open Idealize.ShloMosaic

variable {α : Type} {m n k : ℕ}

/-- The product of a matrix with a transposed one, from a zero accumulator, is the sum over the shared last axis. -/
theorem matmul_transposed (l : (⟨2, ![m, k]⟩ : Shape).Idx → EReal) (r : (⟨2, ![n, k]⟩ : Shape).Idx → EReal) (acc : (⟨2, ![m, n]⟩ : Shape).Idx → EReal)
    (i : Fin m) (j : Fin n) :
    Ideal.matmul (DotDims.transposedRhs m k n) l r acc (ix2 i j) = acc (ix2 i j) + ∑ x : Fin k, l (ix2 i x) * r (ix2 j x) :=
  Ideal.matmul_apply₁_of (DotDims.transposedRhs m k n) (a := 1) rfl rfl l r acc (ix2 i j) (fun x => ix2 i x) (fun x => ix2 j x)
    (fun x => by funext a; match a with | ⟨0, _⟩ => rfl | ⟨1, _⟩ => rfl)
    (fun x => by funext a; match a with | ⟨0, _⟩ => rfl | ⟨1, _⟩ => rfl)

/-- The plain product of two matrices is the accumulator plus the sum over the shared axis. -/
theorem matmul_plain (l : (⟨2, ![m, k]⟩ : Shape).Idx → EReal) (r : (⟨2, ![k, n]⟩ : Shape).Idx → EReal) (acc : (⟨2, ![m, n]⟩ : Shape).Idx → EReal)
    (i : Fin m) (j : Fin n) :
    Ideal.matmul (DotDims.plain m k n) l r acc (ix2 i j) = acc (ix2 i j) + ∑ x : Fin k, l (ix2 i x) * r (ix2 x j) :=
  Ideal.matmul_apply₁_of (DotDims.plain m k n) (a := 1) rfl rfl l r acc (ix2 i j) (fun x => ix2 i x) (fun x => ix2 x j)
    (fun x => by funext a; match a with | ⟨0, _⟩ => rfl | ⟨1, _⟩ => rfl)
    (fun x => by funext a; match a with | ⟨0, _⟩ => rfl | ⟨1, _⟩ => rfl)

/-- A column broadcast along the rows' second axis reads the column. -/
theorem broadcast_col (x : (⟨2, ![m, 1]⟩ : Shape).Idx → α) (h : (⟨2, ![m, 1]⟩ : Shape).Broadcasts ⟨2, ![m, n]⟩) (i : Fin m) (j : Fin n) :
    broadcastTo ⟨2, ![m, n]⟩ x h (ix2 i j) = x (ix2 i 0) :=
  broadcastTo_apply x h _ _ fun a => match a with
    | ⟨0, _⟩ => by
      show i.val = if m = 1 then 0 else i.val
      split
      · have := i.isLt; omega
      · rfl
    | ⟨1, _⟩ => rfl

/-- A row broadcast along the first axis reads the row. -/
theorem broadcast_row (x : (⟨2, ![1, n]⟩ : Shape).Idx → α) (h : (⟨2, ![1, n]⟩ : Shape).Broadcasts ⟨2, ![m, n]⟩) (i : Fin m) (j : Fin n) :
    broadcastTo ⟨2, ![m, n]⟩ x h (ix2 i j) = x (ix2 0 j) :=
  broadcastTo_apply x h _ _ fun a => match a with
    | ⟨0, _⟩ => rfl
    | ⟨1, _⟩ => by
      show j.val = if n = 1 then 0 else j.val
      split
      · have := j.isLt; omega
      · rfl

/-- A vector cast to a column reads the vector. -/
theorem cast_col (x : (⟨1, ![m]⟩ : Shape).Idx → α) (h : (⟨1, ![m]⟩ : Shape).ShapeCasts ⟨2, ![m, 1]⟩) (i : Fin m) :
    shapeCast ⟨2, ![m, 1]⟩ x h (ix2 i 0) = x (ix1 i) :=
  shapeCast_apply x h _ _ (by
    rw [Shape.rowMajor_val_one, Shape.rowMajor_val_two]
    show i.val = i.val * 1 + 0
    omega)

/-- A `[1, 1, 1, n]` block cast to a row reads its last axis. -/
theorem cast_row (x : (⟨4, ![1, 1, 1, n]⟩ : Shape).Idx → α) (h : (⟨4, ![1, 1, 1, n]⟩ : Shape).ShapeCasts ⟨2, ![1, n]⟩) (j : Fin n) :
    shapeCast ⟨2, ![1, n]⟩ x h (ix2 0 j) = x (ix4 0 0 0 j) :=
  shapeCast_apply x h _ _ (by
    rw [Shape.rowMajor_val_four, Shape.rowMajor_val_two]
    show ((0 * 1 + 0) * 1 + 0) * n + j.val = 0 * n + j.val
    omega)

/-- A matrix cast to a one-member stack reads the matrix. -/
theorem cast_addUnit (x : (⟨2, ![m, n]⟩ : Shape).Idx → α) (h : (⟨2, ![m, n]⟩ : Shape).ShapeCasts ⟨3, ![1, m, n]⟩) (z : Fin 1) (i : Fin m) (j : Fin n) :
    shapeCast ⟨3, ![1, m, n]⟩ x h (ix3 z i j) = x (ix2 i j) :=
  shapeCast_apply x h _ _ (by
    rw [Shape.rowMajor_val_two, Shape.rowMajor_val_three]
    show i.val * n + j.val = (z.val * m + i.val) * n + j.val
    have : z.val = 0 := by omega
    rw [this]; simp)

/-- A one-member stack cast to a matrix reads its one member. -/
theorem cast_dropUnit (x : (⟨3, ![1, m, n]⟩ : Shape).Idx → α) (h : (⟨3, ![1, m, n]⟩ : Shape).ShapeCasts ⟨2, ![m, n]⟩) (i : Fin m) (j : Fin n) :
    shapeCast ⟨2, ![m, n]⟩ x h (ix2 i j) = x (ix3 0 i j) :=
  shapeCast_apply x h _ _ (by
    rw [Shape.rowMajor_val_two, Shape.rowMajor_val_three]
    show (0 * m + i.val) * n + j.val = i.val * n + j.val
    simp)

/-- A matrix slice reads the matrix at the offsets plus the index. -/
theorem slice_mat {m' n' : ℕ} (r c : ℕ) (x : (⟨2, ![m, n]⟩ : Shape).Idx → α) (h : (⟨2, ![m, n]⟩ : Shape).Slices ![r, c] ⟨2, ![m', n']⟩)
    (i : Fin m') (j : Fin n') (i' : Fin m) (j' : Fin n) (hi : i'.val = r + i.val) (hj : j'.val = c + j.val) :
    extractStridedSlice ⟨2, ![m', n']⟩ ![r, c] x h (ix2 i j) = x (ix2 i' j') :=
  extractStridedSlice_apply _ x h _ _ fun a => match a with
    | ⟨0, _⟩ => hi
    | ⟨1, _⟩ => hj

/-- The pattern of minus infinity denotes the least extended real. -/
theorem ofBits_neg_inf : Ideal.ofBits .f32 0xFF800000#32 = (⊥ : EReal) := by
  simp [Ideal.ofBits, Ideal.ieee]

/-- The row maximum of a matrix, from minus infinity, is the supremum of the row. -/
theorem rowMax (x : FVec Ideal ⟨2, ![m, n]⟩ .f32) (h : (⟨2, ![m, n]⟩ : Shape).Reduces [1] ⟨1, ![m]⟩) (h1 : FKind.Formats .f32)
    (h2 : (0xFF800000#32 : BitVec 32) = FKind.maximumf.neutral .f32 h1) (i : Fin m) :
    multiReduction .maximumf [1] ⟨1, ![m]⟩ x 0xFF800000#32 h h1 h2 (ix1 i) = Finset.univ.sup fun j : Fin n => x (ix2 i j) := by
  simp only [pointwise]
  rw [ofBits_neg_inf]
  rfl

/-- The row sum of a matrix. -/
theorem rowSum (x : FVec Ideal ⟨2, ![m, n]⟩ .f32) (h : (⟨2, ![m, n]⟩ : Shape).Reduces [1] ⟨1, ![m]⟩) (h1 : FKind.Formats .f32)
    (h2 : (0x00000000#32 : BitVec 32) = FKind.add.neutral .f32 h1) (i : Fin m) :
    multiReduction .add [1] ⟨1, ![m]⟩ x 0x00000000#32 h h1 h2 (ix1 i) = ∑ j : Fin n, x (ix2 i j) := by
  simp only [pointwise]

/-- The row maxima of a matrix as a column. -/
def maxCol (x : FVec Ideal ⟨2, ![m, n]⟩ .f32) (h : (⟨2, ![m, n]⟩ : Shape).Reduces [1] ⟨1, ![m]⟩) (h' : (⟨1, ![m]⟩ : Shape).ShapeCasts ⟨2, ![m, 1]⟩) :
    FVec Ideal ⟨2, ![m, 1]⟩ .f32 :=
  shapeCast _ (multiReduction .maximumf [1] ⟨1, ![m]⟩ x 0xFF800000#32 h (.inl rfl) rfl) h'

/-- The column of row maxima holds the supremum of each row. -/
theorem maxCol_apply (x : FVec Ideal ⟨2, ![m, n]⟩ .f32) (h : (⟨2, ![m, n]⟩ : Shape).Reduces [1] ⟨1, ![m]⟩)
    (h' : (⟨1, ![m]⟩ : Shape).ShapeCasts ⟨2, ![m, 1]⟩) (i : Fin m) :
    maxCol x h h' (ix2 i 0) = Finset.univ.sup fun j : Fin n => x (ix2 i j) :=
  (cast_col _ h' i).trans (rowMax x h _ _ i)

/-- The row sums of a matrix as a column. -/
def sumCol (x : FVec Ideal ⟨2, ![m, n]⟩ .f32) (h : (⟨2, ![m, n]⟩ : Shape).Reduces [1] ⟨1, ![m]⟩) (h' : (⟨1, ![m]⟩ : Shape).ShapeCasts ⟨2, ![m, 1]⟩) :
    FVec Ideal ⟨2, ![m, 1]⟩ .f32 :=
  shapeCast _ (multiReduction .add [1] ⟨1, ![m]⟩ x 0x00000000#32 h (.inl rfl) rfl) h'

/-- The column of row sums holds the sum of each row. -/
theorem sumCol_apply (x : FVec Ideal ⟨2, ![m, n]⟩ .f32) (h : (⟨2, ![m, n]⟩ : Shape).Reduces [1] ⟨1, ![m]⟩)
    (h' : (⟨1, ![m]⟩ : Shape).ShapeCasts ⟨2, ![m, 1]⟩) (i : Fin m) :
    sumCol x h h' (ix2 i 0) = ∑ j : Fin n, x (ix2 i j) :=
  (cast_col _ h' i).trans (rowSum x h _ _ i)

end Cert.Shapes
-- ==== Proof.Chunk.lean ====
module

public import proofs.«01_k».proof.Proof.Gen.KernelIdeal.Skeleton
public import Idealize.ShloMosaic.Lib.Pipeline.ValueKit
public import Idealize.ShloMosaic.Lib.Pointwise
public import Idealize.ShloMosaic.Lib.Affine
public import proofs.«01_k».proof.Proof.Shapes

@[expose] public section

set_option maxRecDepth 16384

noncomputable section

namespace Cert.KernelIdeal.Fox

open Cert.KernelIdeal Cert.KernelIdeal.Gen Cert.Shapes Idealize.ShloMosaic

variable {nq q0 q1 : ℕ} (kap : EReal)

/-- The side conditions the operations of one chunk of `nq` queries after `q0` earlier positions take. -/
structure ChunkFacts (nq q0 q1 : ℕ) : Prop where
  castRow : (⟨4, ![1, 1, 1, q1]⟩ : Shape).ShapeCasts ⟨2, ![1, q1]⟩
  castCol : (⟨1, ![nq]⟩ : Shape).ShapeCasts ⟨2, ![nq, 1]⟩
  bcRow : (⟨2, ![1, q1]⟩ : Shape).Broadcasts ⟨2, ![nq, q1]⟩
  bcDiag : (⟨2, ![nq, 1]⟩ : Shape).Broadcasts ⟨2, ![nq, nq]⟩
  bcLeft : (⟨2, ![nq, 1]⟩ : Shape).Broadcasts ⟨2, ![nq, q0]⟩
  bcOut : (⟨2, ![nq, 1]⟩ : Shape).Broadcasts ⟨2, ![nq, 128]⟩
  slDiag : (⟨2, ![nq, q1]⟩ : Shape).Slices ![0, q0] ⟨2, ![nq, nq]⟩
  slLeft : (⟨2, ![nq, q1]⟩ : Shape).Slices ![0, 0] ⟨2, ![nq, q0]⟩
  redDiag : (⟨2, ![nq, nq]⟩ : Shape).Reduces [1] ⟨1, ![nq]⟩
  redLeft : (⟨2, ![nq, q0]⟩ : Shape).Reduces [1] ⟨1, ![nq]⟩
  redAll : (⟨2, ![nq, q1]⟩ : Shape).Reduces [1] ⟨1, ![nq]⟩
  iota0 : (⟨2, ![nq, nq]⟩ : Shape).Iotas .tc 32 [0]
  iota1 : (⟨2, ![nq, nq]⟩ : Shape).Iotas .tc 32 [1]
  cat : Shape.Concatenates [⟨2, ![nq, q0]⟩, ⟨2, ![nq, nq]⟩] ⟨2, ![nq, q1]⟩ 1

/-- The base-two logits of a chunk: queries against keys, minus the keys' gates in units of `log 2`. -/
def logits (h : ChunkFacts nq q0 q1) (Q : FVec Ideal ⟨2, ![nq, 128]⟩ .bf16) (K : FVec Ideal ⟨2, ![q1, 128]⟩ .bf16)
    (cr : FVec Ideal ⟨4, ![1, 1, 1, q1]⟩ .f32) : FVec Ideal ⟨2, ![nq, q1]⟩ .f32 :=
  subf (matmul (DotDims.transposedRhs nq 128 q1) none Q K (constant _ .f32 0x00000000#32))
    (broadcastTo _ (mulf (shapeCast ⟨2, ![1, q1]⟩ cr h.castRow) (broadcast _ (kap : Ideal .f32))) h.bcRow)

/-- The diagonal square of the logits, causally masked. -/
def diag (h : ChunkFacts nq q0 q1) (u : FVec Ideal ⟨2, ![nq, q1]⟩ .f32) : FVec Ideal ⟨2, ![nq, nq]⟩ .f32 :=
  select (cmpi .sge (iota .tc _ 32 [0] h.iota0) (iota .tc _ 32 [1] h.iota1)) (extractStridedSlice ⟨2, ![nq, nq]⟩ ![0, q0] u h.slDiag)
    (broadcast _ (Scalar.ofBits (F := Ideal) .f32 0xFF800000#32))

/-- The exponentials of one chunk, from its logits and its queries' gates. -/
def expo (h : ChunkFacts nq q0 q1) (u : FVec Ideal ⟨2, ![nq, q1]⟩ .f32) (cc : FVec Ideal ⟨2, ![nq, 1]⟩ .f32) : FVec Ideal ⟨2, ![nq, q1]⟩ .f32 :=
  have mu : FVec Ideal ⟨2, ![nq, 1]⟩ .f32 := maximumf
    (maxCol (diag h u) h.redDiag h.castCol)
    (maxCol (extractStridedSlice ⟨2, ![nq, q0]⟩ ![0, 0] u h.slLeft) h.redLeft h.castCol)
  have ct : FVec Ideal ⟨2, ![nq, 1]⟩ .f32 := mulf cc (broadcast _ (kap : Ideal .f32))
  have shift : FVec Ideal ⟨2, ![nq, 1]⟩ .f32 := subf ct (addf mu ct)
  concatenate ⟨2, ![nq, q1]⟩ 1
    [⟨⟨2, ![nq, q0]⟩, exp2 (addf (extractStridedSlice ⟨2, ![nq, q0]⟩ ![0, 0] u h.slLeft) (broadcastTo _ shift h.bcLeft))⟩,
     ⟨⟨2, ![nq, nq]⟩, exp2 (addf (diag h u) (broadcastTo _ shift h.bcDiag))⟩] h.cat

/-- The chunk's output rows: the exponentials against the values, over the exponentials' sum. -/
def outRows (h : ChunkFacts nq q0 q1) (e : FVec Ideal ⟨2, ![nq, q1]⟩ .f32) (V : FVec Ideal ⟨2, ![q1, 128]⟩ .bf16) :
    FVec Ideal ⟨2, ![nq, 128]⟩ .f32 :=
  divf (matmul (DotDims.plain nq q1 128) none (truncf .bf16 e bitsLt_bf16_f32) V (constant _ .f32 0x00000000#32))
    (broadcastTo _ (sumCol e h.redAll h.castCol) h.bcOut)

/-- The kernel's named constant is the reciprocal of `log 2`. -/
theorem named_log2e : Named.named (F := Ideal) (φ := .f32) κ "log2e" 0x3FB8AA3B#32 = (((Real.log 2)⁻¹ : ℝ) : EReal) :=
  IdealRules.named_const.ideal_named_scalar _ _ _ _ rfl

/-- A logit is the scalar product of query and key, less the key's gate in base-two units. -/
theorem logits_apply (h : ChunkFacts nq q0 q1) (Q : FVec Ideal ⟨2, ![nq, 128]⟩ .bf16) (K : FVec Ideal ⟨2, ![q1, 128]⟩ .bf16)
    (cr : FVec Ideal ⟨4, ![1, 1, 1, q1]⟩ .f32) (i : Fin nq) (s : Fin q1) :
    logits kap h Q K cr (ix2 i s) = (∑ x : Fin 128, Q (ix2 i x) * K (ix2 s x)) - cr (ix4 0 0 0 s) * kap := by
  unfold logits
  show matmul (F := Ideal) (DotDims.transposedRhs nq 128 q1) none Q K (constant _ .f32 0x00000000#32) (ix2 i s) - broadcastTo _ _ h.bcRow (ix2 i s) = _
  show Ideal.matmul (DotDims.transposedRhs nq 128 q1) Q K (constant (F := Ideal) _ .f32 0x00000000#32) (ix2 i s) - broadcastTo _ _ h.bcRow (ix2 i s) = _
  rw [matmul_transposed, broadcast_row]
  show Ideal.ofBits .f32 0x00000000#32 + _ - _ = _
  rw [Ideal.ofBits_zero_f32, zero_add]
  show _ - shapeCast ⟨2, ![1, q1]⟩ cr h.castRow (ix2 0 s) * kap = _
  rw [cast_row]

/-- The causally masked logits of one query of the chunk: minus infinity right of the query. -/
def masked (q0 : ℕ) (u : FVec Ideal ⟨2, ![nq, q1]⟩ .f32) (i : Fin nq) (s : Fin q1) : EReal :=
  if s.val ≤ q0 + i.val then u (ix2 i s) else ⊥

/-- A signed comparison of two small naturals' words is the comparison of the naturals. -/
theorem sge_ofNat (a b : ℕ) (ha : a < 2147483648) (hb : b < 2147483648) :
    IntOp.cmpi .sge (BitVec.ofNat 32 a) (BitVec.ofNat 32 b) = 1#1 ↔ b ≤ a := by
  rw [IntOp.cmpi_sge, BitVec.toInt_ofNat', BitVec.toInt_ofNat']
  rw [Int.bmod_eq_of_le (by omega) (by omega), Int.bmod_eq_of_le (by omega) (by omega)]
  omega

/-- The diagonal square is the masked logits from column `q0` on. -/
theorem diag_apply (h : ChunkFacts nq q0 q1) (hn : nq < 2147483648) (u : FVec Ideal ⟨2, ![nq, q1]⟩ .f32) (i : Fin nq) (j : Fin nq) (s : Fin q1)
    (hs : s.val = q0 + j.val) : diag h u (ix2 i j) = masked q0 u i s := by
  show (if IntOp.cmpi .sge (iota .tc ⟨2, ![nq, nq]⟩ 32 [0] h.iota0 (ix2 i j)) (iota .tc ⟨2, ![nq, nq]⟩ 32 [1] h.iota1 (ix2 i j)) = 1#1
    then extractStridedSlice ⟨2, ![nq, nq]⟩ ![0, q0] u h.slDiag (ix2 i j) else Ideal.ofBits .f32 0xFF800000#32) = _
  rw [ofBits_neg_inf, slice_mat 0 q0 u h.slDiag i j i s (by omega) hs, iota_single_apply, iota_single_apply]
  show (if IntOp.cmpi .sge (BitVec.ofNat 32 i.val) (BitVec.ofNat 32 j.val) = 1#1 then u (ix2 i s) else ⊥) = _
  simp only [sge_ofNat i.val j.val (by omega) (by omega), masked, hs, Nat.add_le_add_iff_left]

/-- The greatest masked logit of a row is the greater of the greatest in the diagonal square and the greatest left of it. -/
theorem sup_masked (hq : q1 = q0 + nq) (f : Fin q1 → EReal) :
    max (Finset.univ.sup fun j : Fin nq => f ⟨q0 + j.val, by omega⟩) (Finset.univ.sup fun j : Fin q0 => f ⟨j.val, by omega⟩) = Finset.univ.sup f := by
  refine le_antisymm (max_le (Finset.sup_le fun j _ => ?_) (Finset.sup_le fun j _ => ?_)) (Finset.sup_le fun s _ => ?_)
  · exact Finset.le_sup (f := f) (Finset.mem_univ _)
  · exact Finset.le_sup (f := f) (Finset.mem_univ _)
  · by_cases hs : s.val < q0
    · exact le_max_of_le_right (Finset.le_sup (f := fun j : Fin q0 => f ⟨j.val, by omega⟩) (Finset.mem_univ ⟨s.val, hs⟩))
    · have e : s = ⟨q0 + (s.val - q0), by omega⟩ := Fin.ext (by show s.val = q0 + (s.val - q0); omega)
      rw [e]
      exact le_max_of_le_left (Finset.le_sup (f := fun j : Fin nq => f ⟨q0 + j.val, by omega⟩) (Finset.mem_univ ⟨s.val - q0, by omega⟩))

/-- The amount every logit of a row is moved by, from the row's logits and its query's gate: the gate less the sum of the maximum and the gate. -/
def moved {n : ℕ} (U : Fin n → EReal) (ct : EReal) : EReal := ct - (Finset.univ.sup U + ct)

/-- The chunk's exponentials are those of its masked logits, moved. -/
theorem expo_apply (h : ChunkFacts nq q0 q1) (hq : q1 = q0 + nq) (hn : nq < 2147483648) (u : FVec Ideal ⟨2, ![nq, q1]⟩ .f32)
    (cc : FVec Ideal ⟨2, ![nq, 1]⟩ .f32) (i : Fin nq) (s : Fin q1) :
    expo kap h u cc (ix2 i s) = Ideal.exp2 (masked q0 u i s + moved (masked q0 u i) (cc (ix2 i 0) * kap)) := by
  have hmu : max (Finset.univ.sup fun j : Fin nq => diag h u (ix2 i j))
      (Finset.univ.sup fun j : Fin q0 => extractStridedSlice ⟨2, ![nq, q0]⟩ ![0, 0] u h.slLeft (ix2 i j)) = Finset.univ.sup (masked q0 u i) := by
    rw [← sup_masked hq (masked q0 u i)]
    congr 1
    · exact Finset.sup_congr rfl fun j _ => diag_apply h hn u i j ⟨q0 + j.val, by omega⟩ rfl
    · refine Finset.sup_congr rfl fun j _ => ?_
      rw [slice_mat 0 0 u h.slLeft i j i ⟨j.val, by omega⟩ (by omega) (by simp), masked, if_pos (by show j.val ≤ _; omega)]
  have hshift : ∀ sh : FVec Ideal ⟨2, ![nq, 1]⟩ .f32, sh = subf (mulf cc (broadcast _ (kap : Ideal .f32)))
      (addf (maximumf
        (maxCol (diag h u) h.redDiag h.castCol)
        (maxCol (extractStridedSlice ⟨2, ![nq, q0]⟩ ![0, 0] u h.slLeft) h.redLeft h.castCol))
        (mulf cc (broadcast _ (kap : Ideal .f32)))) →
      sh (ix2 i 0) = moved (masked q0 u i) (cc (ix2 i 0) * kap) := by
    intro sh e
    rw [e, moved, ← hmu, ← maxCol_apply _ h.redDiag h.castCol, ← maxCol_apply _ h.redLeft h.castCol]
    rfl
  unfold expo
  by_cases hs : s.val < q0
  · rw [concatenate_pair_apply_left _ _ _ h.cat (ix2 i s) rfl (ix2 i ⟨s.val, hs⟩) (fun b => match b with | ⟨0, _⟩ => rfl | ⟨1, _⟩ => rfl)]
    show Ideal.exp2 (extractStridedSlice ⟨2, ![nq, q0]⟩ ![0, 0] u h.slLeft (ix2 i ⟨s.val, hs⟩) + broadcastTo _ _ h.bcLeft (ix2 i ⟨s.val, hs⟩)) = _
    rw [broadcast_col, hshift _ rfl, slice_mat 0 0 u h.slLeft i ⟨s.val, hs⟩ i s (by omega) (by simp), masked, if_pos (by omega)]
  · rw [concatenate_pair_apply_right _ _ _ h.cat (ix2 i s) rfl rfl (ix2 i ⟨s.val - q0, by omega⟩)
      (fun b => match b with | ⟨0, _⟩ => fun _ => rfl | ⟨1, _⟩ => fun hb => absurd rfl hb) (by show s.val - q0 + q0 = s.val; omega)]
    show Ideal.exp2 (diag h u (ix2 i ⟨s.val - q0, _⟩) + broadcastTo _ _ h.bcDiag (ix2 i ⟨s.val - q0, _⟩)) = _
    rw [broadcast_col, hshift _ rfl, diag_apply h hn u i _ s (by show s.val = q0 + (s.val - q0); omega)]

/-- An output row is the exponentials' sum against the values, over their sum. -/
theorem outRows_apply (h : ChunkFacts nq q0 q1) (e : FVec Ideal ⟨2, ![nq, q1]⟩ .f32) (V : FVec Ideal ⟨2, ![q1, 128]⟩ .bf16) (i : Fin nq) (d : Fin 128) :
    outRows h e V (ix2 i d) = Ideal.div (∑ s : Fin q1, e (ix2 i s) * V (ix2 s d)) (∑ s : Fin q1, e (ix2 i s)) := by
  unfold outRows
  show Ideal.div (Ideal.matmul (DotDims.plain nq q1 128) e V (constant (F := Ideal) _ .f32 0x00000000#32) (ix2 i d)) (broadcastTo _ _ h.bcOut (ix2 i d)) = _
  rw [matmul_plain, broadcast_col, sumCol_apply]
  show Ideal.div (Ideal.ofBits .f32 0x00000000#32 + _) _ = _
  rw [Ideal.ofBits_zero_f32, zero_add]

/-- One attention row: the exponentials of `n` masked logits, moved, against the values, over their sum. -/
def row {n : ℕ} (U : Fin n → EReal) (ct : EReal) (v : Fin n → EReal) : EReal :=
  Ideal.div (∑ s, Ideal.exp2 (U s + moved U ct) * v s) (∑ s, Ideal.exp2 (U s + moved U ct))

/-- A chunk with earlier positions computes the attention rows. -/
theorem chunk_apply (h : ChunkFacts nq q0 q1) (hq : q1 = q0 + nq) (hn : nq < 2147483648) (u : FVec Ideal ⟨2, ![nq, q1]⟩ .f32)
    (cc : FVec Ideal ⟨2, ![nq, 1]⟩ .f32) (V : FVec Ideal ⟨2, ![q1, 128]⟩ .bf16) (i : Fin nq) (d : Fin 128) :
    outRows h (expo kap h u cc) V (ix2 i d) = row (masked q0 u i) (cc (ix2 i 0) * kap) (fun s => V (ix2 s d)) := by
  rw [outRows_apply]
  simp only [expo_apply kap h hq hn]
  rfl

/-- The logits of the first chunk, causally masked. -/
def diag0 (h : ChunkFacts nq 0 nq) (u : FVec Ideal ⟨2, ![nq, nq]⟩ .f32) : FVec Ideal ⟨2, ![nq, nq]⟩ .f32 :=
  select (cmpi .sge (iota .tc _ 32 [0] h.iota0) (iota .tc _ 32 [1] h.iota1)) u (broadcast _ (Scalar.ofBits (F := Ideal) .f32 0xFF800000#32))

/-- The exponentials of the first chunk, which has no earlier positions. -/
def expo0 (h : ChunkFacts nq 0 nq) (u : FVec Ideal ⟨2, ![nq, nq]⟩ .f32) (cc : FVec Ideal ⟨2, ![nq, 1]⟩ .f32) : FVec Ideal ⟨2, ![nq, nq]⟩ .f32 :=
  have d : FVec Ideal ⟨2, ![nq, nq]⟩ .f32 := diag0 h u
  have mu : FVec Ideal ⟨2, ![nq, 1]⟩ .f32 := maxCol d h.redDiag h.castCol
  have ct : FVec Ideal ⟨2, ![nq, 1]⟩ .f32 := mulf cc (broadcast _ (kap : Ideal .f32))
  exp2 (addf d (broadcastTo _ (subf ct (addf mu ct)) h.bcDiag))

/-- The first chunk computes the attention rows. -/
theorem chunk0_apply (h : ChunkFacts nq 0 nq) (hn : nq < 2147483648) (u : FVec Ideal ⟨2, ![nq, nq]⟩ .f32)
    (cc : FVec Ideal ⟨2, ![nq, 1]⟩ .f32) (V : FVec Ideal ⟨2, ![nq, 128]⟩ .bf16) (i : Fin nq) (d : Fin 128) :
    outRows h (expo0 kap h u cc) V (ix2 i d) = row (masked 0 u i) (cc (ix2 i 0) * kap) (fun s => V (ix2 s d)) := by
  have hd : ∀ j : Fin nq, diag0 h u (ix2 i j) = masked 0 u i j := by
    intro j
    rw [← diag_apply h hn u i j j (by omega)]
    unfold diag diag0
    congr 1
    funext y
    obtain ⟨a, b, rfl⟩ : ∃ a b, y = ix2 a b := ⟨_, _, ValueIdx.eq_ix2 y⟩
    rw [slice_mat 0 0 u h.slDiag a b a b (by omega) (by omega)]
  rw [outRows_apply]
  have he : ∀ s : Fin nq, expo0 kap h u cc (ix2 i s) = Ideal.exp2 (masked 0 u i s + moved (masked 0 u i) (cc (ix2 i 0) * kap)) := by
    intro s
    unfold expo0
    show Ideal.exp2 (diag0 h u (ix2 i s) + broadcastTo _ _ h.bcDiag (ix2 i s)) = _
    rw [broadcast_col, hd]
    show Ideal.exp2 (_ + (cc (ix2 i 0) * kap
      - (maxCol _ h.redDiag h.castCol (ix2 i 0)
        + cc (ix2 i 0) * kap))) = _
    rw [maxCol_apply]
    simp only [hd]
    rfl
  simp only [he]
  rfl

end Cert.KernelIdeal.Fox
-- ==== Proof.Payload.lean ====
/-
  The kernel's nine chunks of queries, as the program spells them, are the chunks of `Chunk`: every row they store is an
  attention row of its query.
-/
module

public import proofs.«01_k».proof.Proof.Chunk

@[expose] public section

set_option maxRecDepth 16384

noncomputable section

namespace Cert.KernelIdeal.Fox

open Cert.KernelIdeal Cert.KernelIdeal.Gen Cert.Shapes Idealize.ShloMosaic

/-- The constant the program multiplies gates by. -/
def unit : EReal := Named.named (F := Ideal) (φ := .f32) κ "log2e" 0x3FB8AA3B#32

/-- It is the reciprocal of `log 2`. -/
theorem unit_eq : unit = (((Real.log 2)⁻¹ : ℝ) : EReal) := named_log2e

/-- The first chunk's side conditions hold. -/
theorem facts0 : ChunkFacts 256 0 256 := by constructor <;> decide

/-- The second chunk's side conditions hold. -/
theorem facts1 : ChunkFacts 256 256 512 := by constructor <;> decide

/-- The third chunk's side conditions hold. -/
theorem facts2 : ChunkFacts 256 512 768 := by constructor <;> decide

/-- The fourth chunk's side conditions hold. -/
theorem facts3 : ChunkFacts 256 768 1024 := by constructor <;> decide

/-- The fifth chunk's side conditions hold. -/
theorem facts4 : ChunkFacts 256 1024 1280 := by constructor <;> decide

/-- The sixth chunk's side conditions hold. -/
theorem facts5 : ChunkFacts 256 1280 1536 := by constructor <;> decide

/-- The seventh chunk's side conditions hold. -/
theorem facts6 : ChunkFacts 256 1536 1792 := by constructor <;> decide

/-- The eighth chunk's side conditions hold. -/
theorem facts7 : ChunkFacts 256 1792 2048 := by constructor <;> decide

/-- The last chunk's side conditions hold. -/
theorem facts8 : ChunkFacts 128 2048 2176 := by constructor <;> decide

/-- A row the first chunk stores. -/
theorem pay0 (Q : Vec Ideal S256x128 .bf16) (K : Vec Ideal S256x128 .bf16) (cr : Vec Ideal S1x1x1x256 .f32) (cc : Vec Ideal S256x1 .f32)
    (V : Vec Ideal S256x128 .bf16) (z : Fin 1) (i : Fin 256) (d : Fin 128) :
    k0_pay14 (k0_pay12 Q K cr) (k0_pay13 Q K cr) cc V (ix3 z i d)
      = row (masked 0 (logits unit facts0 Q K cr) i) (cc (ix2 i 0) * unit) (fun s => V (ix2 s d)) :=
  (cast_addUnit (outRows facts0 (expo0 unit facts0 (logits unit facts0 Q K cr) cc) V) shapeCasts_S256x128_S1x256x128 z i d).trans (chunk0_apply unit facts0 (by decide) _ cc V i d)

/-- A row the second chunk stores. -/
theorem pay1 (Q : Vec Ideal S256x128 .bf16) (K : Vec Ideal S512x128 .bf16) (cr : Vec Ideal S1x1x1x512 .f32) (cc : Vec Ideal S256x1 .f32)
    (V : Vec Ideal S512x128 .bf16) (z : Fin 1) (i : Fin 256) (d : Fin 128) :
    k0_pay20 (k0_pay16 (k0_pay11 Q K) cr) (k0_pay17 (k0_pay11 Q K) cr) (k0_pay18 (k0_pay11 Q K) cr) (k0_pay19 (k0_pay11 Q K) cr) cc V (ix3 z i d)
      = row (masked 256 (logits unit facts1 Q K cr) i) (cc (ix2 i 0) * unit) (fun s => V (ix2 s d)) :=
  (cast_addUnit (outRows facts1 (expo unit facts1 (logits unit facts1 Q K cr) cc) V) shapeCasts_S256x128_S1x256x128 z i d).trans (chunk_apply unit facts1 rfl (by decide) _ cc V i d)

/-- A row the third chunk stores. -/
theorem pay2 (Q : Vec Ideal S256x128 .bf16) (K : Vec Ideal S768x128 .bf16) (cr : Vec Ideal S1x1x1x768 .f32) (cc : Vec Ideal S256x1 .f32)
    (V : Vec Ideal S768x128 .bf16) (z : Fin 1) (i : Fin 256) (d : Fin 128) :
    k0_pay24 (k0_pay22 (k0_pay15 Q K) cr) k0_pay23 cc V (ix3 z i d)
      = row (masked 512 (logits unit facts2 Q K cr) i) (cc (ix2 i 0) * unit) (fun s => V (ix2 s d)) :=
  (cast_addUnit (outRows facts2 (expo unit facts2 (logits unit facts2 Q K cr) cc) V) shapeCasts_S256x128_S1x256x128 z i d).trans (chunk_apply unit facts2 rfl (by decide) _ cc V i d)

/-- A row the fourth chunk stores. -/
theorem pay3 (Q : Vec Ideal S256x128 .bf16) (K : Vec Ideal S1024x128 .bf16) (cr : Vec Ideal S1x1x1x1024 .f32) (cc : Vec Ideal S256x1 .f32)
    (V : Vec Ideal S1024x128 .bf16) (z : Fin 1) (i : Fin 256) (d : Fin 128) :
    k0_pay26 (k0_pay21 Q K) cr cc V (ix3 z i d)
      = row (masked 768 (logits unit facts3 Q K cr) i) (cc (ix2 i 0) * unit) (fun s => V (ix2 s d)) :=
  (cast_addUnit (outRows facts3 (expo unit facts3 (logits unit facts3 Q K cr) cc) V) shapeCasts_S256x128_S1x256x128 z i d).trans (chunk_apply unit facts3 rfl (by decide) _ cc V i d)

/-- A row the fifth chunk stores. -/
theorem pay4 (Q : Vec Ideal S256x128 .bf16) (K : Vec Ideal S1280x128 .bf16) (cr : Vec Ideal S1x1x1x1280 .f32) (cc : Vec Ideal S256x1 .f32)
    (V : Vec Ideal S1280x128 .bf16) (z : Fin 1) (i : Fin 256) (d : Fin 128) :
    k0_pay29 (k0_pay28 (k0_pay25 Q K) cr cc V) (ix3 z i d)
      = row (masked 1024 (logits unit facts4 Q K cr) i) (cc (ix2 i 0) * unit) (fun s => V (ix2 s d)) :=
  (cast_addUnit (outRows facts4 (expo unit facts4 (logits unit facts4 Q K cr) cc) V) shapeCasts_S256x128_S1x256x128 z i d).trans (chunk_apply unit facts4 rfl (by decide) _ cc V i d)

/-- A row the sixth chunk stores. -/
theorem pay5 (Q : Vec Ideal S256x128 .bf16) (K : Vec Ideal S1536x128 .bf16) (cr : Vec Ideal S1x1x1x1536 .f32) (cc : Vec Ideal S256x1 .f32)
    (V : Vec Ideal S1536x128 .bf16) (z : Fin 1) (i : Fin 256) (d : Fin 128) :
    k0_pay34 (k0_pay32 (k0_pay27 Q K) cr cc) (k0_pay33 (k0_pay27 Q K) cr cc) V (ix3 z i d)
      = row (masked 1280 (logits unit facts5 Q K cr) i) (cc (ix2 i 0) * unit) (fun s => V (ix2 s d)) :=
  (cast_addUnit (outRows facts5 (expo unit facts5 (logits unit facts5 Q K cr) cc) V) shapeCasts_S256x128_S1x256x128 z i d).trans (chunk_apply unit facts5 rfl (by decide) _ cc V i d)

/-- A row the seventh chunk stores. -/
theorem pay6 (Q : Vec Ideal S256x128 .bf16) (K : Vec Ideal S1792x128 .bf16) (cr : Vec Ideal S1x1x1x1792 .f32) (cc : Vec Ideal S256x1 .f32)
    (V : Vec Ideal S1792x128 .bf16) (z : Fin 1) (i : Fin 256) (d : Fin 128) :
    k0_pay41 (k0_pay38 (k0_pay30 Q K) cr cc) (k0_pay39 (k0_pay30 Q K) cr cc) (k0_pay40 (k0_pay30 Q K) cr) V (ix3 z i d)
      = row (masked 1536 (logits unit facts6 Q K cr) i) (cc (ix2 i 0) * unit) (fun s => V (ix2 s d)) :=
  (cast_addUnit (outRows facts6 (expo unit facts6 (logits unit facts6 Q K cr) cc) V) shapeCasts_S256x128_S1x256x128 z i d).trans (chunk_apply unit facts6 rfl (by decide) _ cc V i d)

/-- A row the eighth chunk stores. -/
theorem pay7 (Q : Vec Ideal S256x128 .bf16) (K : Vec Ideal S2048x128 .bf16) (cr : Vec Ideal S1x1x1x2048 .f32) (cc : Vec Ideal S256x1 .f32)
    (V : Vec Ideal S2048x128 .bf16) (z : Fin 1) (i : Fin 256) (d : Fin 128) :
    k0_pay46 (k0_pay43 (k0_pay35 Q K) cr) (k0_pay44 (k0_pay35 Q K) cr) (k0_pay45 (k0_pay35 Q K) cr) cc V (ix3 z i d)
      = row (masked 1792 (logits unit facts7 Q K cr) i) (cc (ix2 i 0) * unit) (fun s => V (ix2 s d)) :=
  (cast_addUnit (outRows facts7 (expo unit facts7 (logits unit facts7 Q K cr) cc) V) shapeCasts_S256x128_S1x256x128 z i d).trans (chunk_apply unit facts7 rfl (by decide) _ cc V i d)

/-- The last chunk stores the first sixteen of its rows. -/
theorem pay8_rows (Q : Vec Ideal S128x128 .bf16) (K : Vec Ideal S2176x128 .bf16) (cr : Vec Ideal S1x1x1x2176 .f32) (cc : Vec Ideal S128x1 .f32)
    (V : Vec Ideal S2176x128 .bf16) :
    k0_pay1 (k0_pay47 (k0_pay42 Q K) cr) (k0_pay48 (k0_pay42 Q K) cr) (k0_pay49 (k0_pay42 Q K) cr) cc V
      = shapeCast S1x16x128 (extractStridedSlice S16x128 ![0, 0] (outRows facts8 (expo unit facts8 (logits unit facts8 Q K cr) cc) V)
        slices_S128x128_o0_0_S16x128) shapeCasts_S16x128_S1x16x128 := rfl

/-- A row the last chunk stores. -/
theorem pay8 (Q : Vec Ideal S128x128 .bf16) (K : Vec Ideal S2176x128 .bf16) (cr : Vec Ideal S1x1x1x2176 .f32) (cc : Vec Ideal S128x1 .f32)
    (V : Vec Ideal S2176x128 .bf16) (z : Fin 1) (i : Fin 16) (i' : Fin 128) (hi : i'.val = i.val) (d : Fin 128) :
    k0_pay1 (k0_pay47 (k0_pay42 Q K) cr) (k0_pay48 (k0_pay42 Q K) cr) (k0_pay49 (k0_pay42 Q K) cr) cc V (ix3 z i d)
      = row (masked 2048 (logits unit facts8 Q K cr) i') (cc (ix2 i' 0) * unit) (fun s => V (ix2 s d)) := by
  refine (congrFun (pay8_rows Q K cr cc V) _).trans ((cast_addUnit _ _ z i d).trans ?_)
  refine (slice_mat 0 0 _ slices_S128x128_o0_0_S16x128 i d i' d (by omega) (by omega)).trans ?_
  exact chunk_apply unit facts8 rfl (by decide) _ cc V i' d

end Cert.KernelIdeal.Fox
-- ==== Proof.Rows.lean ====
/-
  The attention row of a query depends only on the positions its mask keeps: padding keys past the query adds nothing.
-/
module

public import proofs.«01_k».proof.Proof.Chunk

@[expose] public section

noncomputable section

namespace Cert.KernelIdeal.Fox

open Idealize.ShloMosaic

/-- A sum over `n` positions whose terms past `t` vanish is the sum over the first `t + 1`. -/
theorem sum_upto {n : ℕ} (t : ℕ) (ht : t < n) (f : Fin n → EReal) (h : ∀ s : Fin n, t < s.val → f s = 0) :
    ∑ s, f s = ∑ s : Fin (t + 1), f ⟨s.val, by omega⟩ := by
  symm
  refine Finset.sum_of_injOn (fun s : Fin (t + 1) => (⟨s.val, by omega⟩ : Fin n)) ?_ ?_ ?_ ?_
  · intro a _ b _ e
    exact Fin.ext (Fin.mk.inj e)
  · intro a _; simp
  · intro s _ hs
    refine h s ?_
    by_contra hn
    exact hs ⟨⟨s.val, by omega⟩, by simp, rfl⟩
  · intro a _; rfl

/-- A supremum over `n` positions that are minus infinity past `t` is the supremum over the first `t + 1`. -/
theorem sup_upto {n : ℕ} (t : ℕ) (ht : t < n) (f : Fin n → EReal) (h : ∀ s : Fin n, t < s.val → f s = ⊥) :
    Finset.univ.sup f = Finset.univ.sup fun s : Fin (t + 1) => f ⟨s.val, by omega⟩ := by
  refine le_antisymm (Finset.sup_le fun s _ => ?_) (Finset.sup_le fun s _ => Finset.le_sup (f := f) (Finset.mem_univ _))
  by_cases hs : s.val ≤ t
  · exact Finset.le_sup (f := fun s : Fin (t + 1) => f ⟨s.val, by omega⟩) (Finset.mem_univ ⟨s.val, by omega⟩)
  · rw [h s (by omega)]; exact bot_le

/-- A row over `n` positions masked past `t` is the row over the first `t + 1`. -/
theorem row_upto {n : ℕ} (t : ℕ) (ht : t < n) (U : Fin n → EReal) (ct : EReal) (v : Fin n → EReal) (h : ∀ s : Fin n, t < s.val → U s = ⊥) :
    row U ct v = row (fun s : Fin (t + 1) => U ⟨s.val, by omega⟩) ct (fun s => v ⟨s.val, by omega⟩) := by
  have hm : moved U ct = moved (fun s : Fin (t + 1) => U ⟨s.val, by omega⟩) ct := by
    unfold moved; rw [sup_upto t ht U h]
  have hz : ∀ s : Fin n, t < s.val → Ideal.exp2 (U s + moved U ct) = 0 := fun s hs => by
    rw [h s hs, EReal.bot_add]; rfl
  unfold row
  rw [sum_upto t ht _ fun s hs => by rw [hz s hs, zero_mul], sum_upto t ht _ hz, hm]

/-- Rows that agree up to the query agree. -/
theorem row_congr {n m : ℕ} (t : ℕ) (hn : t < n) (hm : t < m) {U : Fin n → EReal} {U' : Fin m → EReal} {ct ct' : EReal}
    {v : Fin n → EReal} {v' : Fin m → EReal} (h : ∀ s : Fin n, t < s.val → U s = ⊥) (h' : ∀ s : Fin m, t < s.val → U' s = ⊥)
    (hc : ct = ct') (hU : ∀ (s : Fin n) (s' : Fin m), s.val ≤ t → s'.val = s.val → U s = U' s')
    (hv : ∀ (s : Fin n) (s' : Fin m), s.val ≤ t → s'.val = s.val → v s = v' s') : row U ct v = row U' ct' v' := by
  rw [row_upto t hn U ct v h, row_upto t hm U' ct' v' h', hc]
  congr 1
  · funext s; exact hU _ _ (by show s.val ≤ t; omega) rfl
  · funext s; exact hv _ _ (by show s.val ≤ t; omega) rfl

end Cert.KernelIdeal.Fox
-- ==== Proof.Block.lean ====
/-
  What one grid point leaves in its output block: the forgetting attention of its head, every query's row.
-/
module

public import proofs.«01_k».proof.Defs
public import proofs.«01_k».proof.Proof.Gen.KernelIdeal.Value
public import proofs.«01_k».proof.Proof.Payload
public import proofs.«01_k».proof.Proof.Rows
public import Idealize.ShloMosaic.Lib.Pipeline.ReadBack

@[expose] public section

set_option maxRecDepth 16384

noncomputable section

namespace Cert.KernelIdeal.Fox

open Cert.KernelIdeal Cert.KernelIdeal.Gen Cert.Shapes Idealize.ShloMosaic Idealize.ShloMosaic.TcCoe Idealize.SL.Sem
open Idealize.ShloMosaic.Pipeline (Dat)

/-- A load of rows of a buffer whose first `m` rows were stored last reads the stored rows. -/
theorem readCov_rows {sig : RefSig} {κ : Kind} {sp : Space} {e : EltTy} {M m n q0 nq : ℕ} (v : View sig κ sp ⟨2, ![M, n]⟩ e)
    (inbA : ∀ a, (![0, 0] : Fin 2 → ℕ) a + (![m, n] : Fin 2 → ℕ) a ≤ (⟨2, ![M, n]⟩ : Shape).size a)
    (A : (⟨2, ![m, n]⟩ : Shape).Idx → Elt Ideal e) (L : List (View.Piece (Elt Ideal) ⟨2, ![M, n]⟩ e))
    (inb : ∀ a, (![q0, 0] : Fin 2 → ℕ) a + (![nq, n] : Fin 2 → ℕ) a ≤ (⟨2, ![M, n]⟩ : Shape).size a)
    (i : Fin nq) (x : Fin n) (i' : Fin m) (hi : i'.val = q0 + i.val) :
    v.readCov (⟨Rect.unit (s := ⟨2, ![M, n]⟩) ![0, 0] ![m, n] inbA, A⟩ :: L) (Rect.unit (s := ⟨2, ![M, n]⟩) ![q0, 0] ![nq, n] inb).toLoadRect (ix2 i x)
      = A (ix2 i' x) := by
  rw [View.readCov_eq_canon']
  have e : (Rect.unit (s := ⟨2, ![M, n]⟩) ![q0, 0] ![nq, n] inb).toLoadRect.idx (ix2 i x)
      = (Rect.unit (s := ⟨2, ![M, n]⟩) ![0, 0] ![m, n] inbA).emb (ix2 i' x) := by
    funext a
    refine Fin.ext ?_
    match a with
    | ⟨0, _⟩ => show q0 + 1 * i.val = 0 + 1 * i'.val; omega
    | ⟨1, _⟩ => rfl
  show View.canon _ (LoadRect.idx _ _) = _
  rw [e]
  exact View.canon_cons_emb (Rect.unit (s := ⟨2, ![M, n]⟩) ![0, 0] ![m, n] inbA) A L _

/-- The masked base-two logit of query `t` and key `s` of one head, from the head's blocks of queries and keys and its row of gates. -/
def logit (q k : Vec Ideal S1x2064x128 .bf16) (g : Vec Ideal S1x1x1x2176 .f32) (t s : Fin 2064) : EReal :=
  if s.val ≤ t.val then (∑ x : Fin 128, q (ix3 0 t x) * k (ix3 0 s x)) - g (ix4 0 0 0 ⟨s.val, by omega⟩) * unit else ⊥

/-- One head's attention: at query `t` and feature `d`, the row of the query. -/
def attn (q k v : Vec Ideal S1x2064x128 .bf16) (c : Vec Ideal S1x2064x128 .f32) (g : Vec Ideal S1x1x1x2176 .f32) (hd : Fin 128)
    (t : Fin 2064) (d : Fin 128) : EReal :=
  row (logit q k g t) (c (ix3 0 t hd) * unit) (fun s => v (ix3 0 s d))

/-- The head's attention as a block. -/
def attnBlock (q k v : Vec Ideal S1x2064x128 .bf16) (c : Vec Ideal S1x2064x128 .f32) (g : Vec Ideal S1x1x1x2176 .f32) (hd : Fin 128) :
    Vec Ideal S1x2064x128 .bf16 := fun y => attn q k v c g hd (y 1) (y 2)

/-- A chunk's row, from pieces of the head's blocks, is the head's attention at the chunk's query. -/
theorem chunk_attn {nq q0 q1 : ℕ} (f : ChunkFacts nq q0 q1) (hq : q1 = q0 + nq) (q k v : Vec Ideal S1x2064x128 .bf16) (c : Vec Ideal S1x2064x128 .f32)
    (g : Vec Ideal S1x1x1x2176 .f32) (hd : Fin 128) (Q : FVec Ideal ⟨2, ![nq, 128]⟩ .bf16) (K V : FVec Ideal ⟨2, ![q1, 128]⟩ .bf16)
    (cr : FVec Ideal ⟨4, ![1, 1, 1, q1]⟩ .f32) (cc : FVec Ideal ⟨2, ![nq, 1]⟩ .f32) (i : Fin nq) (d : Fin 128) (t : Fin 2064) (ht : t.val = q0 + i.val)
    (hQ : ∀ x : Fin 128, Q (ix2 i x) = q (ix3 0 t x))
    (hK : ∀ (s : Fin q1) (s' : Fin 2064) (x : Fin 128), s'.val = 0 + s.val → K (ix2 s x) = k (ix3 0 s' x))
    (hV : ∀ (s : Fin q1) (s' : Fin 2064) (x : Fin 128), s'.val = 0 + s.val → V (ix2 s x) = v (ix3 0 s' x))
    (hcr : ∀ (s : Fin q1) (s' : Fin 2176), s'.val = s.val → cr (ix4 0 0 0 s) = g (ix4 0 0 0 s'))
    (hcc : cc (ix2 i 0) = c (ix3 0 t hd)) :
    row (masked q0 (logits unit f Q K cr) i) (cc (ix2 i 0) * unit) (fun s => V (ix2 s d)) = attn q k v c g hd t d := by
  refine row_congr t.val (by omega) t.isLt (fun s hs => if_neg (by omega)) (fun s hs => if_neg (by omega)) (by rw [hcc]) (fun s s' hs e => ?_)
    (fun s s' _ e => hV s s' d (by omega))
  rw [masked, logit, if_pos (by omega), if_pos (by omega), logits_apply, hcr s ⟨s'.val, by omega⟩ e]
  congr 1
  exact Finset.sum_congr rfl fun x _ => by rw [hQ, hK s s' x (by omega)]

/-- A head's block, stored whole, reads the block. -/
theorem pay_block (q : Vec Ideal S1x2064x128 .bf16) (t : Fin 2064) (x : Fin 128) : k0_pay8 q (ix2 t x) = q (ix3 0 t x) := by
  unfold k0_pay8
  show shapeCast _ (shapeCast S2064x128 q shapeCasts_S1x2064x128_S2064x128) _ (ix2 t x) = _
  rw [shapeCast_apply _ shapeCasts_S2064x128_S2064x128 (ix2 t x) (ix2 t x) rfl, cast_dropUnit]

/-- The gates of the point's head, picked from the lanes by a masked sum, are that head's lane. -/
theorem pay_gate (j : grid0.Coords) (c : Vec Ideal S1x2064x128 .f32) (t : Fin 2064) (hd : Fin 128) (h : hd.val = (j 1).val) :
    k0_pay7 j c (ix2 t 0) = c (ix3 0 t hd) := by
  unfold k0_pay7
  refine (shapeCast_apply _ shapeCasts_S2064x1_S2064x1 (ix2 t 0) (ix2 t 0) rfl).trans ?_
  refine (sumCol_apply _ reduces_S2064x128_S2064 shapeCasts_S2064_S2064x1 t).trans ?_
  rw [Finset.sum_eq_single hd]
  · show (if IntOp.cmpi .eq (iota .tc S2064x128 32 [1] iota_S2064x128_d1_w32 (ix2 t hd)) (BitVec.ofNat 32 (j 1).val) = 1#1
      then shapeCast S2064x128 c shapeCasts_S1x2064x128_S2064x128 (ix2 t hd) else _) = _
    rw [iota_single_apply, cast_dropUnit, if_pos]
    rw [IntOp.cmpi_eq, ← h]
    rfl
  · intro x _ hx
    show (if IntOp.cmpi .eq (iota .tc S2064x128 32 [1] iota_S2064x128_d1_w32 (ix2 t x)) (BitVec.ofNat 32 (j 1).val) = 1#1
      then shapeCast S2064x128 c shapeCasts_S1x2064x128_S2064x128 (ix2 t x) else Ideal.ofBits .f32 0x00000000#32) = _
    rw [iota_single_apply, if_neg, Ideal.ofBits_zero_f32]
    rw [IntOp.cmpi_eq, ← h]
    intro e
    have e' := congrArg BitVec.toNat e
    rw [BitVec.toNat_ofNat, BitVec.toNat_ofNat] at e'
    have h1 : (ix2 t x 1).val = x.val := rfl
    rw [h1, Nat.mod_eq_of_lt (by omega), Nat.mod_eq_of_lt (by omega)] at e'
    exact hx (Fin.ext e')
  · intro hx; exact absurd (Finset.mem_univ _) hx

/-- A load of the first gates reads the gates. -/
theorem ld_gates {q1 : ℕ} (g : Vec Ideal S1x1x1x2176 .f32) (inb : ∀ a, (![0, 0, 0, 0] : Fin 4 → ℕ) a + (![1, 1, 1, q1] : Fin 4 → ℕ) a ≤ S1x1x1x2176.size a)
    (s : Fin q1) (s' : Fin 2176) (e : s'.val = s.val) :
    View.ld g (Rect.unit (s := S1x1x1x2176) ![0, 0, 0, 0] ![1, 1, 1, q1] inb) (ix4 0 0 0 s) = g (ix4 0 0 0 s') :=
  congrArg g (funext fun a => Fin.ext (match a with
    | ⟨0, _⟩ => rfl
    | ⟨1, _⟩ => rfl
    | ⟨2, _⟩ => rfl
    | ⟨3, _⟩ => (show 0 + 1 * s.val = s'.val by omega)))

/-- A chunk's row, from the head's blocks as the point keeps them in scratch, is the head's attention at the chunk's query. -/
theorem chunk_stored {nq q0 q1 : ℕ} (f : ChunkFacts nq q0 q1) (hq : q1 = q0 + nq) (q k v : Vec Ideal S1x2064x128 .bf16) (c : Vec Ideal S1x2064x128 .f32)
    (g : Vec Ideal S1x1x1x2176 .f32) (hd : Fin 128) (j : grid0.Coords) (h : hd.val = (j 1).val)
    {sg : RefSig} {kd : Kind} {sp : Space} (bq bk bv : View sg kd sp S2176x128 .bf16) (bc : View sg kd sp S2176x1 .f32) (Lq Lk Lv : List (View.Piece (Elt Ideal) S2176x128 .bf16))
    (Lc : List (View.Piece (Elt Ideal) S2176x1 .f32))
    (inb : ∀ a, (![0, 0] : Fin 2 → ℕ) a + (![2064, 128] : Fin 2 → ℕ) a ≤ S2176x128.size a)
    (inbc : ∀ a, (![0, 0] : Fin 2 → ℕ) a + (![2064, 1] : Fin 2 → ℕ) a ≤ S2176x1.size a)
    (inbQ : ∀ a, (![q0, 0] : Fin 2 → ℕ) a + (![nq, 128] : Fin 2 → ℕ) a ≤ S2176x128.size a)
    (inbK : ∀ a, (![0, 0] : Fin 2 → ℕ) a + (![q1, 128] : Fin 2 → ℕ) a ≤ S2176x128.size a)
    (inbC : ∀ a, (![q0, 0] : Fin 2 → ℕ) a + (![nq, 1] : Fin 2 → ℕ) a ≤ S2176x1.size a)
    (cr : FVec Ideal ⟨4, ![1, 1, 1, q1]⟩ .f32) (hcr : ∀ (s : Fin q1) (s' : Fin 2176), s'.val = s.val → cr (ix4 0 0 0 s) = g (ix4 0 0 0 s'))
    (i : Fin nq) (d : Fin 128) (t : Fin 2064) (ht : t.val = q0 + i.val) :
    row (masked q0 (logits unit f
        (bq.readCov (⟨Rect.unit (s := S2176x128) ![0, 0] ![2064, 128] inb, k0_pay8 q⟩ :: Lq) (Rect.unit (s := S2176x128) ![q0, 0] ![nq, 128] inbQ).toLoadRect)
        (bk.readCov (⟨Rect.unit (s := S2176x128) ![0, 0] ![2064, 128] inb, k0_pay9 k⟩ :: Lk) (Rect.unit (s := S2176x128) ![0, 0] ![q1, 128] inbK).toLoadRect)
        cr) i)
      (bc.readCov (⟨Rect.unit (s := S2176x1) ![0, 0] ![2064, 1] inbc, k0_pay7 j c⟩ :: Lc) (Rect.unit (s := S2176x1) ![q0, 0] ![nq, 1] inbC).toLoadRect (ix2 i 0) * unit)
      (fun s => bv.readCov (⟨Rect.unit (s := S2176x128) ![0, 0] ![2064, 128] inb, k0_pay10 v⟩ :: Lv) (Rect.unit (s := S2176x128) ![0, 0] ![q1, 128] inbK).toLoadRect (ix2 s d))
      = attn q k v c g hd t d := by
  refine chunk_attn f hq q k v c g hd _ _ _ _ _ i d t ht ?_ ?_ ?_ hcr ?_
  · exact fun x => (readCov_rows bq inb _ Lq inbQ i x t ht).trans (pay_block q t x)
  · exact fun s s' x e => (readCov_rows bk inb _ Lk inbK s x s' e).trans (pay_block k s' x)
  · exact fun s s' x e => (readCov_rows bv inb _ Lv inbK s x s' e).trans (pay_block v s' x)
  · exact (readCov_rows bc inbc _ Lc inbC i 0 t ht).trans (pay_gate j c t hd h)

variable (m : (ℓ : Loc nD τ sig) → Buf (Elt Ideal) ℓ)

/-- The block a grid point leaves is its head's attention. -/
theorem outsAt_eq (c : Dev nD) (t : Fin cfg0.N) (hd : Fin 128) (h : hd.val = (grid0.coords t 1).val) :
    outsAt0 (F := Ideal) m c t = attnBlock (iblk m c 0 t) (iblk m c 1 t) (iblk m c 2 t) (iblk m c 3 t) (iblk m c 4 t) hd := by
  unfold outsAt0
  frame_open
  simp (disch := decide) only [↓ View.readCov_skip, ↓ View.readCov_cons_toLoadRect, ↓ View.readCov_fill]
  frame_out
  funext y
  have attn_at : ∀ {u u' : Fin 2064} {d d' : Fin 128}, u = u' → d = d' →
      attn (iblk m c 0 t) (iblk m c 1 t) (iblk m c 2 t) (iblk m c 3 t) (iblk m c 4 t) hd u d
        = attn (iblk m c 0 t) (iblk m c 1 t) (iblk m c 2 t) (iblk m c 3 t) (iblk m c 4 t) hd u' d' := fun e e' => by rw [e, e']
  refine View.canon_apply_of_pieces (attnBlock (iblk m c 0 t) (iblk m c 1 t) (iblk m c 2 t) (iblk m c 3 t) (iblk m c 4 t) hd) _ (View.PiecesOf.mem ?_) y (View.cover_of_tiledBy _ ![1, 16, 128] (by sl_kernel_rfl) y)
  refine ⟨fun x => ?_, fun x => ?_, fun x => ?_, fun x => ?_, fun x => ?_, fun x => ?_, fun x => ?_, fun x => ?_, fun x => ?_, trivial⟩
  all_goals obtain ⟨a, i, d, rfl⟩ : ∃ a i d, x = ix3 a i d := ⟨_, _, _, ValueIdx.eq_ix3 x⟩
  · refine (pay8 _ _ _ _ _ a i ⟨i.val, by omega⟩ rfl d).trans ?_
    refine (chunk_stored facts8 rfl _ _ _ _ _ hd _ h _ _ _ _ _ _ _ _ _ _ _ _ _ _ (fun s s' e => congrArg _ (congrArg _ (Fin.ext e.symm))) ⟨i.val, by omega⟩ d ⟨2048 + i.val, by omega⟩ rfl).trans ?_
    exact attn_at (Fin.ext (show 2048 + i.val = 2048 + 1 * i.val by omega)) (Fin.ext (show d.val = 0 + 1 * d.val by omega))
  · refine (pay7 _ _ _ _ _ a i d).trans ?_
    refine (chunk_stored facts7 rfl _ _ _ _ _ hd _ h _ _ _ _ _ _ _ _ _ _ _ _ _ _ (ld_gates _ _) i d ⟨1792 + i.val, by omega⟩ rfl).trans ?_
    exact attn_at (Fin.ext (show 1792 + i.val = 1792 + 1 * i.val by omega)) (Fin.ext (show d.val = 0 + 1 * d.val by omega))
  · refine (pay6 _ _ _ _ _ a i d).trans ?_
    refine (chunk_stored facts6 rfl _ _ _ _ _ hd _ h _ _ _ _ _ _ _ _ _ _ _ _ _ _ (ld_gates _ _) i d ⟨1536 + i.val, by omega⟩ rfl).trans ?_
    exact attn_at (Fin.ext (show 1536 + i.val = 1536 + 1 * i.val by omega)) (Fin.ext (show d.val = 0 + 1 * d.val by omega))
  · refine (pay5 _ _ _ _ _ a i d).trans ?_
    refine (chunk_stored facts5 rfl _ _ _ _ _ hd _ h _ _ _ _ _ _ _ _ _ _ _ _ _ _ (ld_gates _ _) i d ⟨1280 + i.val, by omega⟩ rfl).trans ?_
    exact attn_at (Fin.ext (show 1280 + i.val = 1280 + 1 * i.val by omega)) (Fin.ext (show d.val = 0 + 1 * d.val by omega))
  · refine (pay4 _ _ _ _ _ a i d).trans ?_
    refine (chunk_stored facts4 rfl _ _ _ _ _ hd _ h _ _ _ _ _ _ _ _ _ _ _ _ _ _ (ld_gates _ _) i d ⟨1024 + i.val, by omega⟩ rfl).trans ?_
    exact attn_at (Fin.ext (show 1024 + i.val = 1024 + 1 * i.val by omega)) (Fin.ext (show d.val = 0 + 1 * d.val by omega))
  · refine (pay3 _ _ _ _ _ a i d).trans ?_
    refine (chunk_stored facts3 rfl _ _ _ _ _ hd _ h _ _ _ _ _ _ _ _ _ _ _ _ _ _ (ld_gates _ _) i d ⟨768 + i.val, by omega⟩ rfl).trans ?_
    exact attn_at (Fin.ext (show 768 + i.val = 768 + 1 * i.val by omega)) (Fin.ext (show d.val = 0 + 1 * d.val by omega))
  · refine (pay2 _ _ _ _ _ a i d).trans ?_
    refine (chunk_stored facts2 rfl _ _ _ _ _ hd _ h _ _ _ _ _ _ _ _ _ _ _ _ _ _ (ld_gates _ _) i d ⟨512 + i.val, by omega⟩ rfl).trans ?_
    exact attn_at (Fin.ext (show 512 + i.val = 512 + 1 * i.val by omega)) (Fin.ext (show d.val = 0 + 1 * d.val by omega))
  · refine (pay1 _ _ _ _ _ a i d).trans ?_
    refine (chunk_stored facts1 rfl _ _ _ _ _ hd _ h _ _ _ _ _ _ _ _ _ _ _ _ _ _ (ld_gates _ _) i d ⟨256 + i.val, by omega⟩ rfl).trans ?_
    exact attn_at (Fin.ext (show 256 + i.val = 256 + 1 * i.val by omega)) (Fin.ext (show d.val = 0 + 1 * d.val by omega))
  · refine (pay0 _ _ _ _ _ a i d).trans ?_
    refine (chunk_stored facts0 rfl _ _ _ _ _ hd _ h _ _ _ _ _ _ _ _ _ _ _ _ _ _ (ld_gates _ _) i d ⟨0 + i.val, by omega⟩ rfl).trans ?_
    exact attn_at (Fin.ext (show 0 + i.val = 0 + 1 * i.val by omega)) (Fin.ext (show d.val = 0 + 1 * d.val by omega))

end Cert.KernelIdeal.Fox
-- ==== Proof.Array.lean ====
/-
  The array the kernel leaves, at an index, in terms of the two arguments.
-/
module

public import proofs.«01_k».proof.Proof.Block
public import Idealize.ShloMosaic.Lib.Pipeline.ValueKit
public import Idealize.ShloMosaic.Lib.KernelVsHost

@[expose] public section

set_option maxRecDepth 16384

noncomputable section

namespace Cert.Fox

open Cert.Shapes Idealize.ShloMosaic

/-- Token `t` of sequence `b`, as a row of the projections. -/
def tok (b : Fin 16) (t : Fin 2064) : Fin 33024 := ⟨b.val * 2064 + t.val, by omega⟩

/-- Column `x` of head `h` in part `p` of the projections: queries, keys, values are parts 0, 1, 2. -/
def col (p : Fin 3) (h : Fin 16) (x : Fin 128) : Fin 6144 := ⟨(p.val * 16 + h.val) * 128 + x.val, by omega⟩

/-- A head's lane in the block of gates. -/
def lane (h : Fin 16) : Fin 128 := ⟨h.val, by omega⟩

/-- The head of a result's column. -/
def headOf (n : Fin 2048) : Fin 16 := ⟨n.val / 128, by omega⟩

/-- The place of a result's column within its head. -/
def withinHead (n : Fin 2048) : Fin 128 := ⟨n.val % 128, by omega⟩

end Cert.Fox

namespace Cert.KernelIdeal.Fox

open Cert.KernelIdeal Cert.KernelIdeal.Gen Cert.Shapes Cert.Fox Idealize.ShloMosaic Idealize.ShloMosaic.TcCoe Idealize.SL.Sem
open Idealize.ShloMosaic.Pipeline (Dat)

/-- The logits of a query in units of `log 2`, less the query's own gate: minus infinity past the query. -/
def foxLogit (A : FVec Ideal S33024x6144 .bf16) (C : FVec Ideal S16x2064x128 .f32) (b h : Fin 16) (t s : Fin 2064) : EReal :=
  if s.val ≤ t.val then (∑ x, A (ix2 (tok b t) (col 0 h x)) * A (ix2 (tok b s) (col 1 h x))) - C (ix3 b s (lane h)) * unit else ⊥

/-- The kernel's result at sequence `b`, token `t`, head `h`, place `d`. -/
def foxAt (A : FVec Ideal S33024x6144 .bf16) (C : FVec Ideal S16x2064x128 .f32) (b h : Fin 16) (t : Fin 2064) (d : Fin 128) : EReal :=
  row (foxLogit A C b h t) (C (ix3 b t (lane h)) * unit) (fun s => A (ix2 (tok b s) (col 2 h d)))

/-- The kernel's whole result. -/
def foxArray (A : FVec Ideal S33024x6144 .bf16) (C : FVec Ideal S16x2064x128 .f32) : Vec Ideal S16x2064x2048 .bf16 :=
  fun i => foxAt A C (i 0) (headOf (i 2)) (i 1) (withinHead (i 2))

/-- The first window's block index: the sequence, and the head among the queries. -/
theorem index0 : ∀ t : Fin cfg0.N, win0_0.index t = ![(grid0.coords t 0).val, 0, (grid0.coords t 1).val] := by decide +kernel
/-- The second window's block index: the sequence, and the head among the keys. -/
theorem index1 : ∀ t : Fin cfg0.N, win0_1.index t = ![(grid0.coords t 0).val, 0, 16 + (grid0.coords t 1).val] := by decide +kernel
/-- The third window's block index: the sequence, and the head among the values. -/
theorem index2 : ∀ t : Fin cfg0.N, win0_2.index t = ![(grid0.coords t 0).val, 0, 32 + (grid0.coords t 1).val] := by decide +kernel
/-- The fourth window's block index: the sequence. -/
theorem index3 : ∀ t : Fin cfg0.N, win0_3.index t = ![(grid0.coords t 0).val, 0, 0] := by decide +kernel
/-- The fifth window's block index: the sequence and the head. -/
theorem index4 : ∀ t : Fin cfg0.N, win0_4.index t = ![(grid0.coords t 0).val, (grid0.coords t 1).val, 0, 0] := by decide +kernel
/-- The result's block index: the sequence and the head. -/
theorem index5 : ∀ t : Fin cfg0.N, win0_5.index t = ![(grid0.coords t 0).val, 0, (grid0.coords t 1).val] := by decide +kernel

variable (m : (ℓ : Loc nD τ sig) → Buf (Elt Ideal) ℓ)

/-- The projections of one sequence are rows of the argument. -/
theorem V_v0 (c : Dev nD) (b : Fin 16) (t : Fin 2064) (n : Fin 6144) :
    V (F := Ideal) m c main_v0 (ix3 b t n) = m ((c : Thread nD τ).loc main_arg0) (ix2 (tok b t) n) := by
  have e : V (F := Ideal) m c main_v0 = shapeCast S16x2064x6144 (m ((c : Thread nD τ).loc main_arg0)) shapeCasts_S33024x6144_S16x2064x6144 := by
    rfl
  rw [e]
  refine shapeCast_apply (s := S33024x6144) (t := S16x2064x6144) _ _ _ _ ?_
  rw [Shape.rowMajor_val_two, Shape.rowMajor_val_three]
  rfl

/-- The gates laid out along a head's rows are the argument's, transposed. -/
theorem V_v4 (c : Dev nD) (b h : Fin 16) (s : Fin 2064) (s' : Fin 2176) (e : s'.val = s.val) :
    V (F := Ideal) m c main_v4 (ix4 b h 0 s') = m ((c : Thread nD τ).loc main_arg1) (ix3 b s (lane h)) := by
  have e' : V (F := Ideal) m c main_v4 = broadcastInDim S16x16x1x2176 ![0, 1, 3] bcast_S16x16x2176_S16x16x1x2176_0_1_3
      (pad S16x16x2176 ![0, 0, 0] ![0, 0, 112] ![0, 0, 0] (transpose S16x16x2064 [0, 2, 1]
        (extractStridedSlice S16x2064x16 ![0, 0, 0] (m ((c : Thread nD τ).loc main_arg1)) slices_S16x2064x128_S16x2064x16_0_0_0)
        transposes_S16x2064x16_S16x16x2064_0_2_1) (sitofp (F := Ideal) .f32 (constantI S_ 32 0#32)) pads_S16x16x2064_S16x16x2176_000_000_01120 h_S_) := by
    after_results
    rfl
  rw [e']
  refine (broadcastInDim_apply (s := S16x16x2176) (t := S16x16x1x2176) _ _ _ _ (ix3 b h s') fun a => ?_).trans ?_
  · match a with
    | ⟨0, _⟩ => rfl
    | ⟨1, _⟩ => rfl
    | ⟨2, _⟩ => rfl
  refine (pad_apply_of_inside (s := S16x16x2064) (t := S16x16x2176) _ _ _ _ _ _ _ _ (ix3 b h s) fun a => ?_).trans ?_
  · match a with
    | ⟨0, _⟩ => exact (Nat.zero_add _).symm ▸ (Nat.mul_one _).symm
    | ⟨1, _⟩ => exact (Nat.zero_add _).symm ▸ (Nat.mul_one _).symm
    | ⟨2, _⟩ => exact e.trans ((Nat.zero_add _).symm ▸ (Nat.mul_one _).symm)
  refine (transpose_apply (s := S16x2064x16) (t := S16x16x2064) _ _ _ _ (ix3 b s h) fun a => ?_).trans ?_
  · match a with
    | ⟨0, _⟩ => rfl
    | ⟨1, _⟩ => rfl
    | ⟨2, _⟩ => rfl
  refine extractStridedSlice_apply (s := S16x2064x128) (t := S16x2064x16) _ _ _ _ _ fun a => ?_
  match a with
  | ⟨0, _⟩ => exact (Nat.zero_add _).symm
  | ⟨1, _⟩ => exact (Nat.zero_add _).symm
  | ⟨2, _⟩ => exact (Nat.zero_add _).symm

/-- What a point reads in its block of part `p` of the projections. -/
theorem iblk_part (c : Dev nD) (t : Fin cfg0.N) (b h : Fin 16) (hb : b.val = (grid0.coords t 0).val) (hh : h.val = (grid0.coords t 1).val)
    (u : Fin 2064) (x : Fin 128) :
    iblk (F := Ideal) m c 0 t (ix3 0 u x) = m ((c : Thread nD τ).loc main_arg0) (ix2 (tok b u) (col 0 h x))
    ∧ iblk (F := Ideal) m c 1 t (ix3 0 u x) = m ((c : Thread nD τ).loc main_arg0) (ix2 (tok b u) (col 1 h x))
    ∧ iblk (F := Ideal) m c 2 t (ix3 0 u x) = m ((c : Thread nD τ).loc main_arg0) (ix2 (tok b u) (col 2 h x)) := by
  refine ⟨?_, ?_, ?_⟩
  · refine Eq.trans ?_ (V_v0 m c b u (col 0 h x))
    blk_ext [iblk, index0 t, col]
  · refine Eq.trans ?_ (V_v0 m c b u (col 1 h x))
    blk_ext [iblk, index1 t, col]
  · refine Eq.trans ?_ (V_v0 m c b u (col 2 h x))
    blk_ext [iblk, index2 t, col]

/-- What a point reads in its two blocks of gates. -/
theorem iblk_gate (c : Dev nD) (t : Fin cfg0.N) (b h : Fin 16) (hb : b.val = (grid0.coords t 0).val) (hh : h.val = (grid0.coords t 1).val)
    (u : Fin 2064) (u' : Fin 2176) (e : u'.val = u.val) :
    iblk (F := Ideal) m c 3 t (ix3 0 u (lane h)) = m ((c : Thread nD τ).loc main_arg1) (ix3 b u (lane h))
    ∧ iblk (F := Ideal) m c 4 t (ix4 0 0 0 u') = m ((c : Thread nD τ).loc main_arg1) (ix3 b u (lane h)) := by
  refine ⟨?_, ?_⟩
  · rw [← V_main_arg1 m c]
    blk_ext [iblk, index3 t]
  · refine Eq.trans ?_ (V_v4 m c b h u u' e)
    blk_ext [iblk, index4 t]

/-- One head's block of attention is the kernel's result there, once the blocks are read from the arguments. -/
theorem attn_eq (A : FVec Ideal S33024x6144 .bf16) (C : FVec Ideal S16x2064x128 .f32)
    (q k v : FVec Ideal S1x2064x128 .bf16) (cc : FVec Ideal S1x2064x128 .f32) (g : FVec Ideal S1x1x1x2176 .f32) (b h : Fin 16)
    (hq : ∀ u x, q (ix3 0 u x) = A (ix2 (tok b u) (col 0 h x))) (hk : ∀ u x, k (ix3 0 u x) = A (ix2 (tok b u) (col 1 h x)))
    (hv : ∀ u x, v (ix3 0 u x) = A (ix2 (tok b u) (col 2 h x))) (hc : ∀ u, cc (ix3 0 u (lane h)) = C (ix3 b u (lane h)))
    (hg : ∀ (u : Fin 2064) (u' : Fin 2176), u'.val = u.val → g (ix4 0 0 0 u') = C (ix3 b u (lane h))) (u : Fin 2064) (d : Fin 128) :
    attn q k v cc g (lane h) u d = foxAt A C b h u d := by
  have e : logit q k g u = foxLogit A C b h u := by
    funext s
    unfold logit foxLogit
    rw [hg s _ rfl]
    simp only [hq, hk]
  unfold attn foxAt
  rw [e, hc]
  exact congrArg (row _ _) (funext fun s => hv s d)

/-- The array the kernel leaves. -/
theorem arr_eq (c : Dev nD) : (dats (F := Ideal) m 0 c).arrAt 5 cfg0.N
    = foxArray (m ((c : Thread nD τ).loc main_arg0)) (m ((c : Thread nD τ).loc main_arg1)) := by
  refine (dats (F := Ideal) m 0 c).arrAt_eq_of_covers 5 _ (by decide +kernel) fun t hf y => ?_
  blk_simp
  obtain ⟨b, hb⟩ : ∃ b : Fin 16, b.val = (grid0.coords t 0).val := ⟨⟨_, (grid0.coords t 0).isLt⟩, rfl⟩
  obtain ⟨h, hh⟩ : ∃ h : Fin 16, h.val = (grid0.coords t 1).val := ⟨⟨_, (grid0.coords t 1).isLt⟩, rfl⟩
  rw [after0_5, outsAt_eq m c t (lane h) hh]
  have e0 : (win0_5.blk t).view.emb y 0 = b := Fin.ext (by blk_simp [index5 t]; omega)
  obtain ⟨z, u, d, rfl⟩ : ∃ (z : Fin 1) (u : Fin 2064) (d : Fin 128), y = ix3 z u d := ⟨_, _, _, ValueIdx.eq_ix3 y⟩
  have e1 : ((win0_5.blk t).view.emb (ix3 z u d) 1).val = u.val := by blk_simp [index5 t]
  have e2 : ((win0_5.blk t).view.emb (ix3 z u d) 2).val = h.val * 128 + d.val := by blk_simp [index5 t]; omega
  refine (attn_eq _ _ _ _ _ _ _ b h (fun u x => (iblk_part m c t b h hb hh u x).1) (fun u x => (iblk_part m c t b h hb hh u x).2.1)
    (fun u x => (iblk_part m c t b h hb hh u x).2.2) (fun u => (iblk_gate m c t b h hb hh u ⟨u.val, by omega⟩ rfl).1)
    (fun u u' e => (iblk_gate m c t b h hb hh u u' e).2) u d).trans ?_
  have h3 : headOf ((win0_5.blk t).view.emb (ix3 z u d) 2) = h := Fin.ext (by
    show ((win0_5.blk t).view.emb (ix3 z u d) 2).val / 128 = h.val
    omega)
  have h4 : withinHead ((win0_5.blk t).view.emb (ix3 z u d) 2) = d := Fin.ext (by
    show ((win0_5.blk t).view.emb (ix3 z u d) 2).val % 128 = d.val
    omega)
  have h1 : (win0_5.blk t).view.emb (ix3 z u d) 1 = u := Fin.ext e1
  show _ = foxAt _ _ ((win0_5.blk t).view.emb (ix3 z u d) 0) (headOf ((win0_5.blk t).view.emb (ix3 z u d) 2)) ((win0_5.blk t).view.emb (ix3 z u d) 1) (withinHead ((win0_5.blk t).view.emb (ix3 z u d) 2))
  rw [h3, h4, h1, e0]

end Cert.KernelIdeal.Fox
-- ==== Proof.Reference.lean ====
/-
  The reference's result, at an index.
-/
module

public import proofs.«01_k».proof.Proof.Gen.ReferenceIdeal.Read
public import proofs.«01_k».proof.Proof.Array

@[expose] public section

set_option maxRecDepth 16384

noncomputable section

namespace Cert.ReferenceIdeal.Fox

open Cert.ReferenceIdeal Cert.ReferenceIdeal.Gen Cert.ReferenceIdeal.Read Cert.Shapes Cert.Fox Idealize.ShloMosaic Idealize.ShloMosaic.TcCoe Idealize.SL.Sem

variable (A : FVec Ideal S33024x6144 .bf16) (C : FVec Ideal S16x2064x128 .f32)

/-- The projections of one sequence are rows of the argument. -/
theorem rows_at (b : Fin 16) (t : Fin 2064) (n : Fin 6144) : val_main_v1 (F := Ideal) A (ix3 b t n) = A (ix2 (tok b t) n) := by
  show shapeCast S16x2064x6144 A shapeCasts_S33024x6144_S16x2064x6144 (ix3 b t n) = _
  refine shapeCast_apply (s := S33024x6144) (t := S16x2064x6144) _ _ _ _ ?_
  rw [Shape.rowMajor_val_two, Shape.rowMajor_val_three]
  rfl

/-- A part of the projections laid out by heads. -/
theorem heads_at (p : Fin 3) (x : FVec Ideal S16x2064x2048 .f32)
    (hx : ∀ (b : Fin 16) (t : Fin 2064) (n : Fin 2048) (n' : Fin 6144), n'.val = p.val * 2048 + n.val → x (ix3 b t n) = A (ix2 (tok b t) n'))
    (b : Fin 16) (t : Fin 2064) (h : Fin 16) (d : Fin 128) :
    shapeCast S16x2064x16x128 x shapeCasts_S16x2064x2048_S16x2064x16x128 (ix4 b t h d) = A (ix2 (tok b t) (col p h d)) := by
  refine (shapeCast_apply (s := S16x2064x2048) (t := S16x2064x16x128) _ _ _ (ix3 b t ⟨h.val * 128 + d.val, by omega⟩) ?_).trans (hx _ _ _ _ ?_)
  · rw [Shape.rowMajor_val_three, Shape.rowMajor_val_four]
    show (b.val * 2064 + t.val) * 2048 + (h.val * 128 + d.val) = ((b.val * 2064 + t.val) * 16 + h.val) * 128 + d.val
    omega
  · show (p.val * 16 + h.val) * 128 + d.val = p.val * 2048 + (h.val * 128 + d.val)
    omega

/-- The queries by heads. -/
theorem queries_at (b : Fin 16) (t : Fin 2064) (h : Fin 16) (d : Fin 128) :
    val_main_v3 (F := Ideal) A (ix4 b t h d) = A (ix2 (tok b t) (col 0 h d)) := by
  refine heads_at A 0 _ (fun b t n n' e => ?_) b t h d
  refine (extractStridedSlice_apply (s := S16x2064x6144) (t := S16x2064x2048) _ _ _ _ (ix3 b t n') fun a => ?_).trans (rows_at A b t n')
  match a with
  | ⟨0, _⟩ => exact (Nat.zero_add _).symm
  | ⟨1, _⟩ => exact (Nat.zero_add _).symm
  | ⟨2, _⟩ => exact e

/-- The keys by heads. -/
theorem keys_at (b : Fin 16) (t : Fin 2064) (h : Fin 16) (d : Fin 128) :
    val_main_v5 (F := Ideal) A (ix4 b t h d) = A (ix2 (tok b t) (col 1 h d)) := by
  refine heads_at A 1 _ (fun b t n n' e => ?_) b t h d
  refine (extractStridedSlice_apply (s := S16x2064x6144) (t := S16x2064x2048) _ _ _ _ (ix3 b t n') fun a => ?_).trans (rows_at A b t n')
  match a with
  | ⟨0, _⟩ => exact (Nat.zero_add _).symm
  | ⟨1, _⟩ => exact (Nat.zero_add _).symm
  | ⟨2, _⟩ => exact e

/-- The values by heads. -/
theorem values_at (b : Fin 16) (t : Fin 2064) (h : Fin 16) (d : Fin 128) :
    val_main_v7 (F := Ideal) A (ix4 b t h d) = A (ix2 (tok b t) (col 2 h d)) := by
  refine heads_at A 2 _ (fun b t n n' e => ?_) b t h d
  refine (extractStridedSlice_apply (s := S16x2064x6144) (t := S16x2064x2048) _ _ _ _ (ix3 b t n') fun a => ?_).trans (rows_at A b t n')
  match a with
  | ⟨0, _⟩ => exact (Nat.zero_add _).symm
  | ⟨1, _⟩ => exact (Nat.zero_add _).symm
  | ⟨2, _⟩ => exact e

/-- The gates by heads. -/
theorem gates_at (b h : Fin 16) (t : Fin 2064) : val_main_v9 (F := Ideal) C (ix3 b h t) = C (ix3 b t (lane h)) := by
  refine (transpose_apply (s := S16x2064x16) (t := S16x16x2064) _ _ _ _ (ix3 b t h) fun a => ?_).trans ?_
  · match a with
    | ⟨0, _⟩ => rfl
    | ⟨1, _⟩ => rfl
    | ⟨2, _⟩ => rfl
  refine extractStridedSlice_apply (s := S16x2064x128) (t := S16x2064x16) _ _ _ _ _ fun a => ?_
  match a with
  | ⟨0, _⟩ => exact (Nat.zero_add _).symm
  | ⟨1, _⟩ => exact (Nat.zero_add _).symm
  | ⟨2, _⟩ => exact (Nat.zero_add _).symm

/-- A query's product with a key. -/
def qk (b h : Fin 16) (t s : Fin 2064) : EReal := ∑ x, A (ix2 (tok b t) (col 0 h x)) * A (ix2 (tok b s) (col 1 h x))

/-- The masked logits. -/
def logitAt (b h : Fin 16) (t s : Fin 2064) : EReal :=
  if s.val ≤ t.val then qk A b h t s * Ideal.log (Ideal.ofBits .f32 0x40000000#32) + C (ix3 b t (lane h)) - C (ix3 b s (lane h)) else ⊥

/-- The products of queries and keys. -/
theorem qk_at (b h : Fin 16) (t s : Fin 2064) : val_main_v10 (F := Ideal) A (ix4 b h t s) = qk A b h t s := by
  rw [val_main_v10_apply]
  refine Finset.sum_congr rfl fun x _ => ?_
  refine congrArg₂ (· * ·) (Eq.trans (congrArg _ (ValueIdx.eq_ix4 _)) (queries_at A b t h x)) (Eq.trans (congrArg _ (ValueIdx.eq_ix4 _)) (keys_at A b s h x))

/-- The reference's masked logits. -/
theorem logit_at (b h : Fin 16) (t s : Fin 2064) : val_main_v26 (F := Ideal) A C (ix4 b h t s) = logitAt A C b h t s := by
  rw [val_main_v26_apply, val_main_v19_apply, val_main_v16_apply, val_main_v13_apply, qk_at, val_main_v12_apply, val_main_v15_apply, val_main_v14_apply,
    val_main_v18_apply, val_main_v17_apply, val_main_call0_v1_apply, val_main_call0_v2_apply, val_main_v25_apply, val_main_v23_apply, val_main_v24_apply,
    val_main_v21_apply, val_main_v22_apply]
  have e1 : ∀ i : S16x16x2064.Idx, (i 0).val = b.val → (i 1).val = h.val → ∀ u : Fin 2064, (i 2).val = u.val → val_main_v9 (F := Ideal) C i = C (ix3 b u (lane h)) := by
    intro i h0 h1 u h2
    rw [← gates_at C b h u]
    refine congrArg _ (funext fun a => Fin.ext ?_)
    match a with
    | ⟨0, _⟩ => exact h0
    | ⟨1, _⟩ => exact h1
    | ⟨2, _⟩ => exact h2
  rw [e1 _ rfl rfl t rfl, e1 _ rfl rfl s rfl]
  show (if IntOp.cmpi .sge (BitVec.ofNat 32 t.val) (BitVec.ofNat 32 s.val) = 1#1 then
    qk A b h t s * Ideal.log (Ideal.ofBits .f32 0x40000000#32) + C (ix3 b t (lane h)) - C (ix3 b s (lane h)) else Ideal.ofBits .f32 0xFF800000#32) = _
  simp only [Cert.KernelIdeal.Fox.sge_ofNat t.val s.val (by omega) (by omega), ofBits_neg_inf]
  rfl

/-- A maximum along the last axis, from minus infinity. -/
theorem reduce_max (x : FVec Ideal S16x16x2064x2064 .f32) (hR : S16x16x2064x2064.Reduces [3] S16x16x2064) (b h : Fin 16) (t : Fin 2064) :
    Host.reduce FloatOps.maximumf x (val_main_cst_1 (F := Ideal)) reducesTo_S16x16x2064x2064_S16x16x2064_d3 h_S_ (ix3 b h t)
      = Finset.univ.sup fun s => x (ix4 b h t s) := by
  rw [Host.reduce_eq_fold_single (FloatOps.maximumf (F := Ideal) (φ := .f32)) x _ _ hR]
  have e : x ∘ hR.lift (ix3 b h t) = fun s => x (ix4 b h t s) := funext fun s => congrArg x (funext fun a => Fin.ext (by
    match a with
    | ⟨0, _⟩ => rfl
    | ⟨1, _⟩ => rfl
    | ⟨2, _⟩ => rfl
    | ⟨3, _⟩ => rfl))
  rw [e]
  show Finset.univ.fold max (Ideal.ofBits .f32 0xFF800000#32) _ = _
  rw [ofBits_neg_inf]
  rfl

/-- The greatest logit of a row. -/
theorem max_at (b h : Fin 16) (t : Fin 2064) : val_main_v29 (F := Ideal) A C (ix3 b h t) = Finset.univ.sup (logitAt A C b h t) := by
  rw [val_main_v29_apply, val_main_v28_apply]
  have e : val_main_v27 (F := Ideal) A C (ix3 b h t) = Finset.univ.sup (logitAt A C b h t) :=
    (reduce_max _ (by decide) b h t).trans (Finset.sup_congr rfl fun s _ => logit_at A C b h t s)
  rw [e]
  show max (Ideal.ofBits .f32 0xFF800000#32) _ = _
  rw [ofBits_neg_inf]
  exact bot_sup_eq _

/-- The exponentials of a row's logits, the greatest subtracted. -/
theorem exp_at (b h : Fin 16) (t s : Fin 2064) :
    val_main_v33 (F := Ideal) A C (ix4 b h t s) = Ideal.exp (logitAt A C b h t s - Finset.univ.sup (logitAt A C b h t)) := by
  rw [val_main_v33_apply, val_main_v32_apply, logit_at, val_main_v31_apply, val_main_v30_apply]
  have e : val_main_v29 (F := Ideal) A C (idx_main_v30 (idx_main_v31 (ix4 b h t s))) = Finset.univ.sup (logitAt A C b h t) :=
    Eq.trans (congrArg _ (ValueIdx.eq_ix3 _)) (max_at A C b h t)
  rw [e]
  rfl

/-- The weights of a row. -/
theorem weight_at (b h : Fin 16) (t s : Fin 2064) :
    val_main_v37 (F := Ideal) A C (ix4 b h t s) = Ideal.div (Ideal.exp (logitAt A C b h t s - Finset.univ.sup (logitAt A C b h t)))
      (∑ s, Ideal.exp (logitAt A C b h t s - Finset.univ.sup (logitAt A C b h t))) := by
  rw [val_main_v37_apply, exp_at, val_main_v36_apply, val_main_v35_apply]
  have e : val_main_v34 (F := Ideal) A C (idx_main_v35 (idx_main_v36 (ix4 b h t s)))
      = ∑ s, Ideal.exp (logitAt A C b h t s - Finset.univ.sup (logitAt A C b h t)) := by
    rw [val_main_v34_apply]
    show Ideal.ofBits .f32 0x00000000#32 + _ = _
    rw [Ideal.ofBits_zero_f32, zero_add]
    exact Finset.sum_congr rfl fun s _ => Eq.trans (congrArg _ (ValueIdx.eq_ix4 _)) (exp_at A C b h t s)
  rw [e]
  rfl

/-- The reference's result at an index: the values weighted by the softmax of the logits. -/
theorem result_at (i : S16x2064x2048.Idx) : val_main_v41 (F := Ideal) A C i
    = ∑ s, A (ix2 (tok (i 0) s) (col 2 (headOf (i 2)) (withinHead (i 2))))
      * Ideal.div (Ideal.exp (logitAt A C (i 0) (headOf (i 2)) (i 1) s - Finset.univ.sup (logitAt A C (i 0) (headOf (i 2)) (i 1))))
        (∑ s, Ideal.exp (logitAt A C (i 0) (headOf (i 2)) (i 1) s - Finset.univ.sup (logitAt A C (i 0) (headOf (i 2)) (i 1)))) := by
  obtain ⟨b, t, n, rfl⟩ : ∃ (b : Fin 16) (t : Fin 2064) (n : Fin 2048), i = ix3 b t n := ⟨_, _, _, ValueIdx.eq_ix3 i⟩
  show val_main_v40 (F := Ideal) A C (ix3 b t n) = _
  unfold val_main_v40
  refine (shapeCast_apply (s := S16x2064x16x128) (t := S16x2064x2048) _ _ _ (ix4 b t (headOf n) (withinHead n)) ?_).trans ?_
  · rw [Shape.rowMajor_val_three, Shape.rowMajor_val_four]
    show ((b.val * 2064 + t.val) * 16 + n.val / 128) * 128 + n.val % 128 = (b.val * 2064 + t.val) * 2048 + n.val
    omega
  rw [val_main_v39_apply, val_main_v38_apply]
  refine Finset.sum_congr rfl fun s _ => ?_
  exact congrArg₂ (· * ·) (Eq.trans (congrArg _ (ValueIdx.eq_ix4 _)) (values_at A b s (headOf n) (withinHead n)))
    (Eq.trans (congrArg _ (ValueIdx.eq_ix4 _)) (weight_at A C b (headOf n) t s))

end Cert.ReferenceIdeal.Fox
-- ==== Proof.Softmax.lean ====
/-
  The softmax of a row, in base two with the query's own gate left out, and in base e with it: the same weights, and
  dividing the weighted sum of the values is summing the divided weights.
-/
module

public import proofs.«01_k».proof.Proof.Chunk

@[expose] public section

noncomputable section

namespace Cert.Fox

open Idealize.ShloMosaic Cert.KernelIdeal.Fox

/-- A finite sum of extended reals times a nonnegative real. -/
theorem sum_mul_coe {n : ℕ} (f : Fin n → EReal) {r : ℝ} (hr : 0 ≤ r) : (∑ s, f s) * (r : EReal) = ∑ s, f s * (r : EReal) := by
  have h : ∀ S : Finset (Fin n), (∑ s ∈ S, f s) * (r : EReal) = ∑ s ∈ S, f s * (r : EReal) := fun S => by
    induction S using Finset.induction_on with
    | empty => simp
    | insert a S ha ih =>
      rw [Finset.sum_insert ha, Finset.sum_insert ha, EReal.right_distrib_of_nonneg_of_ne_top (EReal.coe_nonneg.2 hr) (EReal.coe_ne_top r), ih]
  exact h _

/-- A real sum of coerced reals. -/
theorem coe_sum {n : ℕ} (f : Fin n → ℝ) : ((∑ s, f s : ℝ) : EReal) = ∑ s, (f s : EReal) := by
  have h : ∀ S : Finset (Fin n), ((∑ s ∈ S, f s : ℝ) : EReal) = ∑ s ∈ S, (f s : EReal) := fun S => by
    induction S using Finset.induction_on with
    | empty => simp
    | insert a S ha ih => rw [Finset.sum_insert ha, Finset.sum_insert ha, EReal.coe_add, ih]
  exact h _

/-- The largest of a row of reals masked past `t` is the largest kept one. -/
theorem sup_masked_coe {n : ℕ} (t s₀ : Fin n) (u : Fin n → ℝ) (h₀ : s₀.val ≤ t.val) (h : ∀ s : Fin n, s.val ≤ t.val → u s ≤ u s₀) :
    (Finset.univ.sup fun s : Fin n => if s.val ≤ t.val then (u s : EReal) else ⊥) = (u s₀ : EReal) := by
  refine le_antisymm (Finset.sup_le fun s _ => ?_) ?_
  · by_cases hs : s.val ≤ t.val
    · rw [if_pos hs]; exact EReal.coe_le_coe_iff.2 (h s hs)
    · rw [if_neg hs]; exact bot_le
  · exact (if_pos h₀).symm.le.trans (Finset.le_sup (f := fun s : Fin n => if s.val ≤ t.val then (u s : EReal) else ⊥) (Finset.mem_univ s₀))

/-- The row the kernel computes is the softmax's. -/
theorem row_eq_softmax {n : ℕ} (t : Fin n) (a g : Fin n → ℝ) (U Z v : Fin n → EReal) (ct : EReal)
    (hU : ∀ s, U s = if s.val ≤ t.val then ((a s - g s * (Real.log 2)⁻¹ : ℝ) : EReal) else ⊥)
    (hZ : ∀ s, Z s = if s.val ≤ t.val then ((a s * Real.log 2 + g t - g s : ℝ) : EReal) else ⊥)
    (hct : ct = ((g t * (Real.log 2)⁻¹ : ℝ) : EReal)) :
    row U ct v = ∑ s, v s * Ideal.div (Ideal.exp (Z s - Finset.univ.sup Z)) (∑ s, Ideal.exp (Z s - Finset.univ.sup Z)) := by
  have hl : (0 : ℝ) < Real.log 2 := Real.log_pos (by norm_num)
  let u : Fin n → ℝ := fun s => a s - g s * (Real.log 2)⁻¹
  let R : Fin n → ℝ := fun s => a s * Real.log 2 + g t - g s
  have hR : ∀ s, R s = Real.log 2 * u s + g t := fun s => by
    show a s * Real.log 2 + g t - g s = Real.log 2 * (a s - g s * (Real.log 2)⁻¹) + g t
    field_simp
    ring
  obtain ⟨s₀, hs₀, hmax⟩ := Finset.exists_max_image (Finset.univ.filter fun s : Fin n => s.val ≤ t.val) u ⟨t, by simp⟩
  have h₀ : s₀.val ≤ t.val := (Finset.mem_filter.1 hs₀).2
  have hm : ∀ s : Fin n, s.val ≤ t.val → u s ≤ u s₀ := fun s hs => hmax s (Finset.mem_filter.2 ⟨Finset.mem_univ _, hs⟩)
  have supU : Finset.univ.sup U = (u s₀ : EReal) := by
    rw [show U = fun s : Fin n => if s.val ≤ t.val then (u s : EReal) else ⊥ from funext hU]
    exact sup_masked_coe t s₀ u h₀ hm
  have supZ : Finset.univ.sup Z = (R s₀ : EReal) := by
    rw [show Z = fun s : Fin n => if s.val ≤ t.val then (R s : EReal) else ⊥ from funext hZ]
    refine sup_masked_coe t s₀ R h₀ fun s hs => ?_
    rw [hR, hR]
    exact add_le_add (mul_le_mul_of_nonneg_left (hm s hs) hl.le) le_rfl
  let e : Fin n → ℝ := fun s => if s.val ≤ t.val then Real.exp (R s - R s₀) else 0
  have eU : ∀ s, Ideal.exp2 (U s + moved U ct) = (e s : EReal) := fun s => by
    have hmv : moved U ct = ((-u s₀ : ℝ) : EReal) := by
      unfold moved
      rw [supU, hct, ← EReal.coe_add, ← EReal.coe_sub]
      congr 1
      ring
    rw [hmv, hU s]
    by_cases hs : s.val ≤ t.val
    · rw [if_pos hs, ← EReal.coe_add, Ideal.exp2_coe]
      show ((2 : ℝ) ^ (u s + -u s₀) : ℝ) = ((e s : ℝ) : EReal)
      congr 1
      show (2 : ℝ) ^ (u s + -u s₀) = if s.val ≤ t.val then Real.exp (R s - R s₀) else 0
      rw [if_pos hs, Real.rpow_def_of_pos (by norm_num), hR, hR]
      congr 1
      ring
    · rw [if_neg hs, EReal.bot_add]
      show (0 : EReal) = ((if s.val ≤ t.val then Real.exp (R s - R s₀) else 0 : ℝ) : EReal)
      rw [if_neg hs, EReal.coe_zero]
  have eZ : ∀ s, Ideal.exp (Z s - Finset.univ.sup Z) = (e s : EReal) := fun s => by
    rw [supZ, hZ s]
    by_cases hs : s.val ≤ t.val
    · rw [if_pos hs, ← EReal.coe_sub, Ideal.exp_coe]
      exact congrArg _ (if_pos hs).symm
    · rw [if_neg hs, EReal.bot_sub]
      show (0 : EReal) = ((if s.val ≤ t.val then Real.exp (R s - R s₀) else 0 : ℝ) : EReal)
      rw [if_neg hs, EReal.coe_zero]
  have e0 : ∀ s, 0 ≤ e s := fun s => by
    show 0 ≤ if s.val ≤ t.val then Real.exp (R s - R s₀) else 0
    split
    · exact (Real.exp_pos _).le
    · exact le_rfl
  have hL : (0 : ℝ) < ∑ s, e s := by
    refine Finset.sum_pos' (fun s _ => e0 s) ⟨s₀, Finset.mem_univ _, ?_⟩
    show 0 < if s₀.val ≤ t.val then Real.exp (R s₀ - R s₀) else 0
    rw [if_pos h₀]
    exact Real.exp_pos _
  unfold row
  simp only [eU, eZ]
  rw [← coe_sum, Ideal.div_coe hL.ne', sum_mul_coe _ (one_div_nonneg.2 hL.le)]
  refine Finset.sum_congr rfl fun s _ => ?_
  rw [Ideal.div_coe hL.ne', mul_comm (v s), mul_assoc, mul_comm (v s), ← mul_assoc]

end Cert.Fox
-- ==== Proof.Equal.lean ====
/-
  On finite queries, keys and gates the kernel's array is the reference's.
-/
module

public import proofs.«01_k».proof.Proof.Reference
public import proofs.«01_k».proof.Proof.Softmax
public import proofs.«01_k».proof.Proof.Gen.Pre_finite

@[expose] public section

set_option maxRecDepth 16384

noncomputable section

namespace Cert.Fox

open Cert.ReferenceIdeal Cert.ReferenceIdeal.Gen Cert.ReferenceIdeal.Read Cert.ReferenceIdeal.Fox Cert.Shapes Idealize.ShloMosaic
open Cert.KernelIdeal.Fox (foxArray foxAt foxLogit unit unit_eq)

/-- Plus infinity's bits. -/
theorem ofBits_inf : Ideal.ofBits .f32 0x7F800000#32 = ⊤ := by simp [Ideal.ofBits, Ideal.ieee]

/-- Two's bits. -/
theorem ofBits_two : Ideal.ofBits .f32 0x40000000#32 = ((2 : ℝ) : EReal) := by
  simp [Ideal.ofBits, Ideal.ieee]
  rw [← EReal.coe_mul]
  norm_num

/-- An extended real whose absolute value is below plus infinity is a real. -/
theorem real_of_abs_lt {x : EReal} (h : Ideal.cmp .olt (max x (-x)) (Ideal.ofBits .f32 0x7F800000#32) = 1#1) : ∃ r : ℝ, x = r := by
  rw [ofBits_inf] at h
  induction x using EReal.rec with
  | bot => simp [Ideal.cmp] at h
  | top => simp [Ideal.cmp] at h
  | coe r => exact ⟨r, rfl⟩

variable (A : FVec Ideal S33024x6144 .bf16) (C : FVec Ideal S16x2064x128 .f32)

/-- The precondition says the queries and keys are real. -/
theorem real_qk (h : (Cert.Pre_finite.fn (F := Ideal) A C).1 = fun _ => 1#1) (n : Fin 33024) (j : Fin 4096) (j' : Fin 6144) (e : j'.val = j.val) :
    ∃ r : ℝ, A (ix2 n j') = r := by
  refine real_of_abs_lt (Eq.trans ?_ (congrFun h (ix2 n j)))
  have e' : extractStridedSlice (s := S33024x6144) (⟨2, ![33024, 4096]⟩ : Shape) ![0, 0] A Cert.Pre_finite.Gen.slices_S33024x6144_S33024x4096_0_0 (ix2 n j) = A (ix2 n j') :=
    slice_mat 0 0 A _ n j n j' (Nat.zero_add _).symm (e.trans (Nat.zero_add _).symm)
  rw [← e']
  rfl

/-- The precondition says the gates are real. -/
theorem real_gate (h : (Cert.Pre_finite.fn (F := Ideal) A C).2 = fun _ => 1#1) (b : Fin 16) (t : Fin 2064) (j : Fin 16) :
    ∃ r : ℝ, C (ix3 b t (lane j)) = r := by
  refine real_of_abs_lt (Eq.trans ?_ (congrFun h (ix3 b t j)))
  have e' : extractStridedSlice (s := S16x2064x128) (⟨3, ![16, 2064, 16]⟩ : Shape) ![0, 0, 0] C Cert.Pre_finite.Gen.slices_S16x2064x128_S16x2064x16_0_0_0 (ix3 b t j) = C (ix3 b t (lane j)) :=
    extractStridedSlice_apply _ _ _ _ _ fun a => by
      match a with
      | ⟨0, _⟩ => exact (Nat.zero_add _).symm
      | ⟨1, _⟩ => exact (Nat.zero_add _).symm
      | ⟨2, _⟩ => exact (Nat.zero_add _).symm
  rw [← e']
  rfl

/-- On real queries, keys and gates the kernel's array is the reference's result. -/
theorem array_eq (h : (Cert.Pre_finite.fn (F := Ideal) A C).1 = (fun _ => 1#1) ∧ (Cert.Pre_finite.fn (F := Ideal) A C).2 = fun _ => 1#1) :
    foxArray A C = val_main_v41 (F := Ideal) A C := by
  funext i
  rw [result_at A C i]
  obtain ⟨b, hb⟩ : ∃ b : Fin 16, b = i 0 := ⟨_, rfl⟩
  obtain ⟨t, ht⟩ : ∃ t : Fin 2064, t = i 1 := ⟨_, rfl⟩
  obtain ⟨hd, hh⟩ : ∃ hd : Fin 16, hd = headOf (i 2) := ⟨_, rfl⟩
  rw [← hb, ← ht, ← hh]
  show foxAt A C (i 0) (headOf (i 2)) (i 1) (withinHead (i 2)) = _
  rw [← hb, ← ht, ← hh]
  have hq : ∀ (u : Fin 2064) (x : Fin 128), ∃ r : ℝ, A (ix2 (tok b u) (col 0 hd x)) = r := fun u x =>
    real_qk A C h.1 _ ⟨(0 * 16 + hd.val) * 128 + x.val, by omega⟩ _ rfl
  have hk : ∀ (u : Fin 2064) (x : Fin 128), ∃ r : ℝ, A (ix2 (tok b u) (col 1 hd x)) = r := fun u x =>
    real_qk A C h.1 _ ⟨(1 * 16 + hd.val) * 128 + x.val, by omega⟩ _ rfl
  choose q hq using hq
  choose k hk using hk
  choose g hg using fun u => real_gate A C h.2 b u hd
  have hqk : ∀ s, qk A b hd t s = ((∑ x, q t x * k s x : ℝ) : EReal) := fun s => by
    unfold qk
    rw [coe_sum]
    exact Finset.sum_congr rfl fun x _ => by rw [hq, hk, EReal.coe_mul]
  unfold foxAt
  refine row_eq_softmax t (fun s => ∑ x, q t x * k s x) g _ (logitAt A C b hd t) _ _ (fun s => ?_) (fun s => ?_) ?_
  · unfold foxLogit
    by_cases hs : s.val ≤ t.val
    · rw [if_pos hs, if_pos hs, hg, unit_eq, EReal.coe_sub, EReal.coe_mul, ← hqk]
      rfl
    · rw [if_neg hs, if_neg hs]
  · unfold logitAt
    by_cases hs : s.val ≤ t.val
    · rw [if_pos hs, if_pos hs, hg, hg, hqk, ofBits_two, Ideal.log_coe, if_neg (by norm_num), EReal.coe_sub, EReal.coe_add, EReal.coe_mul]
    · rw [if_neg hs, if_neg hs]
  · rw [hg, unit_eq, EReal.coe_mul]

end Cert.Fox
-- ==== Proof.Norm.lean ====
/-
  The operations the layer's calls share, read at an index: the root-mean-square norm of a row, the gated unit of the
  feed-forward halves, and a projection.
-/
module

public import proofs.«01_k».proof.Proof.Shapes

@[expose] public section

noncomputable section

namespace Cert.Layer

open Cert.Shapes Idealize.ShloMosaic

variable {m n k : ℕ}

/-- The model's width, as the programs spell it. -/
def width : EReal := Ideal.ofBits .f32 0x45000000#32

/-- The norm's small addend, as the programs spell it. -/
def eps : EReal := Ideal.ofBits .f32 0x358637BD#32

/-- A row of `n` numbers, divided by its root mean square (its squares' sum over `w`) and scaled by `g`. -/
def rms (w : EReal) (x g : Fin n → EReal) (j : Fin n) : EReal :=
  x j * Ideal.rsqrt (Ideal.div (∑ i, x i * x i) w + eps) * g j

/-- The gate `x / (1 + exp (-x))`. -/
def silu (x : EReal) : EReal := x * Ideal.logistic x

/-- The side conditions the norm of `m` rows of `n` takes. -/
structure RmsFacts (m n : ℕ) : Prop where
  red : (⟨2, ![m, n]⟩ : Shape).Reduces [1] ⟨1, ![m]⟩
  castCol : (⟨1, ![m]⟩ : Shape).ShapeCasts ⟨2, ![m, 1]⟩
  bcCol : (⟨2, ![m, 1]⟩ : Shape).Broadcasts ⟨2, ![m, n]⟩
  bcRow : (⟨2, ![1, n]⟩ : Shape).Broadcasts ⟨2, ![m, n]⟩

/-- The norm of every row of a block. -/
def rmsBlock (h : RmsFacts m n) (w : EReal) (x : FVec Ideal ⟨2, ![m, n]⟩ .f32) (g : FVec Ideal ⟨2, ![1, n]⟩ .f32) : FVec Ideal ⟨2, ![m, n]⟩ .f32 :=
  mulf (mulf x (broadcastTo _ (rsqrt (addf (divf (sumCol (mulf x x) h.red h.castCol) (broadcast _ (w : Ideal .f32))) (broadcast _ (eps : Ideal .f32)))) h.bcCol))
    (broadcastTo _ g h.bcRow)

/-- The norm of a block, at an index, is the norm of the row. -/
theorem rmsBlock_apply (h : RmsFacts m n) (w : EReal) (x : FVec Ideal ⟨2, ![m, n]⟩ .f32) (g : FVec Ideal ⟨2, ![1, n]⟩ .f32) (i : Fin m) (j : Fin n) :
    rmsBlock h w x g (ix2 i j) = rms w (fun k => x (ix2 i k)) (fun k => g (ix2 0 k)) j := by
  unfold rmsBlock
  show x (ix2 i j) * broadcastTo _ _ h.bcCol (ix2 i j) * broadcastTo _ _ h.bcRow (ix2 i j) = _
  rw [broadcast_col, broadcast_row]
  show x (ix2 i j) * Ideal.rsqrt (Ideal.div (sumCol (mulf x x) h.red h.castCol (ix2 i 0)) w + eps) * _ = _
  rw [sumCol_apply]
  rfl

/-- The norm of every row of a block, added to another block. -/
def residualBlock (h : RmsFacts m n) (w : EReal) (x y : FVec Ideal ⟨2, ![m, n]⟩ .f32) (g : FVec Ideal ⟨2, ![1, n]⟩ .f32)
    (hc : (⟨2, ![1, n]⟩ : Shape).ShapeCasts ⟨2, ![1, n]⟩) : FVec Ideal ⟨2, ![m, n]⟩ .f32 :=
  addf x (rmsBlock h w y (shapeCast _ g hc))

/-- A product of two blocks from a zero accumulator. -/
def proj (x : FVec Ideal ⟨2, ![m, k]⟩ .bf16) (w : FVec Ideal ⟨2, ![k, n]⟩ .bf16) : FVec Ideal ⟨2, ![m, n]⟩ .f32 :=
  matmul (DotDims.plain m k n) none x w (constant _ .f32 0x00000000#32)

/-- A product of two blocks is the sum over the shared axis. -/
theorem proj_apply (x : FVec Ideal ⟨2, ![m, k]⟩ .bf16) (w : FVec Ideal ⟨2, ![k, n]⟩ .bf16) (i : Fin m) (j : Fin n) :
    proj x w (ix2 i j) = ∑ a : Fin k, x (ix2 i a) * w (ix2 a j) := by
  show Ideal.matmul (DotDims.plain m k n) x w (constant (F := Ideal) _ .f32 0x00000000#32) (ix2 i j) = _
  rw [matmul_plain]
  show Ideal.ofBits .f32 0x00000000#32 + _ = _
  rw [Ideal.ofBits_zero_f32, zero_add]

/-- The logistic function, as the kernel spells it. -/
def logisticBlock (x : FVec Ideal ⟨2, ![m, n]⟩ .f32) : FVec Ideal ⟨2, ![m, n]⟩ .f32 :=
  divf (broadcast _ (Scalar.ofBits (F := Ideal) .f32 0x3F800000#32)) (addf (broadcast _ (Scalar.ofBits (F := Ideal) .f32 0x3F800000#32))
    (exp (subf (broadcast _ (Scalar.ofBits (F := Ideal) .f32 0x00000000#32)) x)))

/-- The kernel's logistic function is the logistic function. -/
theorem logisticBlock_apply (x : FVec Ideal ⟨2, ![m, n]⟩ .f32) (i : (⟨2, ![m, n]⟩ : Shape).Idx) : logisticBlock x i = Ideal.logistic (x i) := by
  show Ideal.div (Ideal.ofBits .f32 0x3F800000#32) (Ideal.ofBits .f32 0x3F800000#32 + Ideal.exp (Ideal.ofBits .f32 0x00000000#32 - x i)) = _
  rw [Ideal.ofBits_one_f32, Ideal.ofBits_zero_f32, zero_sub]
  rfl

/-- The gated unit of a block: the gate of one product times another product. -/
def gated (x : FVec Ideal ⟨2, ![m, k]⟩ .bf16) (wg wu : FVec Ideal ⟨2, ![k, n]⟩ .bf16) : FVec Ideal ⟨2, ![m, n]⟩ .f32 :=
  mulf (mulf (proj x wg) (logisticBlock (proj x wg))) (proj x wu)

/-- The gated unit at an index. -/
theorem gated_apply (x : FVec Ideal ⟨2, ![m, k]⟩ .bf16) (wg wu : FVec Ideal ⟨2, ![k, n]⟩ .bf16) (i : Fin m) (j : Fin n) :
    gated x wg wu (ix2 i j) = silu (∑ a : Fin k, x (ix2 i a) * wg (ix2 a j)) * ∑ a : Fin k, x (ix2 i a) * wu (ix2 a j) := by
  show proj x wg (ix2 i j) * logisticBlock (proj x wg) (ix2 i j) * proj x wu (ix2 i j) = _
  rw [logisticBlock_apply, proj_apply, proj_apply]
  rfl

/-- A `[1, 1, m, n]` block cast to a matrix reads its last two axes. -/
theorem cast_dropUnits {α : Type} (x : (⟨4, ![1, 1, m, n]⟩ : Shape).Idx → α) (h : (⟨4, ![1, 1, m, n]⟩ : Shape).ShapeCasts ⟨2, ![m, n]⟩) (i : Fin m) (j : Fin n) :
    shapeCast ⟨2, ![m, n]⟩ x h (ix2 i j) = x (ix4 0 0 i j) :=
  shapeCast_apply x h _ _ (by
    rw [Shape.rowMajor_val_four, Shape.rowMajor_val_two]
    show ((0 * 1 + 0) * m + i.val) * n + j.val = i.val * n + j.val
    simp)

/-- A cast of a matrix to its own shape is the matrix. -/
theorem cast_self {α : Type} (x : (⟨2, ![m, n]⟩ : Shape).Idx → α) (h : (⟨2, ![m, n]⟩ : Shape).ShapeCasts ⟨2, ![m, n]⟩) :
    shapeCast ⟨2, ![m, n]⟩ x h = x :=
  funext fun y => shapeCast_apply x h y y rfl

/-- A block plus the norm of another, at an index. -/
theorem residualBlock_apply (h : RmsFacts m n) (w : EReal) (x y : FVec Ideal ⟨2, ![m, n]⟩ .f32) (g : FVec Ideal ⟨2, ![1, n]⟩ .f32)
    (hc : (⟨2, ![1, n]⟩ : Shape).ShapeCasts ⟨2, ![1, n]⟩) (i : Fin m) (j : Fin n) :
    residualBlock h w x y g hc (ix2 i j) = x (ix2 i j) + rms w (fun k => y (ix2 i k)) (fun k => g (ix2 0 k)) j := by
  show x (ix2 i j) + rmsBlock h w y _ (ix2 i j) = _
  rw [rmsBlock_apply, cast_self]

/-- A vector cast to one row reads the vector. -/
theorem cast_asRow {α : Type} (x : (⟨1, ![n]⟩ : Shape).Idx → α) (h : (⟨1, ![n]⟩ : Shape).ShapeCasts ⟨2, ![1, n]⟩) (j : Fin n) :
    shapeCast ⟨2, ![1, n]⟩ x h (ix2 0 j) = x (ix1 j) :=
  shapeCast_apply x h _ _ (by
    rw [Shape.rowMajor_val_one, Shape.rowMajor_val_two]
    show j.val = 0 * n + j.val
    omega)

end Cert.Layer
-- ==== Proof.FeedPayload.lean ====
/-
  What a grid point of the feed-forward call stores, read at an index.
-/
module

public import proofs.«01_k».proof.Proof.Gen.Kernel2Ideal.Skeleton
public import proofs.«01_k».proof.Proof.Norm

@[expose] public section

set_option maxRecDepth 16384

noncomputable section

namespace Cert.Kernel2Ideal.Feed

open Cert.Kernel2Ideal Cert.Kernel2Ideal.Gen Cert.Shapes Cert.Layer Idealize.ShloMosaic

/-- The norm's side conditions hold for a block of 768 rows. -/
theorem rmsFacts : RmsFacts 768 2048 := by constructor <;> decide

/-- The block kept in scratch is the input block's norm. -/
theorem pay2_apply (x : Vec Ideal S768x2048 .f32) (g : Vec Ideal S1x2048 .f32) (r : Fin 768) (j : Fin 2048) :
    k0_pay2 x g (ix2 r j) = rms width (fun k => x (ix2 r k)) (fun k => g (ix2 0 k)) j := by
  have e : k0_pay2 x g = shapeCast S768x2048 (truncf (F := Ideal) .bf16 (rmsBlock rmsFacts width x (shapeCast S1x2048 g shapeCasts_S1x2048_S1x2048)) bitsLt_bf16_f32)
      shapeCasts_S768x2048_S768x2048 := rfl
  rw [e]
  refine (congrFun (cast_self (m := 768) (n := 2048) _ _) _).trans ?_
  refine (rmsBlock_apply rmsFacts width x _ r j).trans ?_
  rw [show shapeCast S1x2048 g shapeCasts_S1x2048_S1x2048 = g from cast_self (m := 1) (n := 2048) g _]

/-- The accumulator is reset to zero. -/
theorem pay3_apply (y : S768x2048.Idx) : k0_pay3 (F := Ideal) y = 0 := Ideal.ofBits_zero_f32

/-- A point adds its block of hidden units' contribution to the accumulator. -/
theorem pay4_apply (xn : Vec Ideal S768x2048 .bf16) (wg wu : Vec Ideal S1x1x2048x512 .bf16) (acc : Vec Ideal S768x2048 .f32) (wo : Vec Ideal S1x1x512x2048 .bf16)
    (r : Fin 768) (j : Fin 2048) :
    k0_pay4 xn wg wu acc wo (ix2 r j) = acc (ix2 r j)
      + ∑ f : Fin 512, (silu (∑ a : Fin 2048, xn (ix2 r a) * wg (ix4 0 0 a f)) * ∑ a : Fin 2048, xn (ix2 r a) * wu (ix4 0 0 a f)) * wo (ix4 0 0 f j) := by
  have e : k0_pay4 xn wg wu acc wo = addf (shapeCast S768x2048 acc shapeCasts_S768x2048_S768x2048)
      (proj (m := 768) (k := 512) (n := 2048) (truncf (F := Ideal) .bf16 (gated (m := 768) (k := 2048) (n := 512) xn
        (shapeCast S2048x512 wg shapeCasts_S1x1x2048x512_S2048x512) (shapeCast S2048x512 wu shapeCasts_S1x1x2048x512_S2048x512)) bitsLt_bf16_f32)
        (shapeCast S512x2048 wo shapeCasts_S1x1x512x2048_S512x2048)) := rfl
  rw [e]
  show shapeCast S768x2048 acc shapeCasts_S768x2048_S768x2048 (ix2 r j) + proj (m := 768) (k := 512) (n := 2048) _ _ (ix2 r j) = _
  rw [show shapeCast S768x2048 acc shapeCasts_S768x2048_S768x2048 = acc from cast_self (m := 768) (n := 2048) acc _, proj_apply]
  refine congrArg (acc (ix2 r j) + ·) (Finset.sum_congr rfl fun f _ => ?_)
  show gated (m := 768) (k := 2048) (n := 512) xn _ _ (ix2 r f) * shapeCast S512x2048 wo shapeCasts_S1x1x512x2048_S512x2048 (ix2 f j) = _
  rw [gated_apply, cast_dropUnits]
  simp only [cast_dropUnits]

/-- The last point of a block adds half the accumulator's norm to the input block. -/
theorem pay1_apply (y x : Vec Ideal S768x2048 .f32) (g : Vec Ideal S1x2048 .f32) (r : Fin 768) (j : Fin 2048) :
    k0_pay1 y x g (ix2 r j) = x (ix2 r j) + Ideal.ofBits .f32 0x3F000000#32 * rms width (fun k => y (ix2 r k)) (fun k => g (ix2 0 k)) j := by
  have e : k0_pay1 y x g = addf x (mulf (broadcast _ (Scalar.ofBits (F := Ideal) .f32 0x3F000000#32))
      (rmsBlock rmsFacts width (shapeCast S768x2048 y shapeCasts_S768x2048_S768x2048) (shapeCast S1x2048 g shapeCasts_S1x2048_S1x2048))) := rfl
  rw [e]
  show x (ix2 r j) + Ideal.ofBits .f32 0x3F000000#32 * rmsBlock rmsFacts width _ _ (ix2 r j) = _
  rw [rmsBlock_apply, show shapeCast S768x2048 y shapeCasts_S768x2048_S768x2048 = y from cast_self (m := 768) (n := 2048) y _,
    show shapeCast S1x2048 g shapeCasts_S1x2048_S1x2048 = g from cast_self (m := 1) (n := 2048) g _]

end Cert.Kernel2Ideal.Feed
-- ==== Proof.FeedArray.lean ====
/-
  The array the feed-forward call leaves, at an index, in terms of its arguments.
-/
module

public import proofs.«01_k».proof.Proof.Gen.Kernel2Ideal.Value
public import proofs.«01_k».proof.Proof.FeedPayload
public import Idealize.ShloMosaic.Lib.Pipeline.ReadBack
public import Idealize.ShloMosaic.Lib.Pipeline.ValueKit
public import Idealize.ShloMosaic.Lib.KernelVsHost

@[expose] public section

set_option maxRecDepth 16384

noncomputable section

namespace Cert.Feed

open Cert.Shapes Cert.Layer Idealize.ShloMosaic

/-- The shape of the activations: a row for each token. -/
abbrev Tokens : Shape := ⟨2, ![33024, 2048]⟩
/-- The shape of a norm's scale. -/
abbrev Scale : Shape := ⟨1, ![2048]⟩
/-- The shape of the input weights of all layers: gates in the first half of the last axis, their factors in the second. -/
abbrev InWeights : Shape := ⟨4, ![4, 2, 2048, 11264]⟩
/-- The shape of the output weights of all layers. -/
abbrev OutWeights : Shape := ⟨4, ![4, 2, 5632, 2048]⟩

variable (H : FVec Ideal Tokens .f32) (g : FVec Ideal Scale .f32) (Wi : FVec Ideal InWeights .f32) (Wo : FVec Ideal OutWeights .f32) (go : FVec Ideal Scale .f32)

/-- A token's normed row. -/
def normed (R : Fin 33024) (j : Fin 2048) : EReal := rms width (fun k => H (ix2 R k)) (fun k => g (ix1 k)) j

/-- A hidden unit's place among the gates. -/
def gateCol (f : Fin 5632) : Fin 11264 := ⟨f.val, by omega⟩

/-- A hidden unit's place among the gates' factors. -/
def upCol (f : Fin 5632) : Fin 11264 := ⟨5632 + f.val, by omega⟩

/-- A token's hidden unit. -/
def unitVal (R : Fin 33024) (f : Fin 5632) : EReal :=
  silu (∑ a, normed H g R a * Wi (ix4 0 0 a (gateCol f))) * ∑ a, normed H g R a * Wi (ix4 0 0 a (upCol f))

/-- What one hidden unit adds to a token's output, by the unit's number. -/
def term (R : Fin 33024) (j : Fin 2048) (f : ℕ) : EReal :=
  if h : f < 5632 then unitVal H g Wi R ⟨f, h⟩ * Wo (ix4 0 0 ⟨f, h⟩ j) else 0

/-- A token's output of the two products, before the last norm. -/
def mixed (R : Fin 33024) (j : Fin 2048) : EReal := ∑ f, unitVal H g Wi R f * Wo (ix4 0 0 f j)

/-- The feed-forward half: the token's row plus half the norm of the two products' output. -/
def feedAt (R : Fin 33024) (j : Fin 2048) : EReal :=
  H (ix2 R j) + Ideal.ofBits .f32 0x3F000000#32 * rms width (mixed H g Wi Wo R) (fun k => go (ix1 k)) j

/-- All units' terms make up the output. -/
theorem sum_term (R : Fin 33024) (j : Fin 2048) : ∑ f ∈ Finset.range 5632, term H g Wi Wo R j f = mixed H g Wi Wo R j := by
  rw [Finset.sum_range]
  exact Finset.sum_congr rfl fun f _ => dif_pos f.isLt

end Cert.Feed

namespace Cert.Kernel2Ideal.Feed

open Cert.Kernel2Ideal Cert.Kernel2Ideal.Gen Cert.Shapes Cert.Layer Cert.Feed Idealize.ShloMosaic Idealize.ShloMosaic.TcCoe Idealize.SL.Sem
open Idealize.ShloMosaic.Pipeline (Dat)

/-- The tokens' block of a point. -/
theorem index0 : ∀ t : Fin cfg0.N, win0_0.index t = ![t.val / 11, 0] := by decide +kernel
/-- The first scale's one block. -/
theorem index1 : ∀ t : Fin cfg0.N, win0_1.index t = ![0, 0] := by decide +kernel
/-- The gates' block of a point. -/
theorem index2 : ∀ t : Fin cfg0.N, win0_2.index t = ![0, 0, 0, t.val % 11] := by decide +kernel
/-- The gates' factors' block of a point. -/
theorem index3 : ∀ t : Fin cfg0.N, win0_3.index t = ![0, 0, 0, 11 + t.val % 11] := by decide +kernel
/-- The output weights' block of a point. -/
theorem index4 : ∀ t : Fin cfg0.N, win0_4.index t = ![0, 0, t.val % 11, 0] := by decide +kernel
/-- The second scale's one block. -/
theorem index5 : ∀ t : Fin cfg0.N, win0_5.index t = ![0, 0] := by decide +kernel
/-- The result's block of a point. -/
theorem index6 : ∀ t : Fin cfg0.N, win0_6.index t = ![t.val / 11, 0] := by decide +kernel

variable (m : (ℓ : Loc nD τ sig) → Buf (Elt Ideal) ℓ)

/-- The first point of a block: the accumulator is this point's part alone, the scratch is the block's norm. -/
theorem outs_first (c : Dev nD) (t : Fin cfg0.N) (h0 : t.val % 11 = 0) (h1 : ¬t.val % 11 = 10) :
    outsAt0 (F := Ideal) m c t.val t.isLt
      = (k0_pay4 (k0_pay2 (iblk m c 0 t) (iblk m c 1 t)) (iblk m c 2 t) (iblk m c 3 t) (k0_pay3 (F := Ideal)) (iblk m c 4 t), k0_pay2 (iblk m c 0 t) (iblk m c 1 t)) := by
  rw [outsAt0_A m c t h0 h1]
  refine Prod.ext ?_ ?_
  · dsimp only
    frame_out
  · dsimp only
    frame_out

/-- A later point but the last: its part is added, the scratch stays. -/
theorem outs_next (c : Dev nD) (t : Fin cfg0.N) (h0 : ¬t.val % 11 = 0) (h1 : ¬t.val % 11 = 10) :
    outsAt0 (F := Ideal) m c t.val t.isLt
      = (k0_pay4 (outsAt0 m c (t.val - 1) (Nat.lt_of_le_of_lt (Nat.sub_le _ _) t.isLt)).2 (iblk m c 2 t) (iblk m c 3 t)
          (outsAt0 m c (t.val - 1) (Nat.lt_of_le_of_lt (Nat.sub_le _ _) t.isLt)).1 (iblk m c 4 t),
        (outsAt0 m c (t.val - 1) (Nat.lt_of_le_of_lt (Nat.sub_le _ _) t.isLt)).2) := by
  rw [outsAt0_B m c t h0 h1]
  refine Prod.ext ?_ ?_
  · dsimp only
    frame_out
    simp only [read_unread_whole]
  · rfl

/-- The last point of a block: after its part is added, the block's result takes the accumulator's place. -/
theorem outs_last (c : Dev nD) (t : Fin cfg0.N) (h0 : ¬t.val % 11 = 0) (h1 : t.val % 11 = 10) :
    outsAt0 (F := Ideal) m c t.val t.isLt
      = (k0_pay1 (k0_pay4 (outsAt0 m c (t.val - 1) (Nat.lt_of_le_of_lt (Nat.sub_le _ _) t.isLt)).2 (iblk m c 2 t) (iblk m c 3 t)
          (outsAt0 m c (t.val - 1) (Nat.lt_of_le_of_lt (Nat.sub_le _ _) t.isLt)).1 (iblk m c 4 t)) (iblk m c 0 t) (iblk m c 5 t),
        (outsAt0 m c (t.val - 1) (Nat.lt_of_le_of_lt (Nat.sub_le _ _) t.isLt)).2) := by
  rw [outsAt0_C m c t h0 h1]
  refine Prod.ext ?_ ?_
  · dsimp only
    frame_out
    simp only [read_unread_whole]
  · rfl

/-- The token of a point's row. -/
def tokenOf (n : ℕ) (hn : n < cfg0.N) (r : Fin 768) : Fin 33024 :=
  ⟨n / 11 * 768 + r.val, by have h : n < 473 := Nat.lt_of_lt_of_eq hn N_0; omega⟩

/-- A scale laid out as one row is the argument's. -/
theorem V_scale (c : Dev nD) (a : Fin 2048) :
    V (F := Ideal) m c main_v2 (ix2 0 a) = m ((c : Thread nD τ).loc main_arg1) (ix1 a)
    ∧ V (F := Ideal) m c main_v3 (ix2 0 a) = m ((c : Thread nD τ).loc main_arg4) (ix1 a) := by
  have e2 : V (F := Ideal) m c main_v2 = shapeCast S1x2048 (m ((c : Thread nD τ).loc main_arg1)) shapeCasts_S2048_S1x2048 := rfl
  have e3 : V (F := Ideal) m c main_v3 = shapeCast S1x2048 (m ((c : Thread nD τ).loc main_arg4)) shapeCasts_S2048_S1x2048 := rfl
  rw [e2, e3]
  exact ⟨cast_asRow (n := 2048) _ _ a, cast_asRow (n := 2048) _ _ a⟩

/-- The staged input weights are the argument's. -/
theorem V_in (c : Dev nD) (i : S4x2x2048x11264.Idx) : V (F := Ideal) m c main_v0 i = m ((c : Thread nD τ).loc main_arg2) i := by
  have e : V (F := Ideal) m c main_v0 = truncf (F := Ideal) .bf16 (m ((c : Thread nD τ).loc main_arg2)) bitsLt_bf16_f32 := rfl
  rw [e]; rfl

/-- The staged output weights are the argument's. -/
theorem V_out (c : Dev nD) (i : S4x2x5632x2048.Idx) : V (F := Ideal) m c main_v1 i = m ((c : Thread nD τ).loc main_arg3) i := by
  have e : V (F := Ideal) m c main_v1 = truncf (F := Ideal) .bf16 (m ((c : Thread nD τ).loc main_arg3)) bitsLt_bf16_f32 := rfl
  rw [e]; rfl

/-- A point's block of tokens. -/
theorem iblk_tokens (c : Dev nD) (t : Fin cfg0.N) (r : Fin 768) (a : Fin 2048) :
    iblk (F := Ideal) m c 0 t (ix2 r a) = m ((c : Thread nD τ).loc main_arg0) (ix2 (tokenOf t.val t.isLt r) a) := by
  rw [← V_main_arg0 m c]
  blk_ext [iblk, index0 t, tokenOf]

/-- A point's blocks of scales. -/
theorem iblk_scale (c : Dev nD) (t : Fin cfg0.N) (a : Fin 2048) :
    iblk (F := Ideal) m c 1 t (ix2 0 a) = m ((c : Thread nD τ).loc main_arg1) (ix1 a)
    ∧ iblk (F := Ideal) m c 5 t (ix2 0 a) = m ((c : Thread nD τ).loc main_arg4) (ix1 a) := by
  constructor
  · refine Eq.trans ?_ (V_scale m c a).1
    blk_ext [iblk, index1 t]
  · refine Eq.trans ?_ (V_scale m c a).2
    blk_ext [iblk, index5 t]

/-- The hidden unit of a point's column. -/
def unitOf (n : ℕ) (f : Fin 512) : Fin 5632 := ⟨n % 11 * 512 + f.val, by omega⟩

/-- A point's blocks of the weights. -/
theorem iblk_weights (c : Dev nD) (t : Fin cfg0.N) (a : Fin 2048) (f : Fin 512) :
    iblk (F := Ideal) m c 2 t (ix4 0 0 a f) = m ((c : Thread nD τ).loc main_arg2) (ix4 0 0 a (gateCol (unitOf t.val f)))
    ∧ iblk (F := Ideal) m c 3 t (ix4 0 0 a f) = m ((c : Thread nD τ).loc main_arg2) (ix4 0 0 a (upCol (unitOf t.val f)))
    ∧ iblk (F := Ideal) m c 4 t (ix4 0 0 f a) = m ((c : Thread nD τ).loc main_arg3) (ix4 0 0 (unitOf t.val f) a) := by
  refine ⟨?_, ?_, ?_⟩
  · refine Eq.trans ?_ (V_in m c _)
    blk_ext [iblk, index2 t, gateCol, unitOf]
  · refine Eq.trans ?_ (V_in m c _)
    blk_ext [iblk, index3 t, upCol, unitOf]
  · refine Eq.trans ?_ (V_out m c _)
    blk_ext [iblk, index4 t, unitOf]

/-- A device's argument arrays. -/
abbrev tokens (c : Dev nD) : FVec Ideal Tokens .f32 := m ((c : Thread nD τ).loc main_arg0)
/-- The first norm's scale on a device. -/
abbrev scaleIn (c : Dev nD) : FVec Ideal Scale .f32 := m ((c : Thread nD τ).loc main_arg1)
/-- The input weights on a device. -/
abbrev weightsIn (c : Dev nD) : FVec Ideal InWeights .f32 := m ((c : Thread nD τ).loc main_arg2)
/-- The output weights on a device. -/
abbrev weightsOut (c : Dev nD) : FVec Ideal OutWeights .f32 := m ((c : Thread nD τ).loc main_arg3)
/-- The second norm's scale on a device. -/
abbrev scaleOut (c : Dev nD) : FVec Ideal Scale .f32 := m ((c : Thread nD τ).loc main_arg4)

/-- The norm of a point's block of tokens. -/
theorem pay2_block (c : Dev nD) (t : Fin cfg0.N) (r : Fin 768) (j : Fin 2048) :
    k0_pay2 (F := Ideal) (iblk m c 0 t) (iblk m c 1 t) (ix2 r j) = normed (tokens m c) (scaleIn m c) (tokenOf t.val t.isLt r) j := by
  refine (pay2_apply _ _ r j).trans ?_
  unfold normed
  congr 1
  · exact funext fun k => iblk_tokens m c t r k
  · exact funext fun k => (iblk_scale m c t k).1

/-- A point adds its block of hidden units' terms to the accumulator, when its scratch holds the block's norm. -/
theorem pay4_block (c : Dev nD) (t : Fin cfg0.N) (xn : Vec Ideal S768x2048 .bf16) (acc : Vec Ideal S768x2048 .f32) (r : Fin 768) (j : Fin 2048)
    (hx : ∀ a, xn (ix2 r a) = normed (tokens m c) (scaleIn m c) (tokenOf t.val t.isLt r) a)
    (ha : acc (ix2 r j) = ∑ f ∈ Finset.range (t.val % 11 * 512),
      term (tokens m c) (scaleIn m c) (weightsIn m c) (weightsOut m c) (tokenOf t.val t.isLt r) j f) :
    k0_pay4 (F := Ideal) xn (iblk m c 2 t) (iblk m c 3 t) acc (iblk m c 4 t) (ix2 r j) = ∑ f ∈ Finset.range ((t.val % 11 + 1) * 512),
      term (tokens m c) (scaleIn m c) (weightsIn m c) (weightsOut m c) (tokenOf t.val t.isLt r) j f := by
  refine (pay4_apply xn _ _ acc _ r j).trans ?_
  rw [ha, Nat.succ_mul, Finset.sum_range_add, Finset.sum_range (n := 512)]
  refine congrArg (_ + ·) (Finset.sum_congr rfl fun f _ => ?_)
  refine Eq.trans ?_ (dif_pos (unitOf t.val f).isLt).symm
  unfold unitVal
  refine congrArg₂ (· * ·) (congrArg₂ (· * ·) (congrArg silu (Finset.sum_congr rfl fun a _ => ?_)) (Finset.sum_congr rfl fun a _ => ?_)) ?_
  · exact congrArg₂ (· * ·) (hx a) (iblk_weights m c t a f).1
  · exact congrArg₂ (· * ·) (hx a) (iblk_weights m c t a f).2.1
  · exact (iblk_weights m c t j f).2.2

/-- What the points leave: the scratch holds the norm of the block of tokens; the output holds the terms of the hidden units
so far, and after the block's last point the result. -/
theorem outs_apply (c : Dev nD) (n : ℕ) (hn : n < cfg0.N) (r : Fin 768) :
    (∀ a, (outsAt0 (F := Ideal) m c n hn).2 (ix2 r a) = normed (tokens m c) (scaleIn m c) (tokenOf n hn r) a)
    ∧ (n % 11 ≠ 10 → ∀ j, (outsAt0 (F := Ideal) m c n hn).1 (ix2 r j) = ∑ f ∈ Finset.range ((n % 11 + 1) * 512),
      term (tokens m c) (scaleIn m c) (weightsIn m c) (weightsOut m c) (tokenOf n hn r) j f)
    ∧ (n % 11 = 10 → ∀ j, (outsAt0 (F := Ideal) m c n hn).1 (ix2 r j)
      = feedAt (tokens m c) (scaleIn m c) (weightsIn m c) (weightsOut m c) (scaleOut m c) (tokenOf n hn r) j) := by
  induction n using Nat.strong_induction_on with
  | _ n ih =>
  by_cases h0 : n % 11 = 0
  · have h1 : ¬n % 11 = 10 := by omega
    rw [outs_first m c ⟨n, hn⟩ h0 h1]
    refine ⟨fun a => pay2_block m c ⟨n, hn⟩ r a, fun _ j => ?_, fun h => absurd h h1⟩
    refine pay4_block m c ⟨n, hn⟩ _ _ r j (fun a => pay2_block m c ⟨n, hn⟩ r a) ?_
    show k0_pay3 (F := Ideal) (ix2 r j) = ∑ f ∈ Finset.range (n % 11 * 512), _
    rw [h0, Nat.zero_mul, Finset.sum_range_zero]
    exact pay3_apply _
  · have hlt : n - 1 < cfg0.N := Nat.lt_of_le_of_lt (Nat.sub_le _ _) hn
    have hs : tokenOf (n - 1) hlt r = tokenOf n hn r := Fin.ext (by simp only [tokenOf]; omega)
    have hk : (n - 1) % 11 + 1 = n % 11 := by omega
    obtain ⟨i1, i2, -⟩ := ih (n - 1) (by omega) hlt
    rw [hs] at i1 i2
    have i2 := i2 (by omega)
    rw [hk] at i2
    by_cases h1 : n % 11 = 10
    · rw [outs_last m c ⟨n, hn⟩ h0 h1]
      refine ⟨i1, fun h => absurd h1 h, fun _ j => ?_⟩
      refine (pay1_apply _ _ _ r j).trans ?_
      unfold feedAt
      refine congrArg₂ (· + ·) (iblk_tokens m c ⟨n, hn⟩ r j) (congrArg (_ * ·) ?_)
      congr 1
      · refine funext fun k => (pay4_block m c ⟨n, hn⟩ _ _ r k i1 (i2 k)).trans ?_
        show ∑ f ∈ Finset.range ((n % 11 + 1) * 512), _ = _
        rw [h1]
        exact sum_term _ _ _ _ _ k
      · exact funext fun k => (iblk_scale m c ⟨n, hn⟩ k).2
    · rw [outs_next m c ⟨n, hn⟩ h0 h1]
      exact ⟨i1, fun _ j => pay4_block m c ⟨n, hn⟩ _ _ r j i1 (i2 j), fun h => absurd h h1⟩

/-- The whole result of the feed-forward half. -/
def feedArray (c : Dev nD) : Vec Ideal S33024x2048 .f32 :=
  fun i => feedAt (tokens m c) (scaleIn m c) (weightsIn m c) (weightsOut m c) (scaleOut m c) (i 0) (i 1)

/-- The call leaves the feed-forward half of every token. -/
theorem arr_eq (c : Dev nD) : (dats (F := Ideal) m 0 c).arrAt 6 cfg0.N = feedArray m c := by
  refine (dats (F := Ideal) m 0 c).arrAt_eq_of_covers 6 _ (by decide +kernel) fun t hf y => ?_
  have h : t.val % 11 = 10 := (flush0_6 t).mp hf
  blk_simp
  rw [after0_6]
  obtain ⟨r, j, rfl⟩ : ∃ (r : Fin 768) (j : Fin 2048), y = ix2 r j := ⟨_, _, ValueIdx.eq_ix2 y⟩
  refine ((outs_apply m c t.val t.isLt r).2.2 h j).trans ?_
  have e0 : (win0_6.blk t).view.emb (ix2 r j) 0 = tokenOf t.val t.isLt r := Fin.ext (by blk_simp [index6 t, tokenOf])
  have e1 : (win0_6.blk t).view.emb (ix2 r j) 1 = j := Fin.ext (by blk_simp [index6 t])
  show _ = feedAt _ _ _ _ _ ((win0_6.blk t).view.emb (ix2 r j) 0) ((win0_6.blk t).view.emb (ix2 r j) 1)
  rw [e0, e1]

end Cert.Kernel2Ideal.Feed
-- ==== Proof.FeedReference.lean ====
/-
  The feed-forward reference's result, at an index.
-/
module

public import proofs.«01_k».proof.Proof.Gen.Reference2Ideal.Read
public import proofs.«01_k».proof.Proof.FeedArray

@[expose] public section

set_option maxRecDepth 16384

noncomputable section

namespace Cert.Reference2Ideal.Feed

open Cert.Reference2Ideal Cert.Reference2Ideal.Gen Cert.Reference2Ideal.Read Cert.Shapes Cert.Layer Cert.Feed Idealize.ShloMosaic Idealize.ShloMosaic.TcCoe Idealize.SL.Sem

variable (H : FVec Ideal S33024x2048 .f32) (g : FVec Ideal S2048 .f32) (Wi : FVec Ideal S4x2x2048x11264 .f32) (Wo : FVec Ideal S4x2x5632x2048 .f32)
  (go : FVec Ideal S2048 .f32)

/-- The reference's norm of a row. -/
theorem norm_at (R : Fin 33024) (j : Fin 2048) :
    val_main_v12 (F := Ideal) H g (ix2 R j) = rms width (fun k => H (ix2 R k)) (fun k => g (ix1 k)) j := by
  rw [val_main_v12_apply, val_main_v9_apply, val_main_v11_apply, val_main_v10_apply, val_main_v8_apply, val_main_v7_apply, val_main_v6_apply,
    val_main_v4_apply, val_main_v2_apply, val_main_v1_apply, val_main_v3_apply, val_main_v5_apply]
  have e : ∀ k, val_main_v0 (F := Ideal) H (idx_main_v1 (idx_main_v2 (idx_main_v8 (ix2 R j))) k) = H (ix2 R k) * H (ix2 R k) :=
    fun k => congrArg (val_main_v0 (F := Ideal) H) (ValueIdx.eq_ix2 _)
  simp only [e]
  show H (ix2 R j) * Ideal.rsqrt (Ideal.div (Ideal.ofBits .f32 0x00000000#32 + _) width + eps) * g _ = _
  rw [Ideal.ofBits_zero_f32, zero_add]
  exact congrArg (_ * ·) (congrArg g (ValueIdx.eq_ix1 _))

/-- One layer's input weights. -/
theorem in_at (a : Fin 2048) (n : Fin 11264) : val_main_v14 (F := Ideal) Wi (ix2 a n) = Wi (ix4 0 0 a n) := by
  show shapeCast S2048x11264 (val_main_v13 (F := Ideal) Wi) _ (ix2 a n) = _
  refine (cast_dropUnits (m := 2048) (n := 11264) _ _ a n).trans ?_
  rw [val_main_v13_apply]
  exact congrArg Wi (ValueIdx.eq_ix4 _)

/-- One layer's output weights. -/
theorem out_at (f : Fin 5632) (n : Fin 2048) : val_main_v16 (F := Ideal) Wo (ix2 f n) = Wo (ix4 0 0 f n) := by
  show shapeCast S5632x2048 (val_main_v15 (F := Ideal) Wo) _ (ix2 f n) = _
  refine (cast_dropUnits (m := 5632) (n := 2048) _ _ f n).trans ?_
  rw [val_main_v15_apply]
  exact congrArg Wo (ValueIdx.eq_ix4 _)

/-- The first product of a row. -/
theorem product_at (R : Fin 33024) (n : Fin 11264) :
    val_main_v17 (F := Ideal) H g Wi (ix2 R n) = ∑ a, normed H g R a * Wi (ix4 0 0 a n) := by
  rw [val_main_v17_apply]
  refine Finset.sum_congr rfl fun a _ => ?_
  exact congrArg₂ (· * ·) (Eq.trans (congrArg _ (ValueIdx.eq_ix2 _)) (norm_at H g R a)) (Eq.trans (congrArg _ (ValueIdx.eq_ix2 _)) (in_at Wi a n))

/-- The reference's gate of a number. -/
theorem gate_at (i : S33024x5632.Idx) : val_main_v19 (F := Ideal) H g Wi i = silu (val_main_v18 (F := Ideal) H g Wi i) := by
  rw [val_main_v19_apply, val_main_call0_v5_apply, val_main_call0_v4_apply, val_main_call0_v3_apply, val_main_call0_v2_apply, val_main_call0_v1_apply,
    val_main_call0_v0_apply]
  generalize val_main_v18 (F := Ideal) H g Wi i = x
  show x * Ideal.div (Ideal.ofBits .f32 0x3F800000#32) (Ideal.ofBits .f32 0x3F800000#32 + Ideal.exp (-x)) = _
  rw [Ideal.ofBits_one_f32]
  rfl

/-- The reference's hidden units. -/
theorem unit_at (R : Fin 33024) (f : Fin 5632) : val_main_v21 (F := Ideal) H g Wi (ix2 R f) = unitVal H g Wi R f := by
  rw [val_main_v21_apply, gate_at, val_main_v18_apply, val_main_v20_apply]
  have e1 : val_main_v17 (F := Ideal) H g Wi (idx_main_v18 (ix2 R f)) = ∑ a, normed H g R a * Wi (ix4 0 0 a (gateCol f)) :=
    Eq.trans (congrArg _ (Eq.trans (ValueIdx.eq_ix2 _) (congrArg (ix2 R) (Fin.ext rfl)))) (product_at H g Wi R (gateCol f))
  have e2 : val_main_v17 (F := Ideal) H g Wi (idx_main_v20 (ix2 R f)) = ∑ a, normed H g R a * Wi (ix4 0 0 a (upCol f)) :=
    Eq.trans (congrArg _ (Eq.trans (ValueIdx.eq_ix2 _) (congrArg (ix2 R) (Fin.ext (by rfl))))) (product_at H g Wi R (upCol f))
  rw [e1, e2]
  rfl

/-- The reference's second product of a row. -/
theorem mixed_at (R : Fin 33024) (j : Fin 2048) : val_main_v22 (F := Ideal) H g Wi Wo (ix2 R j) = mixed H g Wi Wo R j := by
  rw [val_main_v22_apply]
  refine Finset.sum_congr rfl fun f _ => ?_
  exact congrArg₂ (· * ·) (Eq.trans (congrArg _ (ValueIdx.eq_ix2 _)) (unit_at H g Wi R f)) (Eq.trans (congrArg _ (ValueIdx.eq_ix2 _)) (out_at Wo f j))

/-- The reference's result: the row plus half the norm of the two products' output. -/
theorem result_at (R : Fin 33024) (j : Fin 2048) : val_main_v38 (F := Ideal) H g Wi Wo go (ix2 R j) = feedAt H g Wi Wo go R j := by
  have e : val_main_v35 (F := Ideal) H g Wi Wo go = val_main_v12 (F := Ideal) (val_main_v22 (F := Ideal) H g Wi Wo) go := rfl
  rw [val_main_v38_apply, val_main_v37_apply, val_main_v36_apply, e, norm_at]
  simp only [mixed_at]
  rfl

end Cert.Reference2Ideal.Feed
-- ==== Proof.OutOdd.lean ====
/-
  The output of an odd mixer: what a grid point stores, the array the points leave, and the reference's result.
-/
module

public import proofs.«01_k».proof.Proof.Gen.Kernel3Ideal.Value
public import proofs.«01_k».proof.Proof.Gen.Reference3Ideal.Read
public import proofs.«01_k».proof.Proof.FeedReference

@[expose] public section

set_option maxRecDepth 16384

noncomputable section

namespace Cert.OutOdd

open Cert.Shapes Cert.Layer Cert.Feed Idealize.ShloMosaic

/-- The shape of the mixers' output weights, one matrix for each layer of a kind. -/
abbrev MixWeights : Shape := ⟨3, ![2, 2048, 2048]⟩

variable (H : FVec Ideal Tokens .f32) (O : FVec Ideal Tokens .bf16) (G : FVec Ideal Tokens .f32) (W : FVec Ideal MixWeights .f32) (g : FVec Ideal Scale .f32)

/-- A token's gated attention output times the weights. -/
def mixed (R : Fin 33024) (j : Fin 2048) : EReal := ∑ a, (O (ix2 R a) * Ideal.logistic (G (ix2 R a))) * W (ix3 0 a j)

/-- The token's row plus the norm of the product. -/
def outAt (R : Fin 33024) (j : Fin 2048) : EReal := H (ix2 R j) + rms width (mixed O G W R) (fun k => g (ix1 k)) j

end Cert.OutOdd

namespace Cert.Kernel3Ideal.Out

open Cert.Kernel3Ideal Cert.Kernel3Ideal.Gen Cert.Shapes Cert.Layer Cert.Feed Cert.OutOdd Idealize.ShloMosaic Idealize.ShloMosaic.TcCoe Idealize.SL.Sem
open Idealize.ShloMosaic.Pipeline (Dat)

/-- The norm's side conditions hold for a block of 384 rows. -/
theorem rmsFacts : RmsFacts 384 2048 := by constructor <;> decide

/-- A grid point adds the norm of the gated rows' product to its block. -/
theorem pay1_apply (o : Vec Ideal S384x2048 .bf16) (og : Vec Ideal S384x2048 .f32) (w : Vec Ideal S1x2048x2048 .bf16) (h : Vec Ideal S384x2048 .f32)
    (g : Vec Ideal S1x2048 .f32) (r : Fin 384) (j : Fin 2048) :
    k0_pay1 o og w h g (ix2 r j) = h (ix2 r j)
      + rms width (fun k => ∑ a : Fin 2048, (o (ix2 r a) * Ideal.logistic (og (ix2 r a))) * w (ix3 0 a k)) (fun k => g (ix2 0 k)) j := by
  have e : k0_pay1 o og w h g = residualBlock rmsFacts width h (proj (m := 384) (k := 2048) (n := 2048)
      (truncf (F := Ideal) .bf16 (mulf (extf (F := Ideal) .f32 o bitsLt_bf16_f32) (logisticBlock (m := 384) (n := 2048) og)) bitsLt_bf16_f32)
      (shapeCast S2048x2048 w shapeCasts_S1x2048x2048_S2048x2048)) g shapeCasts_S1x2048_S1x2048 := rfl
  rw [e, residualBlock_apply]
  refine congrArg (_ + ·) (congrArg (fun y => rms width y _ j) (funext fun k => ?_))
  rw [proj_apply]
  refine Finset.sum_congr rfl fun a _ => ?_
  exact congrArg₂ (· * ·) (congrArg (o (ix2 r a) * ·) (logisticBlock_apply og (ix2 r a))) (cast_dropUnit (m := 2048) (n := 2048) w _ a k)

/-- The tokens' block of a point, for all windows on tokens. -/
theorem indexTokens : ∀ t : Fin cfg0.N, win0_0.index t = ![t.val, 0] ∧ win0_1.index t = ![t.val, 0] ∧ win0_2.index t = ![t.val, 0]
    ∧ win0_5.index t = ![t.val, 0] := by decide +kernel
/-- The weights' and the scale's one block. -/
theorem indexWhole : ∀ t : Fin cfg0.N, win0_3.index t = ![0, 0, 0] ∧ win0_4.index t = ![0, 0] := by decide +kernel

variable (m : (ℓ : Loc nD τ sig) → Buf (Elt Ideal) ℓ)

/-- The token of a point's row. -/
def tokenOf (t : Fin cfg0.N) (r : Fin 384) : Fin 33024 :=
  ⟨t.val * 384 + r.val, by have h : t.val < 86 := Nat.lt_of_lt_of_eq t.isLt N_0; omega⟩

/-- The staged weights are the argument's. -/
theorem V_weights (c : Dev nD) (i : S2x2048x2048.Idx) : V (F := Ideal) m c main_v0 i = m ((c : Thread nD τ).loc main_arg3) i := by
  have e : V (F := Ideal) m c main_v0 = truncf (F := Ideal) .bf16 (m ((c : Thread nD τ).loc main_arg3)) bitsLt_bf16_f32 := rfl
  rw [e]; rfl

/-- The scale laid out as one row is the argument's. -/
theorem V_scale (c : Dev nD) (a : Fin 2048) : V (F := Ideal) m c main_v1 (ix2 0 a) = m ((c : Thread nD τ).loc main_arg4) (ix1 a) := by
  have e : V (F := Ideal) m c main_v1 = shapeCast S1x2048 (m ((c : Thread nD τ).loc main_arg4)) shapeCasts_S2048_S1x2048 := rfl
  rw [e]
  exact cast_asRow (n := 2048) _ _ a

/-- A point's blocks on tokens. -/
theorem iblk_tokens (c : Dev nD) (t : Fin cfg0.N) (r : Fin 384) (a : Fin 2048) :
    iblk (F := Ideal) m c 0 t (ix2 r a) = m ((c : Thread nD τ).loc main_arg0) (ix2 (tokenOf t r) a)
    ∧ iblk (F := Ideal) m c 1 t (ix2 r a) = m ((c : Thread nD τ).loc main_arg1) (ix2 (tokenOf t r) a)
    ∧ iblk (F := Ideal) m c 2 t (ix2 r a) = m ((c : Thread nD τ).loc main_arg2) (ix2 (tokenOf t r) a) := by
  refine ⟨?_, ?_, ?_⟩
  · rw [← V_main_arg0 m c]
    blk_ext [iblk, (indexTokens t).1, tokenOf]
  · rw [← V_main_arg1 m c]
    blk_ext [iblk, (indexTokens t).2.1, tokenOf]
  · rw [← V_main_arg2 m c]
    blk_ext [iblk, (indexTokens t).2.2.1, tokenOf]

/-- A point's blocks of the weights and the scale. -/
theorem iblk_whole (c : Dev nD) (t : Fin cfg0.N) (a j : Fin 2048) :
    iblk (F := Ideal) m c 3 t (ix3 0 a j) = m ((c : Thread nD τ).loc main_arg3) (ix3 0 a j)
    ∧ iblk (F := Ideal) m c 4 t (ix2 0 a) = m ((c : Thread nD τ).loc main_arg4) (ix1 a) := by
  constructor
  · refine Eq.trans ?_ (V_weights m c _)
    blk_ext [iblk, (indexWhole t).1]
  · refine Eq.trans ?_ (V_scale m c a)
    blk_ext [iblk, (indexWhole t).2]

/-- The whole result. -/
def outArray (c : Dev nD) : Vec Ideal S33024x2048 .f32 := fun i =>
  outAt (m ((c : Thread nD τ).loc main_arg0)) (m ((c : Thread nD τ).loc main_arg1)) (m ((c : Thread nD τ).loc main_arg2)) (m ((c : Thread nD τ).loc main_arg3))
    (m ((c : Thread nD τ).loc main_arg4)) (i 0) (i 1)

/-- The call leaves every token's row plus the norm of its mixer's output. -/
theorem arr_eq (c : Dev nD) : (dats (F := Ideal) m 0 c).arrAt 5 cfg0.N = outArray m c := by
  refine (dats (F := Ideal) m 0 c).arrAt_eq_of_covers 5 _ (by decide +kernel) fun t hf y => ?_
  blk_simp
  rw [after0_5]
  frame_out
  obtain ⟨r, j, rfl⟩ : ∃ (r : Fin 384) (j : Fin 2048), y = ix2 r j := ⟨_, _, ValueIdx.eq_ix2 y⟩
  refine (pay1_apply _ _ _ _ _ r j).trans ?_
  have e0 : (win0_5.blk t).view.emb (ix2 r j) 0 = tokenOf t r := Fin.ext (by blk_simp [(indexTokens t).2.2.2, tokenOf])
  have e1 : (win0_5.blk t).view.emb (ix2 r j) 1 = j := Fin.ext (by blk_simp [(indexTokens t).2.2.2])
  show _ = outAt _ _ _ _ _ ((win0_5.blk t).view.emb (ix2 r j) 0) ((win0_5.blk t).view.emb (ix2 r j) 1)
  rw [e0, e1]
  unfold outAt
  refine congrArg₂ (· + ·) (iblk_tokens m c t r j).1 ?_
  congr 1
  · refine funext fun k => Finset.sum_congr rfl fun a _ => ?_
    exact congrArg₂ (· * ·) (congrArg₂ (· * ·) (iblk_tokens m c t r a).2.1 (congrArg Ideal.logistic (iblk_tokens m c t r a).2.2)) (iblk_whole m c t a k).1
  · exact funext fun k => (iblk_whole m c t k k).2

end Cert.Kernel3Ideal.Out

namespace Cert.Reference3Ideal.Out

open Cert.Reference3Ideal Cert.Reference3Ideal.Gen Cert.Reference3Ideal.Read Cert.Shapes Cert.Layer Cert.Feed Cert.OutOdd Idealize.ShloMosaic
open Idealize.ShloMosaic.TcCoe Idealize.SL.Sem

variable (H : FVec Ideal S33024x2048 .f32) (O : FVec Ideal S33024x2048 .bf16) (G : FVec Ideal S33024x2048 .f32) (W : FVec Ideal S2x2048x2048 .f32)
  (g : FVec Ideal S2048 .f32)

/-- The layer's weights. -/
theorem weights_at (a j : Fin 2048) : val_main_v9 (F := Ideal) W (ix2 a j) = W (ix3 0 a j) := by
  show shapeCast S2048x2048 (val_main_v8 (F := Ideal) W) _ (ix2 a j) = _
  refine (cast_dropUnit (m := 2048) (n := 2048) _ _ a j).trans ?_
  rw [val_main_v8_apply]
  exact congrArg W (ValueIdx.eq_ix3 _)

/-- The gated output of the attention. -/
theorem gated_at (i : S33024x2048.Idx) : val_main_v7 (F := Ideal) O G i = O i * Ideal.logistic (G i) := by
  rw [val_main_v7_apply, val_main_v6_apply, val_main_v5_apply, val_main_v4_apply, val_main_v3_apply, val_main_v2_apply, val_main_v1_apply, val_main_v0_apply]
  show O i * Ideal.div (Ideal.ofBits .f32 0x3F800000#32) (Ideal.ofBits .f32 0x3F800000#32 + Ideal.exp (-G i)) = _
  rw [Ideal.ofBits_one_f32]
  rfl

/-- The product of a row. -/
theorem mixed_at (R : Fin 33024) (j : Fin 2048) : val_main_v10 (F := Ideal) O G W (ix2 R j) = mixed O G W R j := by
  rw [val_main_v10_apply]
  refine Finset.sum_congr rfl fun a _ => ?_
  exact congrArg₂ (· * ·) (Eq.trans (congrArg _ (ValueIdx.eq_ix2 _)) (gated_at O G (ix2 R a))) (Eq.trans (congrArg _ (ValueIdx.eq_ix2 _)) (weights_at W a j))

/-- The reference's result: the row plus the norm of the product. -/
theorem result_at (R : Fin 33024) (j : Fin 2048) : val_main_v24 (F := Ideal) H O G W g (ix2 R j) = outAt H O G W g R j := by
  have e : val_main_v23 (F := Ideal) O G W g = Cert.Reference2Ideal.Read.val_main_v12 (F := Ideal) (val_main_v10 (F := Ideal) O G W) g := rfl
  rw [val_main_v24_apply, e]
  refine congrArg (H (ix2 R j) + ·) ((Cert.Reference2Ideal.Feed.norm_at _ g R j).trans ?_)
  exact congrArg (fun y => rms width y _ j) (funext fun k => mixed_at O G W R k)

end Cert.Reference3Ideal.Out
-- ==== Proof.OutEven.lean ====
/-
  The output of an even mixer: what a grid point stores, the array the points leave, and the reference's result.
-/
module

public import proofs.«01_k».proof.Proof.Gen.Kernel4Ideal.Value
public import proofs.«01_k».proof.Proof.Gen.Reference4Ideal.Read
public import proofs.«01_k».proof.Proof.OutOdd

@[expose] public section

set_option maxRecDepth 16384

noncomputable section

namespace Cert.OutEven

open Cert.Shapes Cert.Layer Cert.Feed Cert.OutOdd Idealize.ShloMosaic

/-- The shape of half a mixer's output: a row of 1024 for each token. -/
abbrev Half : Shape := ⟨2, ![33024, 1024]⟩
/-- The shape of the scan's output: a row for each position, with the sequences' rows of 1024 side by side. -/
abbrev Scanned : Shape := ⟨2, ![2064, 16384]⟩

variable (H : FVec Ideal Tokens .f32) (Ya : FVec Ideal Half .bf16) (Yb : FVec Ideal Scanned .bf16) (G : FVec Ideal Half .f32)
  (W : FVec Ideal MixWeights .f32) (g : FVec Ideal Scale .f32)

/-- A token's position in its sequence. -/
def posOf (R : Fin 33024) : Fin 2064 := ⟨R.val % 2064, by omega⟩

/-- A channel of a token's sequence, in the scan's layout. -/
def laneOf (R : Fin 33024) (a : Fin 1024) : Fin 16384 := ⟨R.val / 2064 * 1024 + a.val, by omega⟩

/-- A channel's place in the first half of a row. -/
def lower (a : Fin 1024) : Fin 2048 := ⟨a.val, by omega⟩

/-- A channel's place in the second half of a row. -/
def upper (a : Fin 1024) : Fin 2048 := ⟨1024 + a.val, by omega⟩

/-- A token's two halves times the halves of the weights; the second half is gated. -/
def mixed (R : Fin 33024) (j : Fin 2048) : EReal :=
  ∑ a, Ya (ix2 R a) * W (ix3 0 (lower a) j) + ∑ a, (Yb (ix2 (posOf R) (laneOf R a)) * G (ix2 R a)) * W (ix3 0 (upper a) j)

/-- The token's row plus the norm of the product. -/
def outAt (R : Fin 33024) (j : Fin 2048) : EReal := H (ix2 R j) + rms width (mixed Ya Yb G W R) (fun k => g (ix1 k)) j

end Cert.OutEven

namespace Cert.Kernel4Ideal.Out

open Cert.Kernel4Ideal Cert.Kernel4Ideal.Gen Cert.Shapes Cert.Layer Cert.Feed Cert.OutEven Idealize.ShloMosaic Idealize.ShloMosaic.TcCoe Idealize.SL.Sem
open Idealize.ShloMosaic.Pipeline (Dat)

/-- The norm's side conditions hold for a block of 688 rows. -/
theorem rmsFacts : RmsFacts 688 2048 := by constructor <;> decide

/-- A grid point adds the norm of the two products' sum to its block. -/
theorem pay1_apply (yb : Vec Ideal S688x1024 .bf16) (gt : Vec Ideal S688x1024 .f32) (ya : Vec Ideal S688x1024 .bf16) (wa wb : Vec Ideal S1x1024x2048 .bf16)
    (h : Vec Ideal S688x2048 .f32) (g : Vec Ideal S1x2048 .f32) (r : Fin 688) (j : Fin 2048) :
    k0_pay1 yb gt ya wa wb h g (ix2 r j) = h (ix2 r j)
      + rms width (fun k => ∑ a : Fin 1024, ya (ix2 r a) * wa (ix3 0 a k) + ∑ a : Fin 1024, (yb (ix2 r a) * gt (ix2 r a)) * wb (ix3 0 a k))
        (fun k => g (ix2 0 k)) j := by
  have e : k0_pay1 yb gt ya wa wb h g = residualBlock rmsFacts width h (addf
      (proj (m := 688) (k := 1024) (n := 2048) ya (shapeCast S1024x2048 wa shapeCasts_S1x1024x2048_S1024x2048))
      (proj (m := 688) (k := 1024) (n := 2048) (truncf (F := Ideal) .bf16 (mulf (extf (F := Ideal) .f32 yb bitsLt_bf16_f32) gt) bitsLt_bf16_f32)
        (shapeCast S1024x2048 wb shapeCasts_S1x1024x2048_S1024x2048))) g shapeCasts_S1x2048_S1x2048 := rfl
  rw [e, residualBlock_apply]
  refine congrArg (_ + ·) (congrArg (fun y => rms width y _ j) (funext fun k => ?_))
  show proj (m := 688) (k := 1024) (n := 2048) _ _ (ix2 r k) + proj (m := 688) (k := 1024) (n := 2048) _ _ (ix2 r k) = _
  rw [proj_apply, proj_apply]
  refine congrArg₂ (· + ·) (Finset.sum_congr rfl fun a _ => ?_) (Finset.sum_congr rfl fun a _ => ?_)
  · exact congrArg (_ * ·) (cast_dropUnit (m := 1024) (n := 2048) wa _ a k)
  · exact congrArg (_ * ·) (cast_dropUnit (m := 1024) (n := 2048) wb _ a k)

/-- The tokens' block of a point, for all windows on tokens. -/
theorem indexTokens : ∀ t : Fin cfg0.N, win0_0.index t = ![t.val, 0] ∧ win0_1.index t = ![t.val, 0] ∧ win0_3.index t = ![t.val, 0]
    ∧ win0_7.index t = ![t.val, 0] := by decide +kernel
/-- The scan's block of a point: the positions of a third of a sequence, and the sequence's channels. -/
theorem indexScan : ∀ t : Fin cfg0.N, win0_2.index t = ![t.val % 3, t.val / 3] := by decide +kernel
/-- The weights' two blocks and the scale's one. -/
theorem indexWhole : ∀ t : Fin cfg0.N, win0_4.index t = ![0, 0, 0] ∧ win0_5.index t = ![0, 1, 0] ∧ win0_6.index t = ![0, 0] := by decide +kernel

variable (m : (ℓ : Loc nD τ sig) → Buf (Elt Ideal) ℓ)

/-- The token of a point's row. -/
def tokenOf (t : Fin cfg0.N) (r : Fin 688) : Fin 33024 :=
  ⟨t.val * 688 + r.val, by have h : t.val < 48 := Nat.lt_of_lt_of_eq t.isLt N_0; omega⟩

/-- The staged weights are the argument's. -/
theorem V_weights (c : Dev nD) (i : S2x2048x2048.Idx) : V (F := Ideal) m c main_v0 i = m ((c : Thread nD τ).loc main_arg4) i := by
  have e : V (F := Ideal) m c main_v0 = truncf (F := Ideal) .bf16 (m ((c : Thread nD τ).loc main_arg4)) bitsLt_bf16_f32 := rfl
  rw [e]; rfl

/-- The scale laid out as one row is the argument's. -/
theorem V_scale (c : Dev nD) (a : Fin 2048) : V (F := Ideal) m c main_v1 (ix2 0 a) = m ((c : Thread nD τ).loc main_arg5) (ix1 a) := by
  have e : V (F := Ideal) m c main_v1 = shapeCast S1x2048 (m ((c : Thread nD τ).loc main_arg5)) shapeCasts_S2048_S1x2048 := rfl
  rw [e]
  exact cast_asRow (n := 2048) _ _ a

/-- A point's block of the input. -/
theorem iblk_input (c : Dev nD) (t : Fin cfg0.N) (r : Fin 688) (a : Fin 2048) :
    iblk (F := Ideal) m c 0 t (ix2 r a) = m ((c : Thread nD τ).loc main_arg0) (ix2 (tokenOf t r) a) := by
  rw [← V_main_arg0 m c]
  blk_ext [iblk, (indexTokens t).1, tokenOf]

/-- A point's blocks of the two halves and the gate. -/
theorem iblk_halves (c : Dev nD) (t : Fin cfg0.N) (r : Fin 688) (a : Fin 1024) :
    iblk (F := Ideal) m c 1 t (ix2 r a) = m ((c : Thread nD τ).loc main_arg1) (ix2 (tokenOf t r) a)
    ∧ iblk (F := Ideal) m c 2 t (ix2 r a) = m ((c : Thread nD τ).loc main_arg2) (ix2 (posOf (tokenOf t r)) (laneOf (tokenOf t r) a))
    ∧ iblk (F := Ideal) m c 3 t (ix2 r a) = m ((c : Thread nD τ).loc main_arg3) (ix2 (tokenOf t r) a) := by
  have hp : (t.val * 688 + r.val) % 2064 = t.val % 3 * 688 + r.val := by omega
  have hq : (t.val * 688 + r.val) / 2064 = t.val / 3 := by omega
  refine ⟨?_, ?_, ?_⟩
  · rw [← V_main_arg1 m c]
    blk_ext [iblk, (indexTokens t).2.1, tokenOf]
  · rw [← V_main_arg2 m c]
    blk_ext [iblk, indexScan t, tokenOf, posOf, laneOf, hp, hq]
  · rw [← V_main_arg3 m c]
    blk_ext [iblk, (indexTokens t).2.2.1, tokenOf]

/-- A point's blocks of the weights. -/
theorem iblk_weights (c : Dev nD) (t : Fin cfg0.N) (a : Fin 1024) (j : Fin 2048) :
    iblk (F := Ideal) m c 4 t (ix3 0 a j) = m ((c : Thread nD τ).loc main_arg4) (ix3 0 (lower a) j)
    ∧ iblk (F := Ideal) m c 5 t (ix3 0 a j) = m ((c : Thread nD τ).loc main_arg4) (ix3 0 (upper a) j) := by
  constructor
  · refine Eq.trans ?_ (V_weights m c _)
    blk_ext [iblk, (indexWhole t).1, lower]
  · refine Eq.trans ?_ (V_weights m c _)
    blk_ext [iblk, (indexWhole t).2.1, upper]

/-- A point's block of the scale. -/
theorem iblk_scale (c : Dev nD) (t : Fin cfg0.N) (a : Fin 2048) :
    iblk (F := Ideal) m c 6 t (ix2 0 a) = m ((c : Thread nD τ).loc main_arg5) (ix1 a) := by
  refine Eq.trans ?_ (V_scale m c a)
  blk_ext [iblk, (indexWhole t).2.2]

/-- The whole result. -/
def outArray (c : Dev nD) : Vec Ideal S33024x2048 .f32 := fun i =>
  outAt (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (i 0) (i 1)

/-- The call leaves every token's row plus the norm of its mixer's output. -/
theorem arr_eq (c : Dev nD) : (dats (F := Ideal) m 0 c).arrAt 7 cfg0.N = outArray m c := by
  refine (dats (F := Ideal) m 0 c).arrAt_eq_of_covers 7 _ (by decide +kernel) fun t hf y => ?_
  blk_simp
  rw [after0_7]
  frame_out
  obtain ⟨r, j, rfl⟩ : ∃ (r : Fin 688) (j : Fin 2048), y = ix2 r j := ⟨_, _, ValueIdx.eq_ix2 y⟩
  refine (pay1_apply _ _ _ _ _ _ _ r j).trans ?_
  have e0 : (win0_7.blk t).view.emb (ix2 r j) 0 = tokenOf t r := Fin.ext (by blk_simp [(indexTokens t).2.2.2, tokenOf])
  have e1 : (win0_7.blk t).view.emb (ix2 r j) 1 = j := Fin.ext (by blk_simp [(indexTokens t).2.2.2])
  show _ = outAt _ _ _ _ _ _ ((win0_7.blk t).view.emb (ix2 r j) 0) ((win0_7.blk t).view.emb (ix2 r j) 1)
  rw [e0, e1]
  unfold outAt
  refine congrArg₂ (· + ·) (iblk_input m c t r j) ?_
  congr 1
  · refine funext fun k => congrArg₂ (· + ·) (Finset.sum_congr rfl fun a _ => ?_) (Finset.sum_congr rfl fun a _ => ?_)
    · exact congrArg₂ (· * ·) (iblk_halves m c t r a).1 (iblk_weights m c t a k).1
    · exact congrArg₂ (· * ·) (congrArg₂ (· * ·) (iblk_halves m c t r a).2.1 (iblk_halves m c t r a).2.2) (iblk_weights m c t a k).2
  · exact funext fun k => iblk_scale m c t k

end Cert.Kernel4Ideal.Out

namespace Cert.Reference4Ideal.Out

open Cert.Reference4Ideal Cert.Reference4Ideal.Gen Cert.Reference4Ideal.Read Cert.Shapes Cert.Layer Cert.Feed Cert.OutEven Idealize.ShloMosaic
open Idealize.ShloMosaic.TcCoe Idealize.SL.Sem

variable (H : FVec Ideal S33024x2048 .f32) (Ya : FVec Ideal S33024x1024 .bf16) (Yb : FVec Ideal S2064x16384 .bf16) (G : FVec Ideal S33024x1024 .f32)
  (W : FVec Ideal S2x2048x2048 .f32) (g : FVec Ideal S2048 .f32)

/-- The layer's weights. -/
theorem weights_at (a j : Fin 2048) : val_main_v8 (F := Ideal) W (ix2 a j) = W (ix3 0 a j) := by
  show shapeCast S2048x2048 (val_main_v7 (F := Ideal) W) _ (ix2 a j) = _
  refine (cast_dropUnit (m := 2048) (n := 2048) _ _ a j).trans ?_
  rw [val_main_v7_apply]
  exact congrArg W (ValueIdx.eq_ix3 _)

/-- The gated second half, brought back to the tokens' order. -/
theorem gated_at (R : Fin 33024) (a : Fin 1024) :
    val_main_v4 (F := Ideal) Yb G (ix2 R a) = Yb (ix2 (posOf R) (laneOf R a)) * G (ix2 R a) := by
  have h1 : (R.val * 1024 + a.val) / 1024 = R.val := by omega
  have h2 : (R.val * 1024 + a.val) / 2113536 = R.val / 2064 := by omega
  have h3 : (R.val * 1024 + a.val) % 1024 = a.val := by omega
  rw [val_main_v4_apply, val_main_v3_apply, val_main_v2_apply, val_main_v1_apply, val_main_v0_apply]
  refine congrArg (· * G (ix2 R a)) (congrArg Yb ((ValueIdx.eq_ix2 _).trans (congrArg₂ ix2 (Fin.ext ?_) (Fin.ext ?_))))
  · show ((((R.val * 1024 + a.val) / 1024 % 2064) * 16 + (R.val * 1024 + a.val) / 2113536) * 1024 + (R.val * 1024 + a.val) % 1024) / 16384 = R.val % 2064
    rw [h1, h2, h3]
    omega
  · show ((((R.val * 1024 + a.val) / 1024 % 2064) * 16 + (R.val * 1024 + a.val) / 2113536) * 1024 + (R.val * 1024 + a.val) % 1024) % 16384
      = R.val / 2064 * 1024 + a.val
    rw [h1, h2, h3]
    omega

/-- The first half of a joined row. -/
theorem joined_lower (R : Fin 33024) (a : Fin 1024) : val_main_v6 (F := Ideal) Ya Yb G (ix2 R (lower a)) = Ya (ix2 R a) :=
  concatenate_pair_apply_left (1 : Fin 2) (val_main_v5 (F := Ideal) Ya) (val_main_v4 (F := Ideal) Yb G) _ (ix2 R (lower a)) rfl (ix2 R a)
    (fun b => match b with | ⟨0, _⟩ => rfl | ⟨1, _⟩ => rfl)

/-- The second half of a joined row. -/
theorem joined_upper (R : Fin 33024) (a : Fin 1024) :
    val_main_v6 (F := Ideal) Ya Yb G (ix2 R (upper a)) = Yb (ix2 (posOf R) (laneOf R a)) * G (ix2 R a) :=
  (concatenate_pair_apply_right (1 : Fin 2) (val_main_v5 (F := Ideal) Ya) (val_main_v4 (F := Ideal) Yb G) _ (ix2 R (upper a)) rfl rfl (ix2 R a)
    (fun b => match b with | ⟨0, _⟩ => fun _ => rfl | ⟨1, _⟩ => fun h => absurd rfl h) (Nat.add_comm a.val 1024)).trans (gated_at Yb G R a)

/-- The product of a row. -/
theorem mixed_at (R : Fin 33024) (j : Fin 2048) : val_main_v9 (F := Ideal) Ya Yb G W (ix2 R j) = mixed Ya Yb G W R j := by
  rw [val_main_v9_apply]
  have e : ∀ k : Fin 2048, val_main_v6 (F := Ideal) Ya Yb G (lidx_main_v9 (ix2 R j) k) * val_main_v8 (F := Ideal) W (ridx_main_v9 (ix2 R j) k)
      = val_main_v6 (F := Ideal) Ya Yb G (ix2 R k) * W (ix3 0 k j) :=
    fun k => congrArg₂ (· * ·) (congrArg _ (ValueIdx.eq_ix2 _)) (Eq.trans (congrArg _ (ValueIdx.eq_ix2 _)) (weights_at W k j))
  refine (Finset.sum_congr rfl fun k _ => e k).trans ((Fin.sum_univ_add (a := 1024) (b := 1024) _).trans ?_)
  refine congrArg₂ (· + ·) (Finset.sum_congr rfl fun a _ => ?_) (Finset.sum_congr rfl fun a _ => ?_)
  · exact congrArg (· * W (ix3 0 (lower a) j)) (joined_lower Ya Yb G R a)
  · exact congrArg (· * W (ix3 0 (upper a) j)) (joined_upper Ya Yb G R a)

/-- The reference's result: the row plus the norm of the product. -/
theorem result_at (R : Fin 33024) (j : Fin 2048) : val_main_v23 (F := Ideal) H Ya Yb G W g (ix2 R j) = outAt H Ya Yb G W g R j := by
  have e : val_main_v22 (F := Ideal) Ya Yb G W g = Cert.Reference2Ideal.Read.val_main_v12 (F := Ideal) (val_main_v9 (F := Ideal) Ya Yb G W) g := rfl
  rw [val_main_v23_apply, e]
  refine congrArg (H (ix2 R j) + ·) ((Cert.Reference2Ideal.Feed.norm_at _ g R j).trans ?_)
  exact congrArg (fun y => rms width y _ j) (funext fun k => mixed_at Ya Yb G W R k)

end Cert.Reference4Ideal.Out
-- ==== Proof.ProjOddRun.lean ====
/-
  The body of an odd mixer's projection, case by case: what a grid step stores, for each of the five ranges of columns the step
  may be in.
-/
module

public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import Idealize.ShloMosaic.Lib.Claim
public import Idealize.ShloMosaic.Lib.Pipeline.ValueKit
public import Idealize.ShloMosaic.Lib.Tactic.RunNames

@[expose] public section

set_option maxRecDepth 16384

noncomputable section

namespace Cert.Kernel5Ideal.ProjOdd

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A block of queries: the product of the normed tokens with the weights, normed head by head and scaled. -/
def queries (xn : Vec F S768x2048 .bf16) (w : Vec F S1x2048x1024 .bf16) (g : Vec F S1x128 .f32) : Vec F S768x1024 .bf16 :=
  k0_pay20 (k0_pay7 g) (k0_pay11 xn w) (k0_pay12 xn w) (k0_pay13 xn w) (k0_pay14 xn w g) (k0_pay15 xn w g)
    (k0_pay16 (k0_pay7 g) (k0_pay8 xn w)) (k0_pay17 (k0_pay7 g) (k0_pay9 xn w)) (k0_pay18 (k0_pay7 g) (k0_pay10 xn w))
    (k0_pay19 (k0_pay11 xn w))

/-- A block of keys: the same, not scaled. -/
def keys (xn : Vec F S768x2048 .bf16) (w : Vec F S1x2048x1024 .bf16) (g : Vec F S1x128 .f32) : Vec F S768x1024 .bf16 :=
  k0_pay35 (k0_pay22 g) (k0_pay26 xn w) (k0_pay27 xn w) (k0_pay28 xn w) (k0_pay29 xn w g) (k0_pay30 xn w g)
    (k0_pay31 (k0_pay22 g) (k0_pay23 xn w)) (k0_pay32 (k0_pay22 g) (k0_pay24 xn w)) (k0_pay33 (k0_pay22 g) (k0_pay25 xn w))
    (k0_pay34 (k0_pay26 xn w))

/-- What a buffer reads after a store of the whole of it. -/
theorem read_whole_store {S : Shape} {e : EltTy} (v : View sig .tc .vmem S e) (f : v.ty.Contents (Elt F)) {off : Fin S.rank → Nat}
    (inb : ∀ a, off a + S.size a ≤ S.size a) (h : ∀ a, off a = 0) (X : S.Idx → Elt F e) :
    v.read (Elt F) (v.writes (Elt F) f [(⟨Rect.unit off S.size inb, X⟩ : View.Piece (Elt F) S e)]) = X := by
  refine (View.read_writes_eq_canon v f _ fun y => ⟨_, List.mem_singleton_self _, ?_⟩).trans (View.canon_cons_unit_lit inb X [] h)
  show y ∈ (Rect.unit off S.size inb).set
  exact Rect.mem_set_unit.mpr fun a => by
    rw [h a]
    exact ⟨Nat.zero_le _, by have := (y a).isLt; omega⟩

/-- The steps of the values: the product goes to the first output. -/
theorem run_values (c : Dev nD) (i : grid0.Coords)
  (arg2 : Memref sig .tc .vmem S768x2048 .f32) (harg2 : arg2.IsWhole) (arg3 : Memref sig .tc .vmem S1x2048 .f32) (harg3 : arg3.IsWhole)
  (arg4 : Memref sig .tc .vmem S1x2048x1024 .bf16) (harg4 : arg4.IsWhole) (arg5 : Memref sig .tc .vmem S2048x128 .bf16) (harg5 : arg5.IsWhole)
  (arg6 : Memref sig .tc .vmem S1x128 .f32) (harg6 : arg6.IsWhole) (arg7 : Memref sig .tc .vmem S1x128 .f32) (harg7 : arg7.IsWhole)
  (arg8 : Memref sig .tc .vmem S768x1024 .bf16) (harg8 : arg8.IsWhole) (arg9 : Memref sig .tc .vmem S768x1024 .f32) (harg9 : arg9.IsWhole)
  (arg10 : Memref sig .tc .vmem S768x128 .f32) (harg10 : arg10.IsWhole) (arg11 : Memref sig .tc .vmem S768x2048 .bf16) (harg11 : arg11.IsWhole)
  (w : Vec F S1x2048x1024 .bf16) (xn : Vec F S768x2048 .bf16) (E : Set ℕ) (K : PUnit → sProp 𝕄)
    (h1 : ¬k0_cond1 i = 1#1) (h2 : ¬k0_cond2 i = 1#1) (h3 : ¬k0_cond3 i = 1#1) (h4 : k0_cond4 i = 1#1) (h5 : ¬k0_cond5 i = 1#1) :
    iprop(owns (c : Thread nD τ) arg4 fullShare w ∗ (∃ d, owns (c : Thread nD τ) arg8 fullShare d) ∗ owns (c : Thread nD τ) arg11 fullShare xn
        ∗ (iprop(owns (c : Thread nD τ) arg4 fullShare w ∗ owns (c : Thread nD τ) arg8 fullShare (k0_pay4 xn w) ∗ owns (c : Thread nD τ) arg11 fullShare xn) -∗ K ⟨⟩))
      ⊢ wp frame (wpE (defs₀ (F := F)) Variants.none c none) E
          (cc0_proj_odd i arg2 harg2 arg3 harg3 arg4 harg4 arg5 harg5 arg6 harg6 arg7 harg7 arg8 harg8 arg9 harg9 arg10 harg10 arg11 harg11) K := by
  simp only [cc0_proj_odd_eq_skeleton]; unfold cc0_proj_odd_skel
  unfold owns
  iintro ⟨⟨%f4, %hf4, H4⟩, ⟨%d8, %f8, -, H8⟩, ⟨%f11, %hf11, H11⟩, Hk⟩
  obtain rfl := harg4.eq_unread hf4; obtain rfl := harg11.eq_unread hf11
  sl_exec (disch := first | sl_exact h1 | sl_exact h2 | sl_exact h3 | sl_exact h4 | sl_exact h5)
  sl_step
  iapply Hk
  isplitl [H4]
  · iexists _; isplitr; · ipureintro; exact harg4.read_unread _
    iexact H4
  isplitl [H8]
  · iexists _; isplitr
    swap; · iexact H8
    ipureintro
    refine (read_whole_store _ _ _ (by decide) _).trans ?_
    simp (disch := decide) only [View.ld_unit_lit', View.readCov_unit_lit', View.readCov_cons_unit_lit', View.readAt_eq_ld, Memref.IsWhole.read_unread]
    try rfl
  iexists _; isplitr; · ipureintro; exact harg11.read_unread _
  iexact H11

/-- The steps of the output gate: the product goes to the second output. -/
theorem run_gates (c : Dev nD) (i : grid0.Coords)
  (arg2 : Memref sig .tc .vmem S768x2048 .f32) (harg2 : arg2.IsWhole) (arg3 : Memref sig .tc .vmem S1x2048 .f32) (harg3 : arg3.IsWhole)
  (arg4 : Memref sig .tc .vmem S1x2048x1024 .bf16) (harg4 : arg4.IsWhole) (arg5 : Memref sig .tc .vmem S2048x128 .bf16) (harg5 : arg5.IsWhole)
  (arg6 : Memref sig .tc .vmem S1x128 .f32) (harg6 : arg6.IsWhole) (arg7 : Memref sig .tc .vmem S1x128 .f32) (harg7 : arg7.IsWhole)
  (arg8 : Memref sig .tc .vmem S768x1024 .bf16) (harg8 : arg8.IsWhole) (arg9 : Memref sig .tc .vmem S768x1024 .f32) (harg9 : arg9.IsWhole)
  (arg10 : Memref sig .tc .vmem S768x128 .f32) (harg10 : arg10.IsWhole) (arg11 : Memref sig .tc .vmem S768x2048 .bf16) (harg11 : arg11.IsWhole)
  (w : Vec F S1x2048x1024 .bf16) (xn : Vec F S768x2048 .bf16) (E : Set ℕ) (K : PUnit → sProp 𝕄)
    (h1 : ¬k0_cond1 i = 1#1) (h2 : ¬k0_cond2 i = 1#1) (h3 : ¬k0_cond3 i = 1#1) (h4 : ¬k0_cond4 i = 1#1) (h5 : k0_cond5 i = 1#1) :
    iprop(owns (c : Thread nD τ) arg4 fullShare w ∗ owns (c : Thread nD τ) arg11 fullShare xn ∗ (∃ d, owns (c : Thread nD τ) arg9 fullShare d)
        ∗ (iprop(owns (c : Thread nD τ) arg4 fullShare w ∗ owns (c : Thread nD τ) arg11 fullShare xn ∗ owns (c : Thread nD τ) arg9 fullShare (k0_pay5 xn w)) -∗ K ⟨⟩))
      ⊢ wp frame (wpE (defs₀ (F := F)) Variants.none c none) E
          (cc0_proj_odd i arg2 harg2 arg3 harg3 arg4 harg4 arg5 harg5 arg6 harg6 arg7 harg7 arg8 harg8 arg9 harg9 arg10 harg10 arg11 harg11) K := by
  simp only [cc0_proj_odd_eq_skeleton]; unfold cc0_proj_odd_skel
  unfold owns
  iintro ⟨⟨%f4, %hf4, H4⟩, ⟨%f11, %hf11, H11⟩, ⟨%d9, %f9, -, H9⟩, Hk⟩
  obtain rfl := harg4.eq_unread hf4; obtain rfl := harg11.eq_unread hf11
  sl_exec (disch := first | sl_exact h1 | sl_exact h2 | sl_exact h3 | sl_exact h4 | sl_exact h5)
  sl_step
  iapply Hk
  isplitl [H4]
  · iexists _; isplitr; · ipureintro; exact harg4.read_unread _
    iexact H4
  isplitl [H11]
  · iexists _; isplitr; · ipureintro; exact harg11.read_unread _
    iexact H11
  iexists _; isplitr
  swap; · iexact H9
  ipureintro
  refine (read_whole_store _ _ _ (by decide) _).trans ?_
  simp (disch := decide) only [View.ld_unit_lit', View.readCov_unit_lit', View.readCov_cons_unit_lit', View.readAt_eq_ld, Memref.IsWhole.read_unread]
  try rfl

/-- The steps of the keys. -/
theorem run_keys (c : Dev nD) (i : grid0.Coords)
  (arg2 : Memref sig .tc .vmem S768x2048 .f32) (harg2 : arg2.IsWhole) (arg3 : Memref sig .tc .vmem S1x2048 .f32) (harg3 : arg3.IsWhole)
  (arg4 : Memref sig .tc .vmem S1x2048x1024 .bf16) (harg4 : arg4.IsWhole) (arg5 : Memref sig .tc .vmem S2048x128 .bf16) (harg5 : arg5.IsWhole)
  (arg6 : Memref sig .tc .vmem S1x128 .f32) (harg6 : arg6.IsWhole) (arg7 : Memref sig .tc .vmem S1x128 .f32) (harg7 : arg7.IsWhole)
  (arg8 : Memref sig .tc .vmem S768x1024 .bf16) (harg8 : arg8.IsWhole) (arg9 : Memref sig .tc .vmem S768x1024 .f32) (harg9 : arg9.IsWhole)
  (arg10 : Memref sig .tc .vmem S768x128 .f32) (harg10 : arg10.IsWhole) (arg11 : Memref sig .tc .vmem S768x2048 .bf16) (harg11 : arg11.IsWhole)
  (w : Vec F S1x2048x1024 .bf16) (gh : Vec F S1x128 .f32) (xn : Vec F S768x2048 .bf16) (E : Set ℕ) (K : PUnit → sProp 𝕄)
    (h1 : ¬k0_cond1 i = 1#1) (h2 : ¬k0_cond2 i = 1#1) (h3 : k0_cond3 i = 1#1) (h4 : ¬k0_cond4 i = 1#1) (h5 : ¬k0_cond5 i = 1#1) :
    iprop(owns (c : Thread nD τ) arg4 fullShare w ∗ owns (c : Thread nD τ) arg7 fullShare gh ∗ owns (c : Thread nD τ) arg11 fullShare xn ∗ (∃ d, owns (c : Thread nD τ) arg8 fullShare d)
        ∗ (iprop(owns (c : Thread nD τ) arg4 fullShare w ∗ owns (c : Thread nD τ) arg7 fullShare gh ∗ owns (c : Thread nD τ) arg11 fullShare xn ∗ owns (c : Thread nD τ) arg8 fullShare (keys xn w gh)) -∗ K ⟨⟩))
      ⊢ wp frame (wpE (defs₀ (F := F)) Variants.none c none) E
          (cc0_proj_odd i arg2 harg2 arg3 harg3 arg4 harg4 arg5 harg5 arg6 harg6 arg7 harg7 arg8 harg8 arg9 harg9 arg10 harg10 arg11 harg11) K := by
  simp only [cc0_proj_odd_eq_skeleton]; unfold cc0_proj_odd_skel
  simp only [k0_part6_eq_skeleton, k0_part4_eq_skeleton, k0_part5_eq_skeleton]
  unfold owns
  iintro ⟨⟨%f4, %hf4, H4⟩, ⟨%f7, %hf7, H7⟩, ⟨%f11, %hf11, H11⟩, ⟨%d8, %f8, -, H8⟩, Hk⟩
  obtain rfl := harg4.eq_unread hf4; obtain rfl := harg7.eq_unread hf7; obtain rfl := harg11.eq_unread hf11
  sl_exec (disch := first | sl_exact h1 | sl_exact h2 | sl_exact h3 | sl_exact h4 | sl_exact h5)
  sl_step
  iapply Hk
  isplitl [H4]
  · iexists _; isplitr; · ipureintro; exact harg4.read_unread _
    iexact H4
  isplitl [H7]
  · iexists _; isplitr; · ipureintro; exact harg7.read_unread _
    iexact H7
  isplitl [H11]
  · iexists _; isplitr; · ipureintro; exact harg11.read_unread _
    iexact H11
  iexists _; isplitr
  swap; · iexact H8
  ipureintro
  refine (read_whole_store _ _ _ (by decide) _).trans ?_
  sl_unfold_run_values
  simp (disch := decide) only [View.ld_unit_lit', View.readCov_unit_lit', View.readCov_cons_unit_lit', View.readAt_eq_ld, Memref.IsWhole.read_unread]
  try rfl

/-- A step of the queries that is not the first of its block of tokens. -/
theorem run_queries (c : Dev nD) (i : grid0.Coords)
  (arg2 : Memref sig .tc .vmem S768x2048 .f32) (harg2 : arg2.IsWhole) (arg3 : Memref sig .tc .vmem S1x2048 .f32) (harg3 : arg3.IsWhole)
  (arg4 : Memref sig .tc .vmem S1x2048x1024 .bf16) (harg4 : arg4.IsWhole) (arg5 : Memref sig .tc .vmem S2048x128 .bf16) (harg5 : arg5.IsWhole)
  (arg6 : Memref sig .tc .vmem S1x128 .f32) (harg6 : arg6.IsWhole) (arg7 : Memref sig .tc .vmem S1x128 .f32) (harg7 : arg7.IsWhole)
  (arg8 : Memref sig .tc .vmem S768x1024 .bf16) (harg8 : arg8.IsWhole) (arg9 : Memref sig .tc .vmem S768x1024 .f32) (harg9 : arg9.IsWhole)
  (arg10 : Memref sig .tc .vmem S768x128 .f32) (harg10 : arg10.IsWhole) (arg11 : Memref sig .tc .vmem S768x2048 .bf16) (harg11 : arg11.IsWhole)
  (w : Vec F S1x2048x1024 .bf16) (gh : Vec F S1x128 .f32) (xn : Vec F S768x2048 .bf16) (E : Set ℕ) (K : PUnit → sProp 𝕄)
    (h1 : ¬k0_cond1 i = 1#1) (h2 : k0_cond2 i = 1#1) (h3 : ¬k0_cond3 i = 1#1) (h4 : ¬k0_cond4 i = 1#1) (h5 : ¬k0_cond5 i = 1#1) :
    iprop(owns (c : Thread nD τ) arg4 fullShare w ∗ owns (c : Thread nD τ) arg6 fullShare gh ∗ owns (c : Thread nD τ) arg11 fullShare xn ∗ (∃ d, owns (c : Thread nD τ) arg8 fullShare d)
        ∗ (iprop(owns (c : Thread nD τ) arg4 fullShare w ∗ owns (c : Thread nD τ) arg6 fullShare gh ∗ owns (c : Thread nD τ) arg11 fullShare xn ∗ owns (c : Thread nD τ) arg8 fullShare (queries xn w gh)) -∗ K ⟨⟩))
      ⊢ wp frame (wpE (defs₀ (F := F)) Variants.none c none) E
          (cc0_proj_odd i arg2 harg2 arg3 harg3 arg4 harg4 arg5 harg5 arg6 harg6 arg7 harg7 arg8 harg8 arg9 harg9 arg10 harg10 arg11 harg11) K := by
  simp only [cc0_proj_odd_eq_skeleton]; unfold cc0_proj_odd_skel
  simp only [k0_part3_eq_skeleton, k0_part1_eq_skeleton, k0_part2_eq_skeleton]
  unfold owns
  iintro ⟨⟨%f4, %hf4, H4⟩, ⟨%f6, %hf6, H6⟩, ⟨%f11, %hf11, H11⟩, ⟨%d8, %f8, -, H8⟩, Hk⟩
  obtain rfl := harg4.eq_unread hf4; obtain rfl := harg6.eq_unread hf6; obtain rfl := harg11.eq_unread hf11
  sl_exec (disch := first | sl_exact h1 | sl_exact h2 | sl_exact h3 | sl_exact h4 | sl_exact h5)
  sl_step
  iapply Hk
  isplitl [H4]
  · iexists _; isplitr; · ipureintro; exact harg4.read_unread _
    iexact H4
  isplitl [H6]
  · iexists _; isplitr; · ipureintro; exact harg6.read_unread _
    iexact H6
  isplitl [H11]
  · iexists _; isplitr; · ipureintro; exact harg11.read_unread _
    iexact H11
  iexists _; isplitr
  swap; · iexact H8
  ipureintro
  refine (read_whole_store _ _ _ (by decide) _).trans ?_
  sl_unfold_run_values
  simp (disch := decide) only [View.ld_unit_lit', View.readCov_unit_lit', View.readCov_cons_unit_lit', View.readAt_eq_ld, Memref.IsWhole.read_unread]
  try rfl

/-- The first step of a block of tokens: it norms the tokens into the scratch buffer, stores the product with the last columns of the
    weights, and then stores its block of queries. -/
theorem run_first (c : Dev nD) (i : grid0.Coords)
  (arg2 : Memref sig .tc .vmem S768x2048 .f32) (harg2 : arg2.IsWhole) (arg3 : Memref sig .tc .vmem S1x2048 .f32) (harg3 : arg3.IsWhole)
  (arg4 : Memref sig .tc .vmem S1x2048x1024 .bf16) (harg4 : arg4.IsWhole) (arg5 : Memref sig .tc .vmem S2048x128 .bf16) (harg5 : arg5.IsWhole)
  (arg6 : Memref sig .tc .vmem S1x128 .f32) (harg6 : arg6.IsWhole) (arg7 : Memref sig .tc .vmem S1x128 .f32) (harg7 : arg7.IsWhole)
  (arg8 : Memref sig .tc .vmem S768x1024 .bf16) (harg8 : arg8.IsWhole) (arg9 : Memref sig .tc .vmem S768x1024 .f32) (harg9 : arg9.IsWhole)
  (arg10 : Memref sig .tc .vmem S768x128 .f32) (harg10 : arg10.IsWhole) (arg11 : Memref sig .tc .vmem S768x2048 .bf16) (harg11 : arg11.IsWhole)
  (x : Vec F S768x2048 .f32) (g : Vec F S1x2048 .f32) (w : Vec F S1x2048x1024 .bf16) (wt : Vec F S2048x128 .bf16) (gh : Vec F S1x128 .f32) (E : Set ℕ) (K : PUnit → sProp 𝕄)
    (h1 : k0_cond1 i = 1#1) (h2 : k0_cond2 i = 1#1) (h3 : ¬k0_cond3 i = 1#1) (h4 : ¬k0_cond4 i = 1#1) (h5 : ¬k0_cond5 i = 1#1) :
    iprop(owns (c : Thread nD τ) arg2 fullShare x ∗ owns (c : Thread nD τ) arg3 fullShare g ∗ owns (c : Thread nD τ) arg4 fullShare w ∗ owns (c : Thread nD τ) arg5 fullShare wt ∗ owns (c : Thread nD τ) arg6 fullShare gh ∗ (∃ d, owns (c : Thread nD τ) arg8 fullShare d) ∗ (∃ d, owns (c : Thread nD τ) arg10 fullShare d) ∗ (∃ d, owns (c : Thread nD τ) arg11 fullShare d)
        ∗ (iprop(owns (c : Thread nD τ) arg2 fullShare x ∗ owns (c : Thread nD τ) arg3 fullShare g ∗ owns (c : Thread nD τ) arg4 fullShare w ∗ owns (c : Thread nD τ) arg5 fullShare wt ∗ owns (c : Thread nD τ) arg6 fullShare gh ∗ owns (c : Thread nD τ) arg8 fullShare (queries (k0_pay2 x g) w gh) ∗ owns (c : Thread nD τ) arg10 fullShare (k0_pay3 x g wt) ∗ owns (c : Thread nD τ) arg11 fullShare (k0_pay2 x g)) -∗ K ⟨⟩))
      ⊢ wp frame (wpE (defs₀ (F := F)) Variants.none c none) E
          (cc0_proj_odd i arg2 harg2 arg3 harg3 arg4 harg4 arg5 harg5 arg6 harg6 arg7 harg7 arg8 harg8 arg9 harg9 arg10 harg10 arg11 harg11) K := by
  simp only [cc0_proj_odd_eq_skeleton]; unfold cc0_proj_odd_skel
  simp only [k0_part3_eq_skeleton, k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d8, %f8, -, H8⟩, ⟨%d10, %f10, -, H10⟩, ⟨%d11, %f11, -, H11⟩, Hk⟩
  obtain rfl := harg2.eq_unread hf2; obtain rfl := harg3.eq_unread hf3; obtain rfl := harg4.eq_unread hf4; obtain rfl := harg5.eq_unread hf5; obtain rfl := harg6.eq_unread hf6
  sl_exec (disch := first | sl_exact h1 | sl_exact h2 | sl_exact h3 | sl_exact h4 | sl_exact h5)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H8]
  · iexists _; isplitr
    swap; · iexact H8
    ipureintro
    refine (read_whole_store _ _ _ (by decide) _).trans ?_
    sl_unfold_run_values
    simp (disch := decide) only [View.ld_unit_lit', View.readCov_unit_lit', View.readCov_cons_unit_lit', View.readAt_eq_ld, Memref.IsWhole.read_unread]
    unfold run_first.sl.H11_1
    simp (disch := decide) only [View.ld_unit_lit', View.readCov_unit_lit', View.readCov_cons_unit_lit', View.readAt_eq_ld, Memref.IsWhole.read_unread]
    rfl
  isplitl [H10]
  · iexists _; isplitr
    swap; · iexact H10
    ipureintro
    refine (read_whole_store _ _ _ (by decide) _).trans ?_
    sl_unfold_run_values
    simp (disch := decide) only [View.ld_unit_lit', View.readCov_unit_lit', View.readCov_cons_unit_lit', View.readAt_eq_ld, Memref.IsWhole.read_unread]
    try rfl
  iexists _; isplitr
  swap; · iexact H11
  ipureintro
  refine (read_whole_store _ _ _ (by decide) _).trans ?_
  sl_unfold_run_values
  simp (disch := decide) only [View.ld_unit_lit', View.readCov_unit_lit', View.readCov_cons_unit_lit', View.readAt_eq_ld, Memref.IsWhole.read_unread]
  try rfl

end Cert.Kernel5Ideal.ProjOdd
-- ==== Proof.ProjOddFrame.lean ====
/-
  The run of an odd mixer's projection: what each buffer holds after each grid step, and that the program ends with its arguments
  unchanged. A block of 768 tokens takes eight steps. The first norms the tokens into the scratch buffer, which the other seven
  read, and stores the third output's block, which stays until it is written back after the last. The first six steps store
  the six blocks of columns of the first output, the last two those of the second.
-/
module

public import proofs.«01_k».proof.Proof.ProjOddRun

@[expose] public section

set_option maxRecDepth 16384

noncomputable section

namespace Cert.Kernel5Ideal.ProjOdd

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Steps -/

/-- A step is the step with number `8 * (block of tokens) + (block of columns)`. -/
theorem steps (t : Fin cfg0.N) : t.val < 344 := Nat.lt_of_lt_of_eq t.isLt N_0

/-- The step `k` of the block of tokens of step `t`. -/
def step (t : Fin cfg0.N) (k : Fin 8) : Fin cfg0.N := ⟨t.val / 8 * 8 + k.val, by have := steps t; have := k.isLt; have : cfg0.N = 344 := N_0; omega⟩

/-- Two steps of one block of tokens have the same steps. -/
theorem step_congr {t t' : Fin cfg0.N} (h : t.val / 8 = t'.val / 8) (k : Fin 8) : step t k = step t' k :=
  Fin.ext (by show t.val / 8 * 8 + k.val = t'.val / 8 * 8 + k.val; rw [h])

/-- The body's conditions, at each step. -/
theorem cond_first : ∀ t : Fin cfg0.N, k0_cond1 (grid0.coords t) = 1#1 ↔ t.val % 8 = 0 := by decide +kernel
theorem cond_queries : ∀ t : Fin cfg0.N, k0_cond2 (grid0.coords t) = 1#1 ↔ t.val % 8 < 2 := by decide +kernel
theorem cond_keys : ∀ t : Fin cfg0.N, k0_cond3 (grid0.coords t) = 1#1 ↔ 2 ≤ t.val % 8 ∧ t.val % 8 < 4 := by decide +kernel
theorem cond_values : ∀ t : Fin cfg0.N, k0_cond4 (grid0.coords t) = 1#1 ↔ 4 ≤ t.val % 8 ∧ t.val % 8 < 6 := by decide +kernel
theorem cond_gates : ∀ t : Fin cfg0.N, k0_cond5 (grid0.coords t) = 1#1 ↔ 6 ≤ t.val % 8 := by decide +kernel

/-- At which steps an output's block is not stored into, and at which it is written back. -/
theorem idle_qkv : ∀ t : Fin cfg0.N, cfg0.idle 6 (cfg0.grid.coords t) = decide (6 ≤ t.val % 8) := by decide +kernel
theorem idle_gate : ∀ t : Fin cfg0.N, cfg0.idle 7 (cfg0.grid.coords t) = decide (t.val % 8 < 6) := by decide +kernel
theorem idle_tail : ∀ t : Fin cfg0.N, cfg0.idle 8 (cfg0.grid.coords t) = decide (t.val % 8 ≠ 0) := by decide +kernel
theorem flush_qkv : ∀ t : Fin cfg0.N, (cfg0.win 6).flush t = decide (t.val % 8 < 5 ∨ t.val % 8 = 7) := by decide +kernel
theorem flush_gate : ∀ t : Fin cfg0.N, (cfg0.win 7).flush t = decide (6 ≤ t.val % 8) := by decide +kernel
theorem flush_tail : ∀ t : Fin cfg0.N, (cfg0.win 8).flush t = decide (t.val % 8 = 7) := by decide +kernel

/-! ## What the buffers hold -/

/-- The normed tokens of the block of tokens of step `t`. -/
def normed (c : Dev nD) (t : Fin cfg0.N) : Vec F S768x2048 .bf16 := k0_pay2 (iblk m c 0 (step t 0)) (iblk m c 1 (step t 0))

/-- The first output's block after step `t`: at the last two steps, what the sixth has left. -/
def qkvAt (c : Dev nD) (t : Fin cfg0.N) : Vec F S768x1024 .bf16 :=
  if t.val % 8 < 2 then queries (normed m c t) (X0_2 m c t) (iblk m c 4 t)
  else if t.val % 8 < 4 then keys (normed m c t) (X0_2 m c t) (iblk m c 5 t)
  else if t.val % 8 < 6 then k0_pay4 (normed m c t) (X0_2 m c t)
  else k0_pay4 (normed m c (step t 5)) (X0_2 m c (step t 5))

/-- The third output's block. -/
def tailAt (c : Dev nD) (t : Fin cfg0.N) : Vec F S768x128 .f32 :=
  k0_pay3 (iblk m c 0 (step t 0)) (iblk m c 1 (step t 0)) (iblk m c 3 (step t 0))

/-- The memrefs the body is called with. -/
abbrev ms0 (t : Fin cfg0.N) : Memref sig .tc .vmem S768x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S1x2048x1024 .bf16 := win0_2.stage (cfg0.slots t 2)
abbrev ms3 (t : Fin cfg0.N) : Memref sig .tc .vmem S2048x128 .bf16 := win0_3.stage (cfg0.slots t 3)
abbrev ms4 (t : Fin cfg0.N) : Memref sig .tc .vmem S1x128 .f32 := win0_4.stage (cfg0.slots t 4)
abbrev ms5 (t : Fin cfg0.N) : Memref sig .tc .vmem S1x128 .f32 := win0_5.stage (cfg0.slots t 5)
abbrev ms6 (t : Fin cfg0.N) : Memref sig .tc .vmem S768x1024 .bf16 := win0_6.stage (cfg0.slots t 6)
abbrev ms7 (t : Fin cfg0.N) : Memref sig .tc .vmem S768x1024 .f32 := win0_7.stage (cfg0.slots t 7)
abbrev ms8 (t : Fin cfg0.N) : Memref sig .tc .vmem S768x128 .f32 := win0_8.stage (cfg0.slots t 8)
abbrev scratch : Memref sig .tc .vmem S768x2048 .bf16 := Memref.whole cc0_scratch0

/-- The scratch buffer at some contents, and the generator's register. -/
theorem rest_eq (c : Dev nD) :
    (Pipeline.ΦA spec0 c : sProp 𝕄) = iprop(iprop((∃ d, owns (c : Thread nD τ) scratch fullShare d)) ∗ (∃ r, prngReg c r)) := by
  unfold Pipeline.ΦA; rw [scopedRest0_eq]; simp only [scratch, owns_whole]; try rfl

/-- What holds before step `n`: at a block's first step the scratch buffer is at some contents, at its others it holds the normed
    tokens of the block. -/
def inv (c : Dev nD) (n : Fin (cfg0.N + 1)) : sProp 𝕄 :=
  if h : n.val % 8 = 0 then Pipeline.ΦA spec0 c
  else iprop(owns (c : Thread nD τ) scratch fullShare
    (normed m c ⟨n.val, by have := n.isLt; have : cfg0.N = 344 := N_0; omega⟩) ∗ (∃ r, prngReg c r))

/-- The proof data: each array as the launch finds it, what each buffer holds after each step, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => qkvAt m c t
    | ⟨7, _⟩ => k0_pay5 (normed m c t) (X0_2 m c t)
    | ⟨8, _⟩ => tailAt m c t
  Φ t := inv m c t
  q _ := fullShare
  owed _ := 0

/-- The arrays of the proof data. -/
theorem A_eq (c : Dev nD) (w : Fin cfg0.W) : (dats m 0 c).A w = V m c (Pipeline.arrRef spec0 w) := by
  dsimp only [dats]

/-- What a step leaves in each buffer. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_qkv (c : Dev nD) (t : Fin cfg0.N) : (dats m 0 c).after 6 t = qkvAt m c t := by dsimp only [dats]
theorem after_gate (c : Dev nD) (t : Fin cfg0.N) : (dats m 0 c).after 7 t = k0_pay5 (normed m c t) (X0_2 m c t) := by dsimp only [dats]
theorem after_tail (c : Dev nD) (t : Fin cfg0.N) : (dats m 0 c).after 8 t = tailAt m c t := by dsimp only [dats]

/-- What a step finds in each input's buffer: its block. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What a step finds in an output's buffer that has not been written back since the step before: what that step has left, or
    what it has found if it does not store into the buffer. -/
theorem before_out {c : Dev nD} (dat : Dat τ (Elt F) Unit ℕ (UR sig nD τ) ℕ cfg0 c) (w : Fin cfg0.W) (hw : (cfg0.win w).isOut = true)
    (hc : ∀ (i : cfg0.grid.Coords) a, (cfg0.win w).clip i a = none) (t s : Fin cfg0.N) (ht : t.val = s.val + 1)
    (hf : (cfg0.win w).flush s = false) (d) :
    dat.before w t d = if cfg0.idle w (cfg0.grid.coords s) = true then dat.before w s d else dat.after w s := by
  have e : s = ⟨t.val - 1, Nat.lt_of_le_of_lt (Nat.sub_le _ _) t.isLt⟩ := Fin.ext (by show s.val = t.val - 1; omega)
  rw [dat.before_of_pos w t (by omega) ((cfg0.win w).fetch_out hw t), ← e, hf, if_neg Bool.false_ne_true]
  unfold Dat.left
  cases h : cfg0.idle w (cfg0.grid.coords s)
  · rw [if_neg Bool.false_ne_true]
    show dat.kept w s d = _
    unfold Dat.kept
    rw [Pipeline.fill_of_clip_none w _ (hc _) d (dat.after w s), Pipeline.Window.fill_cut]
  · rw [if_pos rfl]

/-- The last step finds the sixth step's block in the first output's buffer. -/
theorem before_qkv (c : Dev nD) (t : Fin cfg0.N) (ht : t.val % 8 = 7) (d) : (dats m 0 c).before 6 t d = qkvAt m c t := by
  have hs := steps t
  have v6 : (step t 6).val = t.val / 8 * 8 + 6 := rfl
  have v5 : (step t 5).val = t.val / 8 * 8 + 5 := rfl
  rw [before_out (dats m 0 c) 6 rfl (fun _ _ => rfl) t (step t 6) (by omega) (by rw [flush_qkv]; exact decide_eq_false (by omega)),
    if_pos (by rw [idle_qkv]; exact decide_eq_true (by omega)),
    before_out (dats m 0 c) 6 rfl (fun _ _ => rfl) (step t 6) (step t 5) (by omega) (by rw [flush_qkv]; exact decide_eq_false (by omega)),
    if_neg (by rw [idle_qkv, decide_eq_true_eq]; omega), after_qkv]
  unfold qkvAt
  rw [if_neg (by omega), if_neg (by omega), if_pos (by omega), if_neg (by omega), if_neg (by omega), if_neg (by omega)]

/-- Every step but a block's first finds the third output's block in its buffer. -/
theorem before_tail (c : Dev nD) (d) : ∀ (n : ℕ) (hn : n < cfg0.N), n % 8 ≠ 0 → (dats m 0 c).before 8 ⟨n, hn⟩ d = tailAt m c ⟨n, hn⟩
  | 0, _, h => absurd rfl h
  | n + 1, hn, h => by
    have e : tailAt m c ⟨n, Nat.lt_of_succ_lt hn⟩ = tailAt m c ⟨n + 1, hn⟩ := by
      unfold tailAt; rw [step_congr (t := ⟨n, Nat.lt_of_succ_lt hn⟩) (t' := ⟨n + 1, hn⟩) (by show n / 8 = (n + 1) / 8; omega)]
    rw [before_out (dats m 0 c) 8 rfl (fun _ _ => rfl) ⟨n + 1, hn⟩ ⟨n, Nat.lt_of_succ_lt hn⟩ rfl
      (by rw [flush_tail]; exact decide_eq_false (by show ¬n % 8 = 7; omega)), idle_tail, after_tail, e]
    by_cases h0 : n % 8 = 0
    · rw [if_neg (by rw [decide_eq_true_eq]; exact not_not.mpr h0)]
    · rw [if_pos (decide_eq_true h0), before_tail c d n (Nat.lt_of_succ_lt hn) h0, e]

/-! ## What a step has to leave -/

/-- A buffer the step stores into, or writes back, is left at the proof data's contents. -/
theorem leaves_of {c : Dev nD} (dat : Dat τ (Elt F) Unit ℕ (UR sig nD τ) ℕ cfg0 c) (w : Fin cfg0.W) (t : Fin cfg0.N)
    (h : cfg0.idle w (cfg0.grid.coords t) = false ∨ (cfg0.win w).flush t = true) :
    dat.leavesExact w t = owns (c : Thread nD τ) ((cfg0.win w).stage (cfg0.slots t w)) fullShare (dat.after w t) := by
  unfold Dat.leavesExact
  rcases h with h | h
  · rw [h]
  · rw [h]; cases cfg0.idle w (cfg0.grid.coords t) <;> rfl

/-- At the gates' steps the first output's buffer is left as it was found. -/
theorem pass_qkv (c : Dev nD) (t : Fin cfg0.N) (h : 6 ≤ t.val % 8) :
    iprop(∃ d, owns (c : Thread nD τ) (ms6 t) fullShare ((dats m 0 c).before 6 t d)) ⊢ (dats m 0 c).leavesExact 6 t := by
  by_cases h7 : t.val % 8 = 7
  · rw [leaves_of _ _ _ (Or.inr (by rw [flush_qkv]; exact decide_eq_true (Or.inr h7))), after_qkv]
    iintro ⟨%d, H⟩
    rw [before_qkv m c t h7 d]
    iexact H
  · rw [Dat.leavesExact_idle _ _ _ (by rw [idle_qkv]; exact decide_eq_true h) (by rw [flush_qkv]; exact decide_eq_false (by omega))]

/-- Before the gates' steps the second output's buffer is left as it was found. -/
theorem pass_gate (c : Dev nD) (t : Fin cfg0.N) (h : t.val % 8 < 6) :
    iprop(∃ d, owns (c : Thread nD τ) (ms7 t) fullShare ((dats m 0 c).before 7 t d)) ⊢ (dats m 0 c).leavesExact 7 t := by
  rw [Dat.leavesExact_idle _ _ _ (by rw [idle_gate]; exact decide_eq_true h) (by rw [flush_gate]; exact decide_eq_false (by omega))]

/-- After a block's first step the third output's buffer is left as it was found. -/
theorem pass_tail (c : Dev nD) (t : Fin cfg0.N) (h : t.val % 8 ≠ 0) :
    iprop(∃ d, owns (c : Thread nD τ) (ms8 t) fullShare ((dats m 0 c).before 8 t d)) ⊢ (dats m 0 c).leavesExact 8 t := by
  by_cases h7 : t.val % 8 = 7
  · rw [leaves_of _ _ _ (Or.inr (by rw [flush_tail]; exact decide_eq_true h7)), after_tail]
    iintro ⟨%d, H⟩
    rw [before_tail m c d t.val t.isLt h]
    iexact H
  · rw [Dat.leavesExact_idle _ _ _ (by rw [idle_tail]; exact decide_eq_true h) (by rw [flush_tail]; exact decide_eq_false h7)]

/-- Before a block's first step. -/
theorem inv_first (c : Dev nD) (t : Fin cfg0.N) (h : t.val % 8 = 0) :
    (dats m 0 c).Φ t.castSucc = iprop(iprop((∃ d, owns (c : Thread nD τ) scratch fullShare d)) ∗ (∃ r, prngReg c r)) := by
  rw [← rest_eq]
  show inv m c t.castSucc = _
  unfold inv
  exact dif_pos h

/-- Before its other steps. -/
theorem inv_other (c : Dev nD) (t : Fin cfg0.N) (h : t.val % 8 ≠ 0) :
    (dats m 0 c).Φ t.castSucc = iprop(owns (c : Thread nD τ) scratch fullShare (normed m c t) ∗ (∃ r, prngReg c r)) := by
  show inv m c t.castSucc = _
  unfold inv
  exact dif_neg h

/-- After any step. -/
theorem inv_next (c : Dev nD) (t : Fin cfg0.N) :
    iprop(owns (c : Thread nD τ) scratch fullShare (normed m c t) ∗ (∃ r, prngReg c r)) ⊢ (dats m 0 c).Φ t.succ := by
  show _ ⊢ inv m c t.succ
  unfold inv
  by_cases h : t.succ.val % 8 = 0
  · rw [dif_pos h, rest_eq]
    iintro ⟨H, Hg⟩
    isplitl [H]
    · iexists _; iexact H
    iexact Hg
  · rw [dif_neg h]
    have e : normed m c t = normed m c ⟨t.succ.val, by have := steps t; have : cfg0.N = 344 := N_0; have : t.succ.val = t.val + 1 := rfl; omega⟩ := by
      unfold normed
      rw [step_congr (t := t) (t' := ⟨t.succ.val, _⟩) (by
        have e : t.succ.val = t.val + 1 := rfl
        show t.val / 8 = t.succ.val / 8
        omega)]
    rw [e]

/-! ## The step -/

/-- What a step is called with, -/
def pre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def post (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (dats m 0 c).leavesExact 6 t ∗ (dats m 0 c).leavesExact 7 t ∗ (dats m 0 c).leavesExact 8 t)

/-- The second step of a block of tokens. -/
theorem body_queries (c : Dev nD) (t : Fin cfg0.N) (h : t.val % 8 = 1) :
    pre m c t ⊢ wp frame (wpE (defs₀ (F := F)) Variants.none c none) Set.univ (bodyAt0 t) (fun _ => post m c t) := by
  unfold pre post bodyAt0
  simp only [before_0, before_1, before_2, before_3, before_4, before_5]
  rw [show (dats m 0 c).owesAt () t.succ = (dats m 0 c).owesAt () t.castSucc from rfl,
    after_0, after_1, after_2, after_3, after_4, after_5, leaves_of (dats m 0 c) 6 t (Or.inl (by rw [idle_qkv]; exact decide_eq_false (by omega))), after_qkv,
    inv_other m c t (by omega), show qkvAt m c t = queries (normed m c t) (X0_2 m c t) (iblk m c 4 t) by unfold qkvAt; rw [if_pos (by omega)]]
  iintro ⟨⟨HS, Hg⟩, Ho, ⟨%d0, H0⟩, ⟨%d1, H1⟩, ⟨%d2, H2⟩, ⟨%d3, H3⟩, ⟨%d4, H4⟩, ⟨%d5, H5⟩, H6, H7, H8⟩
  icases H6 with ⟨%d6, H6⟩
  iapply (run_queries c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (Memref.isWhole_whole _) (X0_2 m c t) (iblk m c 4 t) (normed m c t) Set.univ _ (fun h => by have := (cond_first t).mp h; omega) ((cond_queries t).mpr (by omega)) (fun h => by have := (cond_keys t).mp h; omega) (fun h => by have := (cond_values t).mp h; omega) (fun h => by have := (cond_gates t).mp h; omega))
  isplitl [H2]; · iexact H2
  isplitl [H4]; · iexact H4
  isplitl [HS]; · iexact HS
  isplitl [H6]; · iexists _; iexact H6
  iintro ⟨H2, H4, HS, H6⟩
  isplitl [HS Hg]
  · iapply inv_next
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (pass_gate m c t (by omega)); iexact H7
  iapply (pass_tail m c t (by omega))
  iexact H8

/-- The steps of the keys. -/
theorem body_keys (c : Dev nD) (t : Fin cfg0.N) (h : 2 ≤ t.val % 8 ∧ t.val % 8 < 4) :
    pre m c t ⊢ wp frame (wpE (defs₀ (F := F)) Variants.none c none) Set.univ (bodyAt0 t) (fun _ => post m c t) := by
  unfold pre post bodyAt0
  simp only [before_0, before_1, before_2, before_3, before_4, before_5]
  rw [show (dats m 0 c).owesAt () t.succ = (dats m 0 c).owesAt () t.castSucc from rfl,
    after_0, after_1, after_2, after_3, after_4, after_5, leaves_of (dats m 0 c) 6 t (Or.inl (by rw [idle_qkv]; exact decide_eq_false (by omega))), after_qkv,
    inv_other m c t (by omega), show qkvAt m c t = keys (normed m c t) (X0_2 m c t) (iblk m c 5 t) by unfold qkvAt; rw [if_neg (by omega), if_pos (by omega)]]
  iintro ⟨⟨HS, Hg⟩, Ho, ⟨%d0, H0⟩, ⟨%d1, H1⟩, ⟨%d2, H2⟩, ⟨%d3, H3⟩, ⟨%d4, H4⟩, ⟨%d5, H5⟩, H6, H7, H8⟩
  icases H6 with ⟨%d6, H6⟩
  iapply (run_keys c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (Memref.isWhole_whole _) (X0_2 m c t) (iblk m c 5 t) (normed m c t) Set.univ _ (fun h => by have := (cond_first t).mp h; omega) (fun h => by have := (cond_queries t).mp h; omega) ((cond_keys t).mpr (by omega)) (fun h => by have := (cond_values t).mp h; omega) (fun h => by have := (cond_gates t).mp h; omega))
  isplitl [H2]; · iexact H2
  isplitl [H5]; · iexact H5
  isplitl [HS]; · iexact HS
  isplitl [H6]; · iexists _; iexact H6
  iintro ⟨H2, H5, HS, H6⟩
  isplitl [HS Hg]
  · iapply inv_next
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (pass_gate m c t (by omega)); iexact H7
  iapply (pass_tail m c t (by omega))
  iexact H8

/-- The steps of the values. -/
theorem body_values (c : Dev nD) (t : Fin cfg0.N) (h : 4 ≤ t.val % 8 ∧ t.val % 8 < 6) :
    pre m c t ⊢ wp frame (wpE (defs₀ (F := F)) Variants.none c none) Set.univ (bodyAt0 t) (fun _ => post m c t) := by
  unfold pre post bodyAt0
  simp only [before_0, before_1, before_2, before_3, before_4, before_5]
  rw [show (dats m 0 c).owesAt () t.succ = (dats m 0 c).owesAt () t.castSucc from rfl,
    after_0, after_1, after_2, after_3, after_4, after_5, leaves_of (dats m 0 c) 6 t (Or.inl (by rw [idle_qkv]; exact decide_eq_false (by omega))), after_qkv,
    inv_other m c t (by omega), show qkvAt m c t = k0_pay4 (normed m c t) (X0_2 m c t) by unfold qkvAt; rw [if_neg (by omega), if_neg (by omega), if_pos (by omega)]]
  iintro ⟨⟨HS, Hg⟩, Ho, ⟨%d0, H0⟩, ⟨%d1, H1⟩, ⟨%d2, H2⟩, ⟨%d3, H3⟩, ⟨%d4, H4⟩, ⟨%d5, H5⟩, H6, H7, H8⟩
  icases H6 with ⟨%d6, H6⟩
  iapply (run_values c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (Memref.isWhole_whole _) (X0_2 m c t) (normed m c t) Set.univ _ (fun h => by have := (cond_first t).mp h; omega) (fun h => by have := (cond_queries t).mp h; omega) (fun h => by have := (cond_keys t).mp h; omega) ((cond_values t).mpr (by omega)) (fun h => by have := (cond_gates t).mp h; omega))
  isplitl [H2]; · iexact H2
  isplitl [H6]; · iexists _; iexact H6
  isplitl [HS]; · iexact HS
  iintro ⟨H2, H6, HS⟩
  isplitl [HS Hg]
  · iapply inv_next
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (pass_gate m c t (by omega)); iexact H7
  iapply (pass_tail m c t (by omega))
  iexact H8

/-- The steps of the output gate. -/
theorem body_gates (c : Dev nD) (t : Fin cfg0.N) (h : 6 ≤ t.val % 8) :
    pre m c t ⊢ wp frame (wpE (defs₀ (F := F)) Variants.none c none) Set.univ (bodyAt0 t) (fun _ => post m c t) := by
  unfold pre post bodyAt0
  simp only [before_0, before_1, before_2, before_3, before_4, before_5]
  rw [show (dats m 0 c).owesAt () t.succ = (dats m 0 c).owesAt () t.castSucc from rfl,
    after_0, after_1, after_2, after_3, after_4, after_5, leaves_of (dats m 0 c) 7 t (Or.inl (by rw [idle_gate]; exact decide_eq_false (by omega))), after_gate,
    inv_other m c t (by omega)]
  iintro ⟨⟨HS, Hg⟩, Ho, ⟨%d0, H0⟩, ⟨%d1, H1⟩, ⟨%d2, H2⟩, ⟨%d3, H3⟩, ⟨%d4, H4⟩, ⟨%d5, H5⟩, H6, H7, H8⟩
  icases H7 with ⟨%d7, H7⟩
  iapply (run_gates c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (Memref.isWhole_whole _) (X0_2 m c t) (normed m c t) Set.univ _ (fun h => by have := (cond_first t).mp h; omega) (fun h => by have := (cond_queries t).mp h; omega) (fun h => by have := (cond_keys t).mp h; omega) (fun h => by have := (cond_values t).mp h; omega) ((cond_gates t).mpr (by omega)))
  isplitl [H2]; · iexact H2
  isplitl [HS]; · iexact HS
  isplitl [H7]; · iexists _; iexact H7
  iintro ⟨H2, HS, H7⟩
  isplitl [HS Hg]
  · iapply inv_next
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (pass_qkv m c t (by omega)); iexact H6
  isplitl [H7]; · iexact H7
  iapply (pass_tail m c t (by omega))
  iexact H8

/-- The first step of a block of tokens. -/
theorem body_first (c : Dev nD) (t : Fin cfg0.N) (h : t.val % 8 = 0) :
    pre m c t ⊢ wp frame (wpE (defs₀ (F := F)) Variants.none c none) Set.univ (bodyAt0 t) (fun _ => post m c t) := by
  have e : step t 0 = t := Fin.ext (by show t.val / 8 * 8 + 0 = t.val; omega)
  have n : normed m c t = k0_pay2 (iblk m c 0 t) (iblk m c 1 t) := by unfold normed; rw [e]
  unfold pre post bodyAt0
  simp only [before_0, before_1, before_2, before_3, before_4, before_5]
  rw [show (dats m 0 c).owesAt () t.succ = (dats m 0 c).owesAt () t.castSucc from rfl,
    after_0, after_1, after_2, after_3, after_4, after_5, leaves_of (dats m 0 c) 6 t (Or.inl (by rw [idle_qkv]; exact decide_eq_false (by omega))), after_qkv,
    leaves_of (dats m 0 c) 8 t (Or.inl (by rw [idle_tail]; exact decide_eq_false (by omega))), after_tail,
    inv_first m c t h, show qkvAt m c t = queries (k0_pay2 (iblk m c 0 t) (iblk m c 1 t)) (X0_2 m c t) (iblk m c 4 t) by unfold qkvAt; rw [if_pos (by omega), n],
    show tailAt m c t = k0_pay3 (iblk m c 0 t) (iblk m c 1 t) (iblk m c 3 t) by unfold tailAt; rw [e]]
  iintro ⟨⟨HS, Hg⟩, Ho, ⟨%d0, H0⟩, ⟨%d1, H1⟩, ⟨%d2, H2⟩, ⟨%d3, H3⟩, ⟨%d4, H4⟩, ⟨%d5, H5⟩, H6, H7, H8⟩
  icases H6 with ⟨%d6, H6⟩
  icases H8 with ⟨%d8, H8⟩
  iapply (run_first c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (Memref.isWhole_whole _) (iblk m c 0 t) (iblk m c 1 t) (X0_2 m c t) (iblk m c 3 t) (iblk m c 4 t) Set.univ _ ((cond_first t).mpr (by omega)) ((cond_queries t).mpr (by omega)) (fun h => by have := (cond_keys t).mp h; omega) (fun h => by have := (cond_values t).mp h; omega) (fun h => by have := (cond_gates t).mp h; omega))
  isplitl [H0]; · iexact H0
  isplitl [H1]; · iexact H1
  isplitl [H2]; · iexact H2
  isplitl [H3]; · iexact H3
  isplitl [H4]; · iexact H4
  isplitl [H6]; · iexists _; iexact H6
  isplitl [H8]; · iexists _; iexact H8
  isplitl [HS]; · iexact HS
  iintro ⟨H0, H1, H2, H3, H4, H6, H8, HS⟩
  isplitl [HS Hg]
  · iapply inv_next
    rw [n]
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (pass_gate m c t (by omega)); iexact H7
  iexact H8

/-- Every step. -/
theorem body (c : Dev nD) (t : Fin cfg0.N) :
    pre m c t ⊢ wp frame (wpE (defs₀ (F := F)) Variants.none c none) Set.univ (bodyAt0 t) (fun _ => post m c t) := by
  by_cases h0 : t.val % 8 = 0
  · exact body_first m c t h0
  by_cases h1 : t.val % 8 = 1
  · exact body_queries m c t h1
  by_cases h2 : t.val % 8 < 4
  · exact body_keys m c t (by omega)
  by_cases h3 : t.val % 8 < 6
  · exact body_values m c t (by omega)
  · exact body_gates m c t (by omega)

/-- The row of the table of bodies. -/
theorem row (t : Fin cfg0.N) : defs₀ (F := F) .tc cfg0.body (cfg0.bodyArgs t (cfg0.slots t)) = bodyAt0 t := by
  unfold defs₀; rw [Defs.onTc_tc]

/-- Every step meets its proof data. -/
theorem steps_meet (c : Dev nD) : BodyObligation (dats (F := F) m 0 c) (defs₀ (F := F)) Variants.none () Set.univ := fun t => by
  rw [bigSep_W0, bigSep_W0, row]
  exact triple_restated (body m c t) rfl .rfl fun _ => .rfl

/-! ## The run -/

set_option backward.isDefEq.respectTransparency.types false in
set_option maxHeartbeats 800000 in
/-- Every run ends, with every array at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (steps_meet m c).loose) (hshare := fun c => (dats m 0 c).share_full fun _ => rfl)
    (howed := fun _ _ => rfl) (V := V m) (hmain := hmain m Variants.none) (hA := A_eq m)
    (hin := fun c => by show _ ⊢ inv m c 0; unfold inv; rw [dif_pos (show ((0 : Fin (cfg0.N + 1)).val % 8 = 0) from rfl)])
    (hout := fun c => by
      show inv m c (Fin.last cfg0.N) ⊢ _
      unfold inv
      rw [dif_pos (show (Fin.last cfg0.N).val % 8 = 0 by rw [Fin.val_last, show cfg0.N = 344 from N_0])])

/-- The same, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The program ends with its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel5Ideal.ProjOdd

end
-- ==== Proof.ProjOddBits.lean ====
/-
  The run of an odd mixer's projection at the machine's own numbers. The program over them is the idealized one whose named
  constant is read as its literal, so its run is that program's run.
-/
module

public import proofs.«01_k».proof.Proof.ProjOddFrame
public import proofs.«01_k».proof.Proof.Gen.Kernel5

@[expose] public section

set_option maxRecDepth 16384

noncomputable section

namespace Cert.Kernel5.ProjOdd

open Idealize.ShloMosaic Idealize.ShloMosaic.TcCoe

/-- A named constant at the machine's own numbers: its literal. -/
@[reducible] local instance literal : Named Bits where
  named _ _ {φ} bits := Scalar.ofBits φ bits

/-- The body is the idealized program's. -/
theorem bodies : Cert.Kernel5.defs₀ (F := Bits) = Cert.Kernel5Ideal.defs₀ (F := Bits) := by
  unfold Cert.Kernel5.defs₀ Cert.Kernel5Ideal.defs₀
  refine congrArg Defs.onTc (funext fun l => funext fun a => ?_)
  obtain ⟨_ | n, h⟩ := l
  · obtain ⟨t, s⟩ := a
    rfl
  · exact absurd h (Nat.not_lt.2 (Nat.le_add_left _ _))

/-- So is the pipeline. -/
theorem tables : Cert.Kernel5.defs (F := Bits) = Cert.Kernel5Ideal.defs (F := Bits) := by
  show Pipeline.defs Cert.Kernel5Ideal.pcfgs Cert.Kernel5.defs₀ = _
  rw [bodies]
  rfl

/-- The program ends with its arguments unchanged and its counters at zero. -/
theorem frame (m : (ℓ : Loc Cert.Kernel5.nD Cert.Kernel5.τ Cert.Kernel5.sig) → Buf (Elt Bits) ℓ) (g : Dev Cert.Kernel5.nD → PrngReg) :
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0) := by
  rw [tables]
  exact Cert.Kernel5Ideal.ProjOdd.frame (F := Bits) m g

end Cert.Kernel5.ProjOdd

end
-- ==== Proof.ProjOddHeads.lean ====
/-
  The projection of an odd mixer: its results as functions of the arguments, and the blocks a grid step computes, read at an index.
-/
module

public import proofs.«01_k».proof.Proof.ProjOddRun
public import proofs.«01_k».proof.Proof.FeedArray

@[expose] public section

set_option maxRecDepth 16384

noncomputable section

namespace Cert.ProjOdd

open Cert.Shapes Cert.Layer Cert.Feed Idealize.ShloMosaic

/-- The shape of the projection's weights, one matrix for each layer of a kind. -/
abbrev ProjWeights : Shape := ⟨3, ![2, 2048, 8208]⟩
/-- The shape of a scale of one head. -/
abbrev HeadScale : Shape := ⟨1, ![128]⟩

/-- The width of a head, as the programs spell it. -/
def headWidth : EReal := Ideal.ofBits .f32 0x43000000#32

/-- What the queries are multiplied by. -/
def qscale : EReal := (((Real.sqrt 128)⁻¹ * (Real.log 2)⁻¹ : ℝ) : EReal)

variable (H : FVec Ideal Tokens .f32) (g : FVec Ideal Scale .f32) (W : FVec Ideal ProjWeights .f32) (q k s : FVec Ideal HeadScale .f32)

/-- A token's normed row times a column of the weights. -/
def projAt (R : Fin 33024) (l : Fin 8208) : EReal := ∑ a, normed H g R a * W (ix3 0 a l)

/-- The columns of the head a column of the queries or keys belongs to. -/
def headCol (l : Fin 6144) (x : Fin 128) : Fin 8208 := ⟨l.val / 128 * 128 + x.val, by omega⟩

/-- A token's product, normed over a head. -/
def headAt (R : Fin 33024) (l : Fin 6144) : EReal :=
  rms headWidth (fun x => projAt H g W R (headCol l x)) (fun x => s (ix1 x)) ⟨l.val % 128, by omega⟩

/-- A token's queries, keys and values, side by side. -/
def qkvAt (R : Fin 33024) (l : Fin 6144) : EReal :=
  if l.val < 2048 then headAt H g W q R l * qscale else if l.val < 4096 then headAt H g W k R l else projAt H g W R ⟨l.val, by omega⟩

/-- A token's gates. -/
def gateAt (R : Fin 33024) (j : Fin 2048) : EReal := projAt H g W R ⟨6144 + j.val, by omega⟩

/-- A token's decays, one for each head, padded with zeros. -/
def tailAt (R : Fin 33024) (j : Fin 128) : EReal := if h : j.val < 16 then projAt H g W R ⟨8192 + j.val, by omega⟩ else 0

end Cert.ProjOdd

namespace Cert.Kernel5Ideal.ProjOdd

open Cert.Kernel5Ideal Cert.Kernel5Ideal.Gen Cert.Shapes Cert.Layer Cert.ProjOdd Idealize.ShloMosaic Idealize.ShloMosaic.TcCoe

/-- The norm's side conditions hold for a block of tokens. -/
theorem rowFacts : RmsFacts 768 2048 := by constructor <;> decide

/-- The norm's side conditions hold for one head of a block of tokens. -/
theorem headFacts : RmsFacts 768 128 := by constructor <;> decide

/-- A head's columns fit in a block. -/
theorem headSlices : ∀ h : Fin 8, S768x1024.Slices ![0, 128 * h.val] S768x128 := by decide

/-- The side condition of a block put together from its heads. -/
theorem headsJoin : Shape.Concatenates [S768x128, S768x128, S768x128, S768x128, S768x128, S768x128, S768x128, S768x128] S768x1024 1 := by decide

/-- The named factor of the queries. -/
theorem named_qscale : Named.named (F := Ideal) (φ := .f32) κ "qscale" 0x3E0293EE#32 = qscale :=
  IdealRules.named_const.ideal_named_scalar _ _ _ _ rfl

/-- One head of a block, normed and multiplied by a number. -/
def headBlock (z : EReal) (P : FVec Ideal S768x1024 .f32) (g : FVec Ideal S1x128 .f32) (h : Fin 8) : FVec Ideal S768x128 .bf16 :=
  truncf (F := Ideal) .bf16 (mulf (rmsBlock (m := 768) (n := 128) headFacts headWidth (extractStridedSlice S768x128 ![0, 128 * h.val] P (headSlices h)) g)
    (broadcast S768x128 (z : Ideal .f32))) bitsLt_bf16_f32

/-- The columns of a block's head. -/
def blockCol (l : Fin 1024) (x : Fin 128) : Fin 1024 := ⟨l.val / 128 * 128 + x.val, by omega⟩

/-- One head of a block, at an index. -/
theorem headBlock_apply (z : EReal) (P : FVec Ideal S768x1024 .f32) (g : FVec Ideal S1x128 .f32) (r : Fin 768) (l : Fin 1024) :
    headBlock z P g ⟨l.val / 128, by omega⟩ (ix2 r ⟨l.val % 128, by omega⟩)
      = rms headWidth (fun x => P (ix2 r (blockCol l x))) (fun x => g (ix2 0 x)) ⟨l.val % 128, by omega⟩ * z := by
  show rmsBlock (m := 768) (n := 128) headFacts headWidth _ g (ix2 r _) * z = _
  rw [rmsBlock_apply]
  refine congrArg (fun y => rms headWidth y _ _ * z) (funext fun x => ?_)
  exact slice_mat (m := 768) (n := 1024) 0 (128 * (l.val / 128)) P _ r x r (blockCol l x) (by omega) (by show l.val / 128 * 128 + x.val = _; omega)

/-- The eight heads of a block, side by side. -/
def headsBlock (f : Fin 8 → FVec Ideal S768x128 .bf16) : FVec Ideal S768x1024 .bf16 :=
  concatenate S768x1024 1 (List.ofFn fun h : Fin 8 => (⟨S768x128, f h⟩ : (s : Shape) × (s.Idx → Ideal .bf16))) headsJoin

/-- The eight heads of a block, at an index. -/
theorem headsBlock_apply (f : Fin 8 → FVec Ideal S768x128 .bf16) (r : Fin 768) (l : Fin 1024) :
    headsBlock f (ix2 r l) = f ⟨l.val / 128, by omega⟩ (ix2 r ⟨l.val % 128, by omega⟩) :=
  concatenate_ofFn_apply (t := S768x1024) (s₁ := S768x128) 1 f _ rfl 128 rfl (ix2 r l) _ rfl _ rfl (fun b hb => match b, hb with
    | ⟨0, _⟩, _ => rfl
    | ⟨1, _⟩, hb => absurd rfl hb)

/-- The product of a block of normed tokens with a block of the weights. -/
def product (xn : FVec Ideal S768x2048 .bf16) (w : FVec Ideal S1x2048x1024 .bf16) : FVec Ideal S768x1024 .f32 :=
  proj (m := 768) (k := 2048) (n := 1024) xn (shapeCast S2048x1024 w shapeCasts_S1x2048x1024_S2048x1024)

/-- The product, at an index. -/
theorem product_apply (xn : FVec Ideal S768x2048 .bf16) (w : FVec Ideal S1x2048x1024 .bf16) (r : Fin 768) (l : Fin 1024) :
    product xn w (ix2 r l) = ∑ a : Fin 2048, xn (ix2 r a) * w (ix3 0 a l) := by
  unfold product
  rw [proj_apply]
  exact Finset.sum_congr rfl fun a _ => congrArg (xn (ix2 r a) * ·) (cast_dropUnit (m := 2048) (n := 1024) w _ a l)

/-- The block of queries is its heads'. -/
theorem queries_eq (xn : FVec Ideal S768x2048 .bf16) (w : FVec Ideal S1x2048x1024 .bf16) (g : FVec Ideal S1x128 .f32) :
    queries (F := Ideal) xn w g = headsBlock (headBlock (Named.named (F := Ideal) (φ := .f32) κ "qscale" 0x3E0293EE#32) (product xn w) (shapeCast S1x128 g shapeCasts_S1x128_S1x128)) := rfl

/-- The block of keys is its heads'. -/
theorem keys_eq (xn : FVec Ideal S768x2048 .bf16) (w : FVec Ideal S1x2048x1024 .bf16) (g : FVec Ideal S1x128 .f32) :
    keys (F := Ideal) xn w g = headsBlock (headBlock (Ideal.ofBits .f32 0x3F800000#32) (product xn w) (shapeCast S1x128 g shapeCasts_S1x128_S1x128)) := rfl

/-- The queries, at an index. -/
theorem queries_apply (xn : FVec Ideal S768x2048 .bf16) (w : FVec Ideal S1x2048x1024 .bf16) (g : FVec Ideal S1x128 .f32) (r : Fin 768) (l : Fin 1024) :
    queries (F := Ideal) xn w g (ix2 r l)
      = rms headWidth (fun x => product xn w (ix2 r (blockCol l x))) (fun x => g (ix2 0 x)) ⟨l.val % 128, by omega⟩ * qscale := by
  rw [queries_eq, headsBlock_apply, headBlock_apply, named_qscale, cast_self]

/-- The keys, at an index. -/
theorem keys_apply (xn : FVec Ideal S768x2048 .bf16) (w : FVec Ideal S1x2048x1024 .bf16) (g : FVec Ideal S1x128 .f32) (r : Fin 768) (l : Fin 1024) :
    keys (F := Ideal) xn w g (ix2 r l)
      = rms headWidth (fun x => product xn w (ix2 r (blockCol l x))) (fun x => g (ix2 0 x)) ⟨l.val % 128, by omega⟩ := by
  rw [keys_eq, headsBlock_apply, headBlock_apply, Ideal.ofBits_one_f32, mul_one, cast_self]

/-- The values and the gates are the product itself. -/
theorem values_eq (xn : FVec Ideal S768x2048 .bf16) (w : FVec Ideal S1x2048x1024 .bf16) : k0_pay4 (F := Ideal) xn w = product xn w := rfl
theorem gates_eq (xn : FVec Ideal S768x2048 .bf16) (w : FVec Ideal S1x2048x1024 .bf16) : k0_pay5 (F := Ideal) xn w = product xn w := rfl

/-- The block of normed tokens, at an index. -/
theorem normed_apply (x : FVec Ideal S768x2048 .f32) (g : FVec Ideal S1x2048 .f32) (r : Fin 768) (a : Fin 2048) :
    k0_pay1 (F := Ideal) x g (ix2 r a) = rms width (fun k => x (ix2 r k)) (fun k => g (ix2 0 k)) a := by
  have e : k0_pay1 (F := Ideal) x g = rmsBlock rowFacts width x (shapeCast S1x2048 g shapeCasts_S1x2048_S1x2048) := rfl
  rw [e, rmsBlock_apply, cast_self]

/-- The stored block of normed tokens is the same. -/
theorem stored_eq (x : FVec Ideal S768x2048 .f32) (g : FVec Ideal S1x2048 .f32) : k0_pay2 (F := Ideal) x g = k0_pay1 (F := Ideal) x g :=
  cast_self (m := 768) (n := 2048) _ _

/-- The block of decays, at an index. -/
theorem decays_apply (x : FVec Ideal S768x2048 .f32) (g : FVec Ideal S1x2048 .f32) (w : FVec Ideal S2048x128 .bf16) (r : Fin 768) (j : Fin 128) :
    k0_pay3 (F := Ideal) x g w (ix2 r j) = ∑ a : Fin 2048, k0_pay1 (F := Ideal) x g (ix2 r a) * w (ix2 a j) := by
  have e : k0_pay3 (F := Ideal) x g w
      = proj (m := 768) (k := 2048) (n := 128) (k0_pay1 (F := Ideal) x g) (shapeCast S2048x128 w shapeCasts_S2048x128_S2048x128) := rfl
  rw [e, proj_apply, cast_self]

end Cert.Kernel5Ideal.ProjOdd

end
-- ==== Proof.ProjOddArray.lean ====
/-
  The arrays the steps of an odd mixer's projection leave.
-/
module

public import proofs.«01_k».proof.Proof.ProjOddHeads
public import proofs.«01_k».proof.Proof.ProjOddFrame
public import Idealize.ShloMosaic.Lib.Pipeline.Value
public import Idealize.ShloMosaic.Lib.KernelVsHost

@[expose] public section

set_option maxRecDepth 16384

noncomputable section

namespace Cert.Kernel5Ideal.ProjOdd

open Cert.Kernel5Ideal Cert.Kernel5Ideal.Gen Cert.Shapes Cert.Layer Cert.Feed Cert.ProjOdd Idealize.ShloMosaic Idealize.ShloMosaic.TcCoe Idealize.SL.Sem
open Idealize.ShloMosaic.Pipeline (Dat)

/-- The tokens' block of a step, for the input and the outputs. -/
theorem indexTokens : ∀ t : Fin cfg0.N, win0_0.index t = ![t.val / 8, 0] ∧ win0_6.index t = ![t.val / 8, min (t.val % 8) 5]
    ∧ win0_7.index t = ![t.val / 8, t.val % 8 - 6] ∧ win0_8.index t = ![t.val / 8, 0] := by decide +kernel
/-- The weights' block of a step. -/
theorem indexWeights : ∀ t : Fin cfg0.N, win0_2.index t = ![0, 0, t.val % 8] := by decide +kernel
/-- The one block of the scales and the decays' weights. -/
theorem indexWhole : ∀ t : Fin cfg0.N, win0_1.index t = ![0, 0] ∧ win0_3.index t = ![0, 0] ∧ win0_4.index t = ![0, 0] ∧ win0_5.index t = ![0, 0] := by
  decide +kernel

variable (m : (ℓ : Loc nD τ sig) → Buf (Elt Ideal) ℓ)

/-- The arguments. -/
abbrev tokens (c : Dev nD) : FVec Ideal Tokens .f32 := m ((c : Thread nD τ).loc main_arg0)
abbrev scale (c : Dev nD) : FVec Ideal Scale .f32 := m ((c : Thread nD τ).loc main_arg1)
abbrev weights (c : Dev nD) : FVec Ideal ProjWeights .f32 := m ((c : Thread nD τ).loc main_arg2)
abbrev scaleQ (c : Dev nD) : FVec Ideal HeadScale .f32 := m ((c : Thread nD τ).loc main_arg3)
abbrev scaleK (c : Dev nD) : FVec Ideal HeadScale .f32 := m ((c : Thread nD τ).loc main_arg4)

/-- The token of a step's row. -/
def tokenOf (t : Fin cfg0.N) (r : Fin 768) : Fin 33024 := ⟨t.val / 8 * 768 + r.val, by have := steps t; omega⟩

/-- The column of the weights of a step's column. -/
def colOf (t : Fin cfg0.N) (l : Fin 1024) : Fin 8208 := ⟨t.val % 8 * 1024 + l.val, by omega⟩

/-- The steps of a block of tokens have the same tokens. -/
theorem tokenOf_step (t : Fin cfg0.N) (k : Fin 8) (r : Fin 768) : tokenOf (step t k) r = tokenOf t r :=
  Fin.ext (by show (t.val / 8 * 8 + k.val) / 8 * 768 + r.val = t.val / 8 * 768 + r.val; omega)

/-- The staged weights are the argument's. -/
theorem V_weights (c : Dev nD) (i : S2x2048x8208.Idx) : V (F := Ideal) m c main_v0 i = weights m c i := by
  have e : V (F := Ideal) m c main_v0 = truncf (F := Ideal) .bf16 (weights m c) bitsLt_bf16_f32 := rfl
  rw [e]; rfl

/-- The scales laid out as rows are the arguments'. -/
theorem V_scale (c : Dev nD) (a : Fin 2048) : V (F := Ideal) m c main_v6 (ix2 0 a) = scale m c (ix1 a) := by
  have e : V (F := Ideal) m c main_v6 = shapeCast S1x2048 (scale m c) shapeCasts_S2048_S1x2048 := rfl
  rw [e]; exact cast_asRow (n := 2048) _ _ a
theorem V_scaleQ (c : Dev nD) (a : Fin 128) : V (F := Ideal) m c main_v7 (ix2 0 a) = scaleQ m c (ix1 a) := by
  have e : V (F := Ideal) m c main_v7 = shapeCast S1x128 (scaleQ m c) shapeCasts_S128_S1x128 := rfl
  rw [e]; exact cast_asRow (n := 128) _ _ a
theorem V_scaleK (c : Dev nD) (a : Fin 128) : V (F := Ideal) m c main_v8 (ix2 0 a) = scaleK m c (ix1 a) := by
  have e : V (F := Ideal) m c main_v8 = shapeCast S1x128 (scaleK m c) shapeCasts_S128_S1x128 := rfl
  rw [e]; exact cast_asRow (n := 128) _ _ a

/-- The decays' staged weights are the last columns of the argument's, padded with zeros. -/
theorem V_tail (c : Dev nD) (a : Fin 2048) (j : Fin 128) :
    V (F := Ideal) m c main_v5 (ix2 a j) = if h : j.val < 16 then weights m c (ix3 0 a ⟨8192 + j.val, by omega⟩) else 0 := by
  have e : V (F := Ideal) m c main_v5 (ix2 a j) = pad S2048x128 ![0, 0] ![0, 112] ![0, 0]
      (extractStridedSlice S2048x16 ![0, 8192] (shapeCast S2048x8208 (extractStridedSlice S1x2048x8208 ![0, 0, 0] (weights m c) slices_S2x2048x8208_S1x2048x8208_0_0_0)
        shapeCasts_S1x2048x8208_S2048x8208) slices_S2048x8208_S2048x16_0_8192)
      (sitofp (F := Ideal) .f32 (constantI S_ 32 0#32)) pads_S2048x16_S2048x128_000_01120 h_S_ (ix2 a j) := rfl
  rw [e]
  by_cases h : j.val < 16
  · rw [dif_pos h]
    refine (pad_apply_of_inside _ _ _ _ _ _ _ (ix2 a j) (ix2 a (⟨j.val, h⟩ : Fin 16)) (fun b => match b with
      | ⟨0, _⟩ => by show a.val = 0 + a.val * (0 + 1); omega
      | ⟨1, _⟩ => by show j.val = 0 + j.val * (0 + 1); omega)).trans ?_
    refine (slice_mat (m := 2048) (n := 8208) 0 8192 _ _ a ⟨j.val, h⟩ a ⟨8192 + j.val, by omega⟩ (by omega) rfl).trans ?_
    refine (cast_dropUnit (m := 2048) (n := 8208) _ _ a _).trans ?_
    exact extractStridedSlice_apply _ _ _ _ (ix3 0 a ⟨8192 + j.val, by omega⟩) (fun b => match b with
      | ⟨0, _⟩ => rfl
      | ⟨1, _⟩ => by show a.val = 0 + a.val; omega
      | ⟨2, _⟩ => by show 8192 + j.val = 0 + (8192 + j.val); omega)
  · rw [dif_neg h]
    refine (pad_apply_of_not_inside _ _ _ _ _ _ _ (ix2 a j) 1 (fun hin => h ?_)).trans ?_
    · have h2 := hin.2.2
      change (j.val - 0) / (0 + 1) < 16 at h2
      omega
    · show ((((0#32 : BitVec 32).toInt : ℝ)) : EReal) = 0
      simp

/-- A step's block of the tokens. -/
theorem iblk_tokens (c : Dev nD) (t : Fin cfg0.N) (r : Fin 768) (a : Fin 2048) :
    iblk (F := Ideal) m c 0 t (ix2 r a) = tokens m c (ix2 (tokenOf t r) a) := by
  unfold tokens
  rw [← V_main_arg0 m c]
  blk_ext [iblk, (indexTokens t).1, tokenOf]

/-- A step's blocks of the scales. -/
theorem iblk_scale (c : Dev nD) (t : Fin cfg0.N) (a : Fin 2048) : iblk (F := Ideal) m c 1 t (ix2 0 a) = scale m c (ix1 a) := by
  refine Eq.trans ?_ (V_scale m c a)
  blk_ext [iblk, (indexWhole t).1]
theorem iblk_scaleQ (c : Dev nD) (t : Fin cfg0.N) (a : Fin 128) : iblk (F := Ideal) m c 4 t (ix2 0 a) = scaleQ m c (ix1 a) := by
  refine Eq.trans ?_ (V_scaleQ m c a)
  blk_ext [iblk, (indexWhole t).2.2.1]
theorem iblk_scaleK (c : Dev nD) (t : Fin cfg0.N) (a : Fin 128) : iblk (F := Ideal) m c 5 t (ix2 0 a) = scaleK m c (ix1 a) := by
  refine Eq.trans ?_ (V_scaleK m c a)
  blk_ext [iblk, (indexWhole t).2.2.2]

/-- A step's block of the decays' weights. -/
theorem iblk_tail (c : Dev nD) (t : Fin cfg0.N) (a : Fin 2048) (j : Fin 128) :
    iblk (F := Ideal) m c 3 t (ix2 a j) = if h : j.val < 16 then weights m c (ix3 0 a ⟨8192 + j.val, by omega⟩) else 0 := by
  refine Eq.trans ?_ (V_tail m c a j)
  blk_ext [iblk, (indexWhole t).2.1]

/-- A step's block of the weights. -/
theorem block_weights (c : Dev nD) (t : Fin cfg0.N) (a : Fin 2048) (l : Fin 1024) :
    X0_2 (F := Ideal) m c t (ix3 0 a l) = weights m c (ix3 0 a (colOf t l)) := by
  refine Eq.trans ?_ (V_weights m c _)
  unfold X0_2 Pipeline.Window.fill
  rw [dif_pos (moved0_2 t _)]
  blk_ext [iblk, indexWeights t, colOf]

/-- The normed tokens of a step. -/
theorem normed_at (c : Dev nD) (t : Fin cfg0.N) (r : Fin 768) (a : Fin 2048) :
    normed (F := Ideal) m c t (ix2 r a) = Cert.Feed.normed (tokens m c) (scale m c) (tokenOf t r) a := by
  unfold normed
  rw [stored_eq, normed_apply]
  unfold Cert.Feed.normed
  rw [← tokenOf_step t 0 r]
  congr 1
  · exact funext fun k => iblk_tokens m c (step t 0) r k
  · exact funext fun k => iblk_scale m c (step t 0) k

/-- The product of a step. -/
theorem product_at (c : Dev nD) (t : Fin cfg0.N) (r : Fin 768) (l : Fin 1024) :
    product (normed (F := Ideal) m c t) (X0_2 (F := Ideal) m c t) (ix2 r l) = projAt (tokens m c) (scale m c) (weights m c) (tokenOf t r) (colOf t l) := by
  rw [product_apply]
  exact Finset.sum_congr rfl fun a _ => congrArg₂ (· * ·) (normed_at m c t r a) (block_weights m c t a l)

/-- The columns of a block's head are those of the whole row's. -/
theorem colOf_block (t : Fin cfg0.N) (l : Fin 1024) (x : Fin 128) (i : Fin 6144) (hi : i.val = t.val % 8 * 1024 + l.val) :
    colOf t (blockCol l x) = headCol i x :=
  Fin.ext (by show t.val % 8 * 1024 + (l.val / 128 * 128 + x.val) = i.val / 128 * 128 + x.val; omega)

/-- A column's place in its head. -/
theorem lane_block (t : Fin cfg0.N) (l : Fin 1024) (i : Fin 6144) (hi : i.val = t.val % 8 * 1024 + l.val) : l.val % 128 = i.val % 128 := by omega

/-- What the first output's buffer holds after a step. -/
theorem qkv_at (c : Dev nD) (t : Fin cfg0.N) (r : Fin 768) (l : Fin 1024) (i : Fin 6144) (hi : i.val = min (t.val % 8) 5 * 1024 + l.val) :
    Cert.Kernel5Ideal.ProjOdd.qkvAt (F := Ideal) m c t (ix2 r l)
      = Cert.ProjOdd.qkvAt (tokens m c) (scale m c) (weights m c) (scaleQ m c) (scaleK m c) (tokenOf t r) i := by
  have hl := l.isLt
  have head : ∀ s : FVec Ideal HeadScale .f32, ∀ z : Fin 128 → EReal, (∀ x, z x = s (ix1 x)) → i.val = t.val % 8 * 1024 + l.val →
      rms headWidth (fun x => product (normed (F := Ideal) m c t) (X0_2 (F := Ideal) m c t) (ix2 r (blockCol l x))) z ⟨l.val % 128, by omega⟩
        = headAt (tokens m c) (scale m c) (weights m c) s (tokenOf t r) i := by
    intro s z hz hi'
    unfold headAt
    have e : (⟨l.val % 128, by omega⟩ : Fin 128) = ⟨i.val % 128, by omega⟩ := Fin.ext (lane_block t l i hi')
    rw [e]
    congr 1
    · exact funext fun x => (product_at m c t r _).trans (by rw [colOf_block t l x i hi'])
    · exact funext hz
  unfold Cert.Kernel5Ideal.ProjOdd.qkvAt Cert.ProjOdd.qkvAt
  by_cases h2 : t.val % 8 < 2
  · rw [if_pos h2, if_pos (by omega), queries_apply, head _ _ (iblk_scaleQ m c t) (by omega)]
  by_cases h4 : t.val % 8 < 4
  · rw [if_neg h2, if_pos h4, if_neg (by omega), if_pos (by omega), keys_apply, head _ _ (iblk_scaleK m c t) (by omega)]
  by_cases h6 : t.val % 8 < 6
  · rw [if_neg h2, if_neg h4, if_pos h6, if_neg (by omega), if_neg (by omega), values_eq, product_at]
    exact congrArg _ (Fin.ext (by show t.val % 8 * 1024 + l.val = i.val; omega))
  · rw [if_neg h2, if_neg h4, if_neg h6, if_neg (by omega), if_neg (by omega), values_eq, product_at, tokenOf_step]
    exact congrArg _ (Fin.ext (by show (t.val / 8 * 8 + 5) % 8 * 1024 + l.val = i.val; omega))

/-- What the third output's buffer holds after a step. -/
theorem tail_at (c : Dev nD) (t : Fin cfg0.N) (r : Fin 768) (j : Fin 128) :
    Cert.Kernel5Ideal.ProjOdd.tailAt (F := Ideal) m c t (ix2 r j) = Cert.ProjOdd.tailAt (tokens m c) (scale m c) (weights m c) (tokenOf t r) j := by
  unfold Cert.Kernel5Ideal.ProjOdd.tailAt Cert.ProjOdd.tailAt
  rw [decays_apply]
  have e : ∀ a, k0_pay1 (F := Ideal) (iblk m c 0 (step t 0)) (iblk m c 1 (step t 0)) (ix2 r a)
      = Cert.Feed.normed (tokens m c) (scale m c) (tokenOf t r) a := fun a => by
    rw [← stored_eq]; exact normed_at m c t r a
  by_cases h : j.val < 16
  · rw [dif_pos h]
    exact Finset.sum_congr rfl fun a _ => congrArg₂ (· * ·) (e a) ((iblk_tail m c (step t 0) a j).trans (dif_pos h))
  · rw [dif_neg h]
    exact Finset.sum_eq_zero fun a _ => (congrArg (_ * ·) ((iblk_tail m c (step t 0) a j).trans (dif_neg h))).trans (mul_zero _)

/-- The three results. -/
def qkvArray (c : Dev nD) : Vec Ideal S33024x6144 .bf16 := fun i =>
  Cert.ProjOdd.qkvAt (tokens m c) (scale m c) (weights m c) (scaleQ m c) (scaleK m c) (i 0) (i 1)
def gateArray (c : Dev nD) : Vec Ideal S33024x2048 .f32 := fun i => gateAt (tokens m c) (scale m c) (weights m c) (i 0) (i 1)
def tailArray (c : Dev nD) : Vec Ideal S33024x128 .f32 := fun i => Cert.ProjOdd.tailAt (tokens m c) (scale m c) (weights m c) (i 0) (i 1)

/-- The call leaves the queries, keys and values in its first result. -/
theorem qkv_eq (c : Dev nD) : (dats (F := Ideal) m 0 c).arrAt 6 cfg0.N = qkvArray m c := by
  refine (dats (F := Ideal) m 0 c).arrAt_eq_of_covers 6 _ (by decide +kernel) fun t hf y => ?_
  blk_simp
  rw [after_qkv]
  obtain ⟨r, l, rfl⟩ : ∃ (r : Fin 768) (l : Fin 1024), y = ix2 r l := ⟨_, _, ValueIdx.eq_ix2 y⟩
  have e0 : (win0_6.blk t).view.emb (ix2 r l) 0 = tokenOf t r := Fin.ext (by blk_simp [(indexTokens t).2.1, tokenOf])
  have e1 : ((win0_6.blk t).view.emb (ix2 r l) 1).val = min (t.val % 8) 5 * 1024 + l.val := by blk_simp [(indexTokens t).2.1]
  show _ = Cert.ProjOdd.qkvAt _ _ _ _ _ ((win0_6.blk t).view.emb (ix2 r l) 0) ((win0_6.blk t).view.emb (ix2 r l) 1)
  rw [e0]
  exact qkv_at m c t r l _ e1

/-- The call leaves the gates in its second result. -/
theorem gate_eq (c : Dev nD) : (dats (F := Ideal) m 0 c).arrAt 7 cfg0.N = gateArray m c := by
  refine (dats (F := Ideal) m 0 c).arrAt_eq_of_covers 7 _ (by decide +kernel) fun t hf y => ?_
  have h6 : 6 ≤ t.val % 8 := of_decide_eq_true ((flush_gate t).symm.trans hf)
  blk_simp
  rw [after_gate]
  obtain ⟨r, l, rfl⟩ : ∃ (r : Fin 768) (l : Fin 1024), y = ix2 r l := ⟨_, _, ValueIdx.eq_ix2 y⟩
  have e0 : (win0_7.blk t).view.emb (ix2 r l) 0 = tokenOf t r := Fin.ext (by blk_simp [(indexTokens t).2.2.1, tokenOf])
  have e1 : ((win0_7.blk t).view.emb (ix2 r l) 1).val = (t.val % 8 - 6) * 1024 + l.val := by blk_simp [(indexTokens t).2.2.1]
  show _ = gateAt _ _ _ ((win0_7.blk t).view.emb (ix2 r l) 0) ((win0_7.blk t).view.emb (ix2 r l) 1)
  rw [e0]
  refine (congrFun (gates_eq _ _) (ix2 r l)).trans ((product_at m c t r l).trans (congrArg _ (Fin.ext ?_)))
  show t.val % 8 * 1024 + l.val = 6144 + ((win0_7.blk t).view.emb (ix2 r l) 1).val
  rw [e1]; omega

/-- The call leaves the padded decays in its third result. -/
theorem tail_eq (c : Dev nD) : (dats (F := Ideal) m 0 c).arrAt 8 cfg0.N = tailArray m c := by
  refine (dats (F := Ideal) m 0 c).arrAt_eq_of_covers 8 _ (by decide +kernel) fun t hf y => ?_
  blk_simp
  rw [after_tail]
  obtain ⟨r, j, rfl⟩ : ∃ (r : Fin 768) (j : Fin 128), y = ix2 r j := ⟨_, _, ValueIdx.eq_ix2 y⟩
  have e0 : (win0_8.blk t).view.emb (ix2 r j) 0 = tokenOf t r := Fin.ext (by blk_simp [(indexTokens t).2.2.2, tokenOf])
  have e1 : (win0_8.blk t).view.emb (ix2 r j) 1 = j := Fin.ext (by blk_simp [(indexTokens t).2.2.2])
  show _ = Cert.ProjOdd.tailAt _ _ _ ((win0_8.blk t).view.emb (ix2 r j) 0) ((win0_8.blk t).view.emb (ix2 r j) 1)
  rw [e0, e1]
  exact tail_at m c t r j

variable (ρ : Dev nD → PrngReg)

/-- The program ends with the three results in place and its arguments unchanged. -/
theorem run_results : θ_run defs (onTc (τ := τ) (main (F := Ideal))) ⟨m, fun _ => 0, ρ⟩ (fun r => ∀ c : Dev nD,
      r.2.mem ((c.tc : Thread nD τ).loc main_v9_0) = qkvArray m c
      ∧ r.2.mem ((c.tc : Thread nD τ).loc main_v9_1) = gateArray m c
      ∧ r.2.mem ((c.tc : Thread nD τ).loc main_v9_2) = tailArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 6).trans (qkv_eq m c), ((h.1 c).1 7).trans (gate_eq m c), ((h.1 c).1 8).trans (tail_eq m c), h.2.1 c⟩)
    (θ_run_and (run_main (F := Ideal) m ρ) (frame (F := Ideal) m ρ))

end Cert.Kernel5Ideal.ProjOdd

end
-- ==== Proof.ProjOddReference.lean ====
/-
  The reference of an odd mixer's projection, read at an index.
-/
module

public import proofs.«01_k».proof.Proof.Gen.Reference5Ideal.Read
public import proofs.«01_k».proof.Proof.FeedReference
public import proofs.«01_k».proof.Proof.ProjOddHeads
public import proofs.«01_k».proof.Proof.Equal
public import Idealize.ShloMosaic.Lib.Pipeline.Value
public import Idealize.ShloMosaic.Lib.KernelVsHost

@[expose] public section

set_option maxRecDepth 16384

noncomputable section

namespace Cert.Reference5Ideal.ProjOdd

open Cert.Reference5Ideal Cert.Reference5Ideal.Gen Cert.Reference5Ideal.Read Cert.Shapes Cert.Layer Cert.Feed Cert.ProjOdd Idealize.ShloMosaic
open Idealize.ShloMosaic.TcCoe Idealize.SL.Sem

variable (H : FVec Ideal S33024x2048 .f32) (g : FVec Ideal S2048 .f32) (W : FVec Ideal S2x2048x8208 .f32) (q k : FVec Ideal S128 .f32)

/-- The layer's weights. -/
theorem weights_at (a : Fin 2048) (l : Fin 8208) : val_main_v14 (F := Ideal) W (ix2 a l) = W (ix3 0 a l) := by
  show shapeCast S2048x8208 (val_main_v13 (F := Ideal) W) _ (ix2 a l) = _
  refine (cast_dropUnit (m := 2048) (n := 8208) _ _ a l).trans ?_
  rw [val_main_v13_apply]
  exact congrArg W (ValueIdx.eq_ix3 _)

/-- The product of a row. -/
theorem product_at (R : Fin 33024) (l : Fin 8208) : val_main_v15 (F := Ideal) H g W (ix2 R l) = projAt H g W R l := by
  have e : val_main_v12 (F := Ideal) H g = Cert.Reference2Ideal.Read.val_main_v12 (F := Ideal) H g := rfl
  rw [val_main_v15_apply, e]
  refine Finset.sum_congr rfl fun a _ => ?_
  exact congrArg₂ (· * ·) (Eq.trans (congrArg _ (ValueIdx.eq_ix2 _)) (Cert.Reference2Ideal.Feed.norm_at H g R a))
    (Eq.trans (congrArg _ (ValueIdx.eq_ix2 _)) (weights_at W a l))

/-! ## The norm of each head -/

/-- A column of a head, among the columns of all heads. -/
def flat (h : Fin 16) (x : Fin 128) : Fin 2048 := ⟨h.val * 128 + x.val, by omega⟩

/-- The columns split into heads. -/
def split (p : FVec Ideal S33024x2048 .f32) : FVec Ideal S33024x16x128 .f32 := shapeCast S33024x16x128 p shapeCasts_S33024x2048_S33024x16x128

/-- A head's column reads the column among all. -/
theorem split_apply (p : FVec Ideal S33024x2048 .f32) (R : Fin 33024) (h : Fin 16) (x : Fin 128) : split p (ix3 R h x) = p (ix2 R (flat h x)) :=
  shapeCast_apply p _ _ _ (by
    rw [Shape.rowMajor_val_three, Shape.rowMajor_val_two]
    show R.val * 2048 + (h.val * 128 + x.val) = (R.val * 16 + h.val) * 128 + x.val
    omega)

/-- The sum of the squares of each head. -/
def squares (p : FVec Ideal S33024x2048 .f32) : FVec Ideal S33024x16 .f32 :=
  Host.reduceAdd (F := Ideal) (mulf (split p) (split p)) (constant S_ .f32 0x00000000#32) reducesTo_S33024x16x128_S33024x16_d2 h_S_

/-- The sum of the squares of a head. -/
theorem squares_apply (p : FVec Ideal S33024x2048 .f32) (R : Fin 33024) (h : Fin 16) :
    squares p (ix2 R h) = ∑ x : Fin 128, p (ix2 R (flat h x)) * p (ix2 R (flat h x)) := by
  have e : squares p (ix2 R h) = Ideal.ofBits .f32 0x00000000#32 + ∑ x : Fin 128, mulf (F := Ideal) (split p) (split p) (ix3 R h x) := by
    unfold squares
    generalize mulf (F := Ideal) (split p) (split p) = y
    simp only [Host.reduceAdd, Ideal.hostReduceAdd_def]
    rw [Ideal.hostReduceAdd_single reducesTo_S33024x16x128_S33024x16_d2 (by decide)]
    exact congrArg₂ (· + ·) rfl (Finset.sum_congr rfl fun x _ => congrArg y (ValueIdx.eq_ix3 _))
  rw [e, Ideal.ofBits_zero_f32, zero_add]
  refine Finset.sum_congr rfl fun x _ => ?_
  show split p (ix3 R h x) * split p (ix3 R h x) = _
  rw [split_apply]

/-- Each head's factor: the reciprocal of its root mean square. -/
def factors (p : FVec Ideal S33024x2048 .f32) : FVec Ideal S33024x16x1 .f32 :=
  Host.rsqrt (addf (Host.divf (broadcastInDim S33024x16x1 ![0, 1] bcast_S33024x16_S33024x16x1_0_1 (squares p))
    (broadcastInDim S33024x16x1 ![] bcast_S_S33024x16x1 (constant (F := Ideal) S_ .f32 0x43000000#32)))
    (broadcastInDim S33024x16x1 ![] bcast_S_S33024x16x1 (constant (F := Ideal) S_ .f32 0x358637BD#32)))

/-- A head's factor. -/
theorem factors_apply (p : FVec Ideal S33024x2048 .f32) (R : Fin 33024) (h : Fin 16) :
    factors p (ix3 R h 0) = Ideal.rsqrt (Ideal.div (∑ x : Fin 128, p (ix2 R (flat h x)) * p (ix2 R (flat h x))) headWidth + eps) := by
  rw [← squares_apply]
  show Ideal.rsqrt (Ideal.div (broadcastInDim S33024x16x1 ![0, 1] bcast_S33024x16_S33024x16x1_0_1 (squares p) (ix3 R h 0)) headWidth + eps) = _
  rw [broadcastInDim_apply _ bcast_S33024x16_S33024x16x1_0_1 (squares p) (ix3 R h 0) (ix2 R h) (fun a => match a with
    | ⟨0, _⟩ => by show R.val = if (33024 : Nat) = 1 then 0 else R.val; rw [if_neg (by decide)]
    | ⟨1, _⟩ => by show h.val = if (16 : Nat) = 1 then 0 else h.val; rw [if_neg (by decide)])]

/-- Every head normed and scaled. -/
def headNorm (p : FVec Ideal S33024x2048 .f32) (s : FVec Ideal S128 .f32) : FVec Ideal S33024x16x128 .f32 :=
  mulf (mulf (split p) (broadcastInDim S33024x16x128 ![0, 1, 2] bcast_S33024x16x1_S33024x16x128_0_1_2 (factors p)))
    (broadcastInDim S33024x16x128 ![0, 1, 2] bcast_S1x1x128_S33024x16x128_0_1_2 (broadcastInDim S1x1x128 ![2] bcast_S128_S1x1x128_2 s))

/-- A head normed and scaled. -/
theorem headNorm_apply (p : FVec Ideal S33024x2048 .f32) (s : FVec Ideal S128 .f32) (R : Fin 33024) (h : Fin 16) (x : Fin 128) :
    headNorm p s (ix3 R h x) = rms headWidth (fun y => p (ix2 R (flat h y))) (fun y => s (ix1 y)) x := by
  show split p (ix3 R h x) * broadcastInDim S33024x16x128 ![0, 1, 2] bcast_S33024x16x1_S33024x16x128_0_1_2 (factors p) (ix3 R h x)
    * broadcastInDim S33024x16x128 ![0, 1, 2] bcast_S1x1x128_S33024x16x128_0_1_2 (broadcastInDim S1x1x128 ![2] bcast_S128_S1x1x128_2 s) (ix3 R h x) = _
  rw [split_apply, broadcastInDim_apply _ bcast_S33024x16x1_S33024x16x128_0_1_2 (factors p) (ix3 R h x) (ix3 R h 0) (fun a => match a with
      | ⟨0, _⟩ => by show R.val = if (33024 : Nat) = 1 then 0 else R.val; rw [if_neg (by decide)]
      | ⟨1, _⟩ => by show h.val = if (16 : Nat) = 1 then 0 else h.val; rw [if_neg (by decide)]
      | ⟨2, _⟩ => (if_pos rfl).symm),
    broadcastInDim_apply _ bcast_S1x1x128_S33024x16x128_0_1_2 (broadcastInDim S1x1x128 ![2] bcast_S128_S1x1x128_2 s) (ix3 R h x) (ix3 0 0 x) (fun a => match a with
      | ⟨0, _⟩ => (if_pos rfl).symm
      | ⟨1, _⟩ => (if_pos rfl).symm
      | ⟨2, _⟩ => by show x.val = if (128 : Nat) = 1 then 0 else x.val; rw [if_neg (by decide)]),
    broadcastInDim_apply _ bcast_S128_S1x1x128_2 s (ix3 0 0 x) (ix1 x) (fun a => match a with
      | ⟨0, _⟩ => by show x.val = if (128 : Nat) = 1 then 0 else x.val; rw [if_neg (by decide)]),
    factors_apply]
  rfl

/-- The heads joined again. -/
theorem join_apply (y : FVec Ideal S33024x16x128 .f32) (R : Fin 33024) (j : Fin 2048) :
    shapeCast S33024x2048 y shapeCasts_S33024x16x128_S33024x2048 (ix2 R j) = y (ix3 R ⟨j.val / 128, by omega⟩ ⟨j.val % 128, by omega⟩) :=
  shapeCast_apply y _ _ _ (by
    rw [Shape.rowMajor_val_three, Shape.rowMajor_val_two]
    show (R.val * 16 + j.val / 128) * 128 + j.val % 128 = R.val * 2048 + j.val
    omega)

/-! ## The three results -/

/-- What the reference divides the queries by. -/
theorem divisor : Ideal.sqrt (Ideal.ofBits .f32 0x43000000#32) * Ideal.log (Ideal.ofBits .f32 0x40000000#32) = ((Real.sqrt 128 * Real.log 2 : ℝ) : EReal) := by
  have e1 : Ideal.ofBits .f32 0x43000000#32 = ((128 : ℝ) : EReal) := by
    simp [Ideal.ofBits, Ideal.ieee]
    rw [← EReal.coe_mul]
    norm_num
  rw [e1, Cert.Fox.ofBits_two, Ideal.sqrt_coe, Ideal.log_coe, if_neg (by norm_num), if_neg (by norm_num), EReal.coe_mul]

/-- Dividing by it is multiplying by the factor of the queries. -/
theorem div_divisor (x : EReal) :
    Ideal.div x (Ideal.sqrt (Ideal.ofBits .f32 0x43000000#32) * Ideal.log (Ideal.ofBits .f32 0x40000000#32)) = x * qscale := by
  have h : Real.sqrt 128 * Real.log 2 ≠ 0 := mul_ne_zero (by positivity) (Real.log_pos (by norm_num)).ne'
  rw [divisor, Ideal.div_coe h]
  unfold qscale
  rw [one_div, mul_inv]

/-- The reference's queries. -/
theorem queries_at (R : Fin 33024) (j : Fin 2048) (l : Fin 6144) (hl : l.val = j.val) :
    val_main_v52 (F := Ideal) H g W q (ix2 R j) = headAt H g W q R l * qscale := by
  have e : val_main_v30 (F := Ideal) H g W q = headNorm (val_main_v16 (F := Ideal) H g W) q := rfl
  refine (join_apply (val_main_v36 (F := Ideal) H g W q) R j).trans ?_
  rw [val_main_v36_apply, val_main_v35_apply, val_main_v34_apply, val_main_v33_apply, e]
  refine (div_divisor _).trans (congrArg (· * qscale) ((headNorm_apply _ _ R _ _).trans ?_))
  unfold headAt
  simp only [hl]
  refine congrArg (fun y => rms headWidth y _ _) (funext fun x => ?_)
  rw [val_main_v16_apply]
  exact (congrArg _ (ValueIdx.eq_ix2 _)).trans ((product_at H g W R _).trans (congrArg _ (Fin.ext (by
    show j.val / 128 * 128 + x.val = l.val / 128 * 128 + x.val; rw [hl]))))

/-- The reference's keys. -/
theorem keys_at (R : Fin 33024) (j : Fin 2048) (l : Fin 6144) (hl : l.val = 2048 + j.val) :
    val_main_v53 (F := Ideal) H g W k (ix2 R j) = headAt H g W k R l := by
  have e : val_main_v51 (F := Ideal) H g W k = headNorm (val_main_v37 (F := Ideal) H g W) k := rfl
  refine (join_apply (val_main_v51 (F := Ideal) H g W k) R j).trans ?_
  rw [e]
  refine (headNorm_apply _ _ R _ _).trans ?_
  unfold headAt
  have e' : (⟨j.val % 128, by omega⟩ : Fin 128) = ⟨l.val % 128, by omega⟩ := Fin.ext (by show j.val % 128 = l.val % 128; omega)
  rw [e']
  refine congrArg (fun y => rms headWidth y _ _) (funext fun x => ?_)
  rw [val_main_v37_apply]
  exact (congrArg _ (ValueIdx.eq_ix2 _)).trans ((product_at H g W R _).trans (congrArg _ (Fin.ext (by
    show 2048 + (j.val / 128 * 128 + x.val) = l.val / 128 * 128 + x.val; omega))))

/-- The reference's values. -/
theorem values_at (R : Fin 33024) (j : Fin 2048) : val_main_v54 (F := Ideal) H g W (ix2 R j) = projAt H g W R ⟨4096 + j.val, by omega⟩ := by
  rw [val_main_v54_apply]
  exact (congrArg _ (ValueIdx.eq_ix2 _)).trans (product_at H g W R _)

/-- The reference's first result. -/
theorem qkv_at (R : Fin 33024) (l : Fin 6144) : val_main_v56 (F := Ideal) H g W q k (ix2 R l) = qkvAt H g W q k R l := by
  have e : val_main_v56 (F := Ideal) H g W q k (ix2 R l)
      = ![val_main_v52 (F := Ideal) H g W q, val_main_v53 (F := Ideal) H g W k, val_main_v54 (F := Ideal) H g W] ⟨l.val / 2048, by omega⟩
        (ix2 R ⟨l.val % 2048, by omega⟩) :=
    concatenate_ofFn_apply (t := S33024x6144) (s₁ := S33024x2048) 1
      ![val_main_v52 (F := Ideal) H g W q, val_main_v53 (F := Ideal) H g W k, val_main_v54 (F := Ideal) H g W] concatenates_S33024x2048_S33024x2048_S33024x2048_S33024x6144_d1 rfl 2048 rfl (ix2 R l) _ rfl _ rfl
      (fun b hb => match b, hb with
        | ⟨0, _⟩, _ => rfl
        | ⟨1, _⟩, hb => absurd rfl hb)
  rw [e]
  unfold qkvAt
  by_cases h1 : l.val < 2048
  · rw [if_pos h1, show (⟨l.val / 2048, by omega⟩ : Fin 3) = 0 from Fin.ext (by show l.val / 2048 = 0; omega)]
    exact queries_at H g W q R _ l (by show l.val = l.val % 2048; omega)
  by_cases h2 : l.val < 4096
  · rw [if_neg h1, if_pos h2, show (⟨l.val / 2048, by omega⟩ : Fin 3) = 1 from Fin.ext (by show l.val / 2048 = 1; omega)]
    exact keys_at H g W k R _ l (by show l.val = 2048 + l.val % 2048; omega)
  · rw [if_neg h1, if_neg h2, show (⟨l.val / 2048, by omega⟩ : Fin 3) = 2 from Fin.ext (by show l.val / 2048 = 2; omega)]
    exact (values_at H g W R _).trans (congrArg _ (Fin.ext (by show 4096 + l.val % 2048 = l.val; omega)))

/-- The reference's second result. -/
theorem gate_at (R : Fin 33024) (j : Fin 2048) : val_main_v57 (F := Ideal) H g W (ix2 R j) = gateAt H g W R j := by
  rw [val_main_v57_apply]
  exact (congrArg _ (ValueIdx.eq_ix2 _)).trans (product_at H g W R _)

/-- The reference's third result. -/
theorem tail_at (R : Fin 33024) (j : Fin 128) : val_main_v59 (F := Ideal) H g W (ix2 R j) = tailAt H g W R j := by
  have e : val_main_v59 (F := Ideal) H g W = pad S33024x128 ![0, 0] ![0, 112] ![0, 0] (val_main_v58 (F := Ideal) H g W) (val_main_call0_v0 (F := Ideal))
    pads_S33024x16_S33024x128_000_01120 h_S_ := rfl
  rw [e]
  unfold tailAt
  by_cases h : j.val < 16
  · rw [dif_pos h]
    refine (pad_apply_of_inside _ _ _ _ _ _ _ (ix2 R j) (ix2 R (⟨j.val, h⟩ : Fin 16)) (fun b => match b with
      | ⟨0, _⟩ => by show R.val = 0 + R.val * (0 + 1); omega
      | ⟨1, _⟩ => by show j.val = 0 + j.val * (0 + 1); omega)).trans ?_
    rw [val_main_v58_apply]
    exact (congrArg _ (ValueIdx.eq_ix2 _)).trans (product_at H g W R _)
  · rw [dif_neg h]
    refine (pad_apply_of_not_inside _ _ _ _ _ _ _ (ix2 R j) 1 (fun hin => h ?_)).trans ?_
    · have h2 := hin.2.2
      change (j.val - 0) / (0 + 1) < 16 at h2
      omega
    · show ((((0#32 : BitVec 32).toInt : ℝ)) : EReal) = 0
      simp

end Cert.Reference5Ideal.ProjOdd

end
-- ==== Proof.ProjEvenRun.lean ====
/-
  The body of an even mixer's projection, case by case: what a grid step stores, and what it leaves in the five scratch buffers.
-/
module

public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import Idealize.ShloMosaic.Lib.Claim
public import Idealize.ShloMosaic.Lib.WritesUnit
public import Idealize.ShloMosaic.Lib.Pipeline.ValueKit
public import Idealize.ShloMosaic.Lib.Tactic.RunNames

@[expose] public section

set_option maxRecDepth 16384

noncomputable section

namespace Cert.Kernel6Ideal.ProjEven

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether a step is of the second block of columns. -/
def condGate (i : grid0.Coords) : BitVec 1 := Scalar.cmpi .ne (Scalar.extui (Scalar.cmpi .eq (BitVec.ofNat 32 (i 1).val) 1#32) : BitVec 32) 0#32

/-- Whether a block of tokens is the first of its sequence: the number of the block is divisible by three. -/
def condStart (i : grid0.Coords) : BitVec 1 :=
  let n : BitVec 32 := Scalar.select (Scalar.cmpi .eq 3#32 0#32) 1#32 3#32
  let r : BitVec 32 := Scalar.remsi (BitVec.ofNat 32 (i 0).val) n
  let b : BitVec 1 := Scalar.andi (Scalar.xori (Scalar.cmpi .slt r 0#32) (Scalar.cmpi .slt n 0#32)) (Scalar.cmpi .ne r 0#32)
  Scalar.cmpi .ne (Scalar.extui (Scalar.cmpi .eq (Scalar.select b (Scalar.addi r n) r) 0#32) : BitVec 32) 0#32

/-- The first two of eight rows replaced. -/
def putTwo (X : Vec F S2x1024 .f32) (Y : Vec F S8x1024 .f32) : Vec F S8x1024 .f32 := fun y =>
  if h : (y 0).val < 2 then X (ix2 ⟨(y 0).val, h⟩ (y 1)) else Y y

/-- The first row of one of three blocks of eight rows, and that row replaced. -/
def rowOf (s : Fin 3) (Y : Vec F S3x8x1024 .f32) : Vec F S1x1x1024 .f32 := fun y => Y (ix3 s 0 (y 2))
def putRow (s : Fin 3) (X : Vec F S1x1x1024 .f32) (Y : Vec F S3x8x1024 .f32) : Vec F S3x8x1024 .f32 := fun y =>
  if (y 0).val = s.val ∧ (y 1).val = 0 then X (ix3 0 0 (y 2)) else Y y

/-- What a buffer reads after a store of the whole of it. -/
theorem read_whole_store {S : Shape} {e : EltTy} (v : View sig .tc .vmem S e) (f : v.ty.Contents (Elt F)) {off : Fin S.rank → Nat}
    (inb : ∀ a, off a + S.size a ≤ S.size a) (h : ∀ a, off a = 0) (X : S.Idx → Elt F e) :
    v.read (Elt F) (v.writes (Elt F) f [(⟨Rect.unit off S.size inb, X⟩ : View.Piece (Elt F) S e)]) = X := by
  refine (View.read_writes_eq_canon v f _ fun y => ⟨_, List.mem_singleton_self _, ?_⟩).trans (View.canon_cons_unit_lit inb X [] h)
  show y ∈ (Rect.unit off S.size inb).set
  exact Rect.mem_set_unit.mpr fun a => by
    rw [h a]
    exact ⟨Nat.zero_le _, by have := (y a).isLt; omega⟩

/-- What the eight rows read after a store of the first two. -/
theorem read_two_store (v : View sig .tc .vmem S8x1024 .f32) (f : v.ty.Contents (Elt F)) (inb : ∀ a, ![0, 0] a + S2x1024.size a ≤ S8x1024.size a)
    (X : Vec F S2x1024 .f32) :
    v.read (Elt F) (v.writes (Elt F) f [(⟨Rect.unit ![0, 0] S2x1024.size inb, X⟩ : View.Piece (Elt F) S8x1024 .f32)]) = putTwo X (v.read (Elt F) f) := by
  funext y
  unfold putTwo
  by_cases h : (y 0).val < 2
  · rw [dif_pos h]
    exact View.read_writes_cons_unit_of_mem v f inb X [] y (ix2 (⟨(y 0).val, h⟩ : Fin 2) (y 1)) rfl (fun a => match a with
      | ⟨0, _⟩ => (Nat.zero_add _).symm
      | ⟨1, _⟩ => (Nat.zero_add _).symm)
  · rw [dif_neg h]
    exact View.read_writes_cons_unit_of_not_mem v f inb X [] y rfl (0 : Fin 2) (Or.inr (by show 0 + 2 ≤ (y 0).val; omega))

/-- What the three blocks of eight rows read after a store of the first row of one. -/
theorem read_row_store (v : View sig .tc .vmem S3x8x1024 .f32) (f : v.ty.Contents (Elt F)) {off : Fin 3 → Nat} (s : Fin 3) (ho : off = ![s.val, 0, 0])
    (inb : ∀ a, off a + S1x1x1024.size a ≤ S3x8x1024.size a) (X : Vec F S1x1x1024 .f32) :
    v.read (Elt F) (v.writes (Elt F) f [(⟨Rect.unit off S1x1x1024.size inb, X⟩ : View.Piece (Elt F) S3x8x1024 .f32)]) = putRow s X (v.read (Elt F) f) := by
  funext y
  unfold putRow
  by_cases h : (y 0).val = s.val ∧ (y 1).val = 0
  · rw [if_pos h]
    exact View.read_writes_cons_unit_of_mem v f inb X [] y (ix3 (0 : Fin 1) (0 : Fin 1) (y 2)) ho (fun a => match a with
      | ⟨0, _⟩ => h.1
      | ⟨1, _⟩ => h.2
      | ⟨2, _⟩ => (Nat.zero_add _).symm)
  · rw [if_neg h]
    by_cases h0 : (y 0).val = s.val
    · exact View.read_writes_cons_unit_of_not_mem v f inb X [] y ho (1 : Fin 3) (Or.inr (by
        show 0 + 1 ≤ (y 1).val
        have : ¬(y 1).val = 0 := fun e => h ⟨h0, e⟩
        omega))
    · exact View.read_writes_cons_unit_of_not_mem v f inb X [] y ho (0 : Fin 3) (by
        show (y 0).val < s.val ∨ s.val + 1 ≤ (y 0).val
        omega)

/-- A load of the first row of one of the three blocks. -/
theorem ld_row {off : Fin 3 → Nat} (s : Fin 3) (ho : off = ![s.val, 0, 0]) (inb : ∀ a, off a + S1x1x1024.size a ≤ S3x8x1024.size a)
    (Y : Vec F S3x8x1024 .f32) : (View.ld Y (Rect.unit (s := S3x8x1024) off S1x1x1024.size inb) : Vec F S1x1x1024 .f32) = rowOf s Y := by
  subst ho
  funext y
  unfold rowOf
  exact View.ld_unit_apply_of Y _ _ inb y (ix3 s 0 (y 2)) (fun a => match a with
    | ⟨0, _⟩ => by show s.val = s.val + (y 0).val; have : (y 0).val < 1 := (y 0).isLt; omega
    | ⟨1, _⟩ => by show 0 = 0 + (y 1).val; have : (y 1).val < 1 := (y 1).isLt; omega
    | ⟨2, _⟩ => (Nat.zero_add _).symm)

/-- The second step of a block of tokens: its product goes to the third scratch buffer. -/
theorem run_gate (c : Dev nD) (i : grid0.Coords)
  (arg2 : Memref sig .tc .vmem S688x2048 .f32) (harg2 : arg2.IsWhole) (arg3 : Memref sig .tc .vmem S1x2048 .f32) (harg3 : arg3.IsWhole)
  (arg4 : Memref sig .tc .vmem S1x2048x1024 .bf16) (harg4 : arg4.IsWhole) (arg5 : Memref sig .tc .vmem S2048x384 .bf16) (harg5 : arg5.IsWhole)
  (arg6 : Memref sig .tc .vmem S3x1024 .f32) (harg6 : arg6.IsWhole) (arg7 : Memref sig .tc .vmem S1x1x1024 .f32) (harg7 : arg7.IsWhole)
  (arg8 : Memref sig .tc .vmem S688x1024 .bf16) (harg8 : arg8.IsWhole) (arg9 : Memref sig .tc .vmem S1x688x1024 .f32) (harg9 : arg9.IsWhole)
  (arg10 : Memref sig .tc .vmem S688x384 .f32) (harg10 : arg10.IsWhole) (arg11 : Memref sig .tc .vmem S688x2048 .bf16) (harg11 : arg11.IsWhole)
  (arg12 : Memref sig .tc .vmem S688x1024 .f32) (harg12 : arg12.IsWhole) (arg13 : Memref sig .tc .vmem S688x1024 .f32) (harg13 : arg13.IsWhole)
  (arg14 : Memref sig .tc .vmem S8x1024 .f32) (harg14 : arg14.IsWhole) (arg15 : Memref sig .tc .vmem S3x8x1024 .f32) (harg15 : arg15.IsWhole)
  (w : Vec F S1x2048x1024 .bf16) (xn : Vec F S688x2048 .bf16) (E : Set ℕ) (K : PUnit → sProp 𝕄)
    (h1 : ¬k0_cond1 i = 1#1) (h4 : condGate i = 1#1) (h5 : ¬k0_cond5 i = 1#1) (h6 : ¬k0_cond6 i = 1#1) :
    iprop(owns (c : Thread nD τ) arg4 fullShare w ∗ owns (c : Thread nD τ) arg11 fullShare xn ∗ (∃ d, owns (c : Thread nD τ) arg13 fullShare d)
        ∗ (iprop(owns (c : Thread nD τ) arg4 fullShare w ∗ owns (c : Thread nD τ) arg11 fullShare xn ∗ owns (c : Thread nD τ) arg13 fullShare (k0_pay4 xn w)) -∗ K ⟨⟩))
      ⊢ wp frame (wpE (defs₀ (F := F)) Variants.none c none) E
          (cc0_proj_even i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_proj_even_eq_skeleton]; unfold cc0_proj_even_skel
  unfold owns
  iintro ⟨⟨%f4, %hf4, H4⟩, ⟨%f11, %hf11, H11⟩, ⟨%d13, %f13, -, H13⟩, Hk⟩
  obtain rfl := harg4.eq_unread hf4; obtain rfl := harg11.eq_unread hf11
  sl_exec (disch := first | sl_exact h1 | sl_exact h4 | sl_exact h5 | sl_exact h6)
  sl_step
  iapply Hk
  isplitl [H4]
  · iexists _; isplitr; · ipureintro; exact harg4.read_unread _
    iexact H4
  isplitl [H11]
  · iexists _; isplitr; · ipureintro; exact harg11.read_unread _
    iexact H11
  iexists _; isplitr
  swap; · iexact H13
  ipureintro
  refine (read_whole_store _ _ _ (by decide) _).trans ?_
  sl_unfold_run_values
  simp (disch := decide) only [View.ld_unit_lit', View.readCov_unit_lit', View.readCov_cons_unit_lit', View.readAt_eq_ld, Memref.IsWhole.read_unread]
  try rfl

/-- The third step: it stores the first output, from the three products and the two rows before the block, and puts its own last two rows in the fourth scratch buffer. -/
theorem run_taps (c : Dev nD) (i : grid0.Coords)
  (arg2 : Memref sig .tc .vmem S688x2048 .f32) (harg2 : arg2.IsWhole) (arg3 : Memref sig .tc .vmem S1x2048 .f32) (harg3 : arg3.IsWhole)
  (arg4 : Memref sig .tc .vmem S1x2048x1024 .bf16) (harg4 : arg4.IsWhole) (arg5 : Memref sig .tc .vmem S2048x384 .bf16) (harg5 : arg5.IsWhole)
  (arg6 : Memref sig .tc .vmem S3x1024 .f32) (harg6 : arg6.IsWhole) (arg7 : Memref sig .tc .vmem S1x1x1024 .f32) (harg7 : arg7.IsWhole)
  (arg8 : Memref sig .tc .vmem S688x1024 .bf16) (harg8 : arg8.IsWhole) (arg9 : Memref sig .tc .vmem S1x688x1024 .f32) (harg9 : arg9.IsWhole)
  (arg10 : Memref sig .tc .vmem S688x384 .f32) (harg10 : arg10.IsWhole) (arg11 : Memref sig .tc .vmem S688x2048 .bf16) (harg11 : arg11.IsWhole)
  (arg12 : Memref sig .tc .vmem S688x1024 .f32) (harg12 : arg12.IsWhole) (arg13 : Memref sig .tc .vmem S688x1024 .f32) (harg13 : arg13.IsWhole)
  (arg14 : Memref sig .tc .vmem S8x1024 .f32) (harg14 : arg14.IsWhole) (arg15 : Memref sig .tc .vmem S3x8x1024 .f32) (harg15 : arg15.IsWhole)
  (w : Vec F S1x2048x1024 .bf16) (cw : Vec F S3x1024 .f32) (xn : Vec F S688x2048 .bf16) (gb gc : Vec F S688x1024 .f32) (zc : Vec F S8x1024 .f32) (E : Set ℕ) (K : PUnit → sProp 𝕄)
    (h1 : ¬k0_cond1 i = 1#1) (h4 : ¬condGate i = 1#1) (h5 : k0_cond5 i = 1#1) (h6 : ¬k0_cond6 i = 1#1) :
    iprop(owns (c : Thread nD τ) arg4 fullShare w ∗ owns (c : Thread nD τ) arg6 fullShare cw ∗ (∃ d, owns (c : Thread nD τ) arg8 fullShare d) ∗ owns (c : Thread nD τ) arg11 fullShare xn ∗ owns (c : Thread nD τ) arg12 fullShare gb ∗ owns (c : Thread nD τ) arg13 fullShare gc ∗ owns (c : Thread nD τ) arg14 fullShare zc
        ∗ (iprop(owns (c : Thread nD τ) arg4 fullShare w ∗ owns (c : Thread nD τ) arg6 fullShare cw ∗ owns (c : Thread nD τ) arg8 fullShare (k0_pay5 (k0_pay14 gc xn w zc cw) gb) ∗ owns (c : Thread nD τ) arg11 fullShare xn ∗ owns (c : Thread nD τ) arg12 fullShare gb ∗ owns (c : Thread nD τ) arg13 fullShare gc ∗ owns (c : Thread nD τ) arg14 fullShare (putTwo (k0_pay6 (k0_pay13 gc xn w)) zc)) -∗ K ⟨⟩))
      ⊢ wp frame (wpE (defs₀ (F := F)) Variants.none c none) E
          (cc0_proj_even i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_proj_even_eq_skeleton]; unfold cc0_proj_even_skel
  simp only [k0_part2_eq_skeleton]
  unfold owns
  iintro ⟨⟨%f4, %hf4, H4⟩, ⟨%f6, %hf6, H6⟩, ⟨%d8, %f8, -, H8⟩, ⟨%f11, %hf11, H11⟩, ⟨%f12, %hf12, H12⟩, ⟨%f13, %hf13, H13⟩, ⟨%f14, %hf14, H14⟩, Hk⟩
  obtain rfl := harg4.eq_unread hf4; obtain rfl := harg6.eq_unread hf6; obtain rfl := harg11.eq_unread hf11; obtain rfl := harg12.eq_unread hf12; obtain rfl := harg13.eq_unread hf13; obtain rfl := harg14.eq_unread hf14
  sl_exec (disch := first | sl_exact h1 | sl_exact h4 | sl_exact h5 | sl_exact h6)
  sl_step
  iapply Hk
  isplitl [H4]
  · iexists _; isplitr; · ipureintro; exact harg4.read_unread _
    iexact H4
  isplitl [H6]
  · iexists _; isplitr; · ipureintro; exact harg6.read_unread _
    iexact H6
  isplitl [H8]
  · iexists _; isplitr
    swap; · iexact H8
    ipureintro
    refine (read_whole_store _ _ _ (by decide) _).trans ?_
    sl_unfold_run_values
    simp (disch := decide) only [View.ld_unit_lit', View.readCov_unit_lit', View.readCov_cons_unit_lit', View.readAt_eq_ld, Memref.IsWhole.read_unread]
    try rfl
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  iexists _; isplitr
  swap; · iexact H14
  ipureintro
  refine (read_two_store _ _ _ _).trans ?_
  sl_unfold_run_values
  simp (disch := decide) only [View.ld_unit_lit', View.readCov_unit_lit', View.readCov_cons_unit_lit', View.readAt_eq_ld, Memref.IsWhole.read_unread]
  try rfl

/-- The last three steps: each stores its block of the second output, from its product and the row before the block, and puts its own last row in the fifth scratch buffer. -/
theorem run_rkv (c : Dev nD) (i : grid0.Coords)
  (arg2 : Memref sig .tc .vmem S688x2048 .f32) (harg2 : arg2.IsWhole) (arg3 : Memref sig .tc .vmem S1x2048 .f32) (harg3 : arg3.IsWhole)
  (arg4 : Memref sig .tc .vmem S1x2048x1024 .bf16) (harg4 : arg4.IsWhole) (arg5 : Memref sig .tc .vmem S2048x384 .bf16) (harg5 : arg5.IsWhole)
  (arg6 : Memref sig .tc .vmem S3x1024 .f32) (harg6 : arg6.IsWhole) (arg7 : Memref sig .tc .vmem S1x1x1024 .f32) (harg7 : arg7.IsWhole)
  (arg8 : Memref sig .tc .vmem S688x1024 .bf16) (harg8 : arg8.IsWhole) (arg9 : Memref sig .tc .vmem S1x688x1024 .f32) (harg9 : arg9.IsWhole)
  (arg10 : Memref sig .tc .vmem S688x384 .f32) (harg10 : arg10.IsWhole) (arg11 : Memref sig .tc .vmem S688x2048 .bf16) (harg11 : arg11.IsWhole)
  (arg12 : Memref sig .tc .vmem S688x1024 .f32) (harg12 : arg12.IsWhole) (arg13 : Memref sig .tc .vmem S688x1024 .f32) (harg13 : arg13.IsWhole)
  (arg14 : Memref sig .tc .vmem S8x1024 .f32) (harg14 : arg14.IsWhole) (arg15 : Memref sig .tc .vmem S3x8x1024 .f32) (harg15 : arg15.IsWhole)
  (w : Vec F S1x2048x1024 .bf16) (mu : Vec F S1x1x1024 .f32) (xn : Vec F S688x2048 .bf16) (pc : Vec F S3x8x1024 .f32) (s : Fin 3) (E : Set ℕ) (K : PUnit → sProp 𝕄)
    (h1 : ¬k0_cond1 i = 1#1) (h4 : ¬condGate i = 1#1) (h5 : ¬k0_cond5 i = 1#1) (h6 : k0_cond6 i = 1#1) (hs : k0_off1 i = ![s.val, 0, 0]) :
    iprop(owns (c : Thread nD τ) arg4 fullShare w ∗ owns (c : Thread nD τ) arg7 fullShare mu ∗ (∃ d, owns (c : Thread nD τ) arg9 fullShare d) ∗ owns (c : Thread nD τ) arg11 fullShare xn ∗ owns (c : Thread nD τ) arg15 fullShare pc
        ∗ (iprop(owns (c : Thread nD τ) arg4 fullShare w ∗ owns (c : Thread nD τ) arg7 fullShare mu ∗ owns (c : Thread nD τ) arg9 fullShare (k0_pay8 xn w (rowOf s pc) mu) ∗ owns (c : Thread nD τ) arg11 fullShare xn ∗ owns (c : Thread nD τ) arg15 fullShare (putRow s (k0_pay9 xn w) pc)) -∗ K ⟨⟩))
      ⊢ wp frame (wpE (defs₀ (F := F)) Variants.none c none) E
          (cc0_proj_even i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_proj_even_eq_skeleton]; unfold cc0_proj_even_skel
  unfold owns
  iintro ⟨⟨%f4, %hf4, H4⟩, ⟨%f7, %hf7, H7⟩, ⟨%d9, %f9, -, H9⟩, ⟨%f11, %hf11, H11⟩, ⟨%f15, %hf15, H15⟩, Hk⟩
  obtain rfl := harg4.eq_unread hf4; obtain rfl := harg7.eq_unread hf7; obtain rfl := harg11.eq_unread hf11; obtain rfl := harg15.eq_unread hf15
  sl_exec (disch := first | sl_exact h1 | sl_exact h4 | sl_exact h5 | sl_exact h6)
  sl_step
  iapply Hk
  isplitl [H4]
  · iexists _; isplitr; · ipureintro; exact harg4.read_unread _
    iexact H4
  isplitl [H7]
  · iexists _; isplitr; · ipureintro; exact harg7.read_unread _
    iexact H7
  isplitl [H9]
  · iexists _; isplitr
    swap; · iexact H9
    ipureintro
    refine (read_whole_store _ _ _ (by decide) _).trans ?_
    sl_unfold_run_values
    simp (disch := decide) only [View.ld_unit_lit', View.readCov_unit_lit', View.readCov_cons_unit_lit', View.readAt_eq_ld, Memref.IsWhole.read_unread]
    rw [ld_row s hs]
  isplitl [H11]
  · iexists _; isplitr; · ipureintro; exact harg11.read_unread _
    iexact H11
  iexists _; isplitr
  swap; · iexact H15
  ipureintro
  refine (read_row_store _ _ s hs _ _).trans ?_
  sl_unfold_run_values
  simp (disch := decide) only [View.ld_unit_lit', View.readCov_unit_lit', View.readCov_cons_unit_lit', View.readAt_eq_ld, Memref.IsWhole.read_unread]
  try rfl

/-- The first step of a block of tokens that is not the first of its sequence: it norms the tokens into the first scratch buffer, stores the third output, and puts its product in the second scratch buffer. -/
theorem run_cont (c : Dev nD) (i : grid0.Coords)
  (arg2 : Memref sig .tc .vmem S688x2048 .f32) (harg2 : arg2.IsWhole) (arg3 : Memref sig .tc .vmem S1x2048 .f32) (harg3 : arg3.IsWhole)
  (arg4 : Memref sig .tc .vmem S1x2048x1024 .bf16) (harg4 : arg4.IsWhole) (arg5 : Memref sig .tc .vmem S2048x384 .bf16) (harg5 : arg5.IsWhole)
  (arg6 : Memref sig .tc .vmem S3x1024 .f32) (harg6 : arg6.IsWhole) (arg7 : Memref sig .tc .vmem S1x1x1024 .f32) (harg7 : arg7.IsWhole)
  (arg8 : Memref sig .tc .vmem S688x1024 .bf16) (harg8 : arg8.IsWhole) (arg9 : Memref sig .tc .vmem S1x688x1024 .f32) (harg9 : arg9.IsWhole)
  (arg10 : Memref sig .tc .vmem S688x384 .f32) (harg10 : arg10.IsWhole) (arg11 : Memref sig .tc .vmem S688x2048 .bf16) (harg11 : arg11.IsWhole)
  (arg12 : Memref sig .tc .vmem S688x1024 .f32) (harg12 : arg12.IsWhole) (arg13 : Memref sig .tc .vmem S688x1024 .f32) (harg13 : arg13.IsWhole)
  (arg14 : Memref sig .tc .vmem S8x1024 .f32) (harg14 : arg14.IsWhole) (arg15 : Memref sig .tc .vmem S3x8x1024 .f32) (harg15 : arg15.IsWhole)
  (x : Vec F S688x2048 .f32) (g : Vec F S1x2048 .f32) (w : Vec F S1x2048x1024 .bf16) (wt : Vec F S2048x384 .bf16) (E : Set ℕ) (K : PUnit → sProp 𝕄)
    (h1 : k0_cond1 i = 1#1) (h2 : ¬condStart i = 1#1) (h4 : ¬condGate i = 1#1) (h5 : ¬k0_cond5 i = 1#1) (h6 : ¬k0_cond6 i = 1#1) :
    iprop(owns (c : Thread nD τ) arg2 fullShare x ∗ owns (c : Thread nD τ) arg3 fullShare g ∗ owns (c : Thread nD τ) arg4 fullShare w ∗ owns (c : Thread nD τ) arg5 fullShare wt ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x ∗ owns (c : Thread nD τ) arg3 fullShare g ∗ owns (c : Thread nD τ) arg4 fullShare w ∗ owns (c : Thread nD τ) arg5 fullShare wt ∗ owns (c : Thread nD τ) arg10 fullShare (k0_pay12 x g wt) ∗ owns (c : Thread nD τ) arg11 fullShare (k0_pay11 x g) ∗ owns (c : Thread nD τ) arg12 fullShare (k0_pay3 (k0_pay11 x g) w)) -∗ K ⟨⟩))
      ⊢ wp frame (wpE (defs₀ (F := F)) Variants.none c none) E
          (cc0_proj_even i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_proj_even_eq_skeleton]; unfold cc0_proj_even_skel
  simp only [k0_part1_eq_skeleton]
  unfold owns
  iintro ⟨⟨%f2, %hf2, H2⟩, ⟨%f3, %hf3, H3⟩, ⟨%f4, %hf4, H4⟩, ⟨%f5, %hf5, H5⟩, ⟨%d10, %f10, -, H10⟩, ⟨%d11, %f11, -, H11⟩, ⟨%d12, %f12, -, H12⟩, Hk⟩
  obtain rfl := harg2.eq_unread hf2; obtain rfl := harg3.eq_unread hf3; obtain rfl := harg4.eq_unread hf4; obtain rfl := harg5.eq_unread hf5
  sl_exec (disch := first | sl_exact h1 | sl_exact h2 | sl_exact h4 | sl_exact h5 | sl_exact h6)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H10]
  · iexists _; isplitr
    swap; · iexact H10
    ipureintro
    refine (read_whole_store _ _ _ (by decide) _).trans ?_
    sl_unfold_run_values
    simp (disch := decide) only [View.ld_unit_lit', View.readCov_unit_lit', View.readCov_cons_unit_lit', View.readAt_eq_ld, Memref.IsWhole.read_unread]
    try rfl
  isplitl [H11]
  · iexists _; isplitr
    swap; · iexact H11
    ipureintro
    refine (read_whole_store _ _ _ (by decide) _).trans ?_
    sl_unfold_run_values
    simp (disch := decide) only [View.ld_unit_lit', View.readCov_unit_lit', View.readCov_cons_unit_lit', View.readAt_eq_ld, Memref.IsWhole.read_unread]
    try rfl
  iexists _; isplitr
  swap; · iexact H12
  ipureintro
  refine (read_whole_store _ _ _ (by decide) _).trans ?_
  sl_unfold_run_values
  simp (disch := decide) only [View.ld_unit_lit', View.readCov_unit_lit', View.readCov_cons_unit_lit', View.readAt_eq_ld, Memref.IsWhole.read_unread]
  unfold run_cont.sl.H11_1
  simp (disch := decide) only [View.ld_unit_lit', View.readCov_unit_lit', View.readCov_cons_unit_lit', View.readAt_eq_ld, Memref.IsWhole.read_unread]

/-- The first step of the first block of a sequence: it also fills the last two scratch buffers with zeros. -/
theorem run_start (c : Dev nD) (i : grid0.Coords)
  (arg2 : Memref sig .tc .vmem S688x2048 .f32) (harg2 : arg2.IsWhole) (arg3 : Memref sig .tc .vmem S1x2048 .f32) (harg3 : arg3.IsWhole)
  (arg4 : Memref sig .tc .vmem S1x2048x1024 .bf16) (harg4 : arg4.IsWhole) (arg5 : Memref sig .tc .vmem S2048x384 .bf16) (harg5 : arg5.IsWhole)
  (arg6 : Memref sig .tc .vmem S3x1024 .f32) (harg6 : arg6.IsWhole) (arg7 : Memref sig .tc .vmem S1x1x1024 .f32) (harg7 : arg7.IsWhole)
  (arg8 : Memref sig .tc .vmem S688x1024 .bf16) (harg8 : arg8.IsWhole) (arg9 : Memref sig .tc .vmem S1x688x1024 .f32) (harg9 : arg9.IsWhole)
  (arg10 : Memref sig .tc .vmem S688x384 .f32) (harg10 : arg10.IsWhole) (arg11 : Memref sig .tc .vmem S688x2048 .bf16) (harg11 : arg11.IsWhole)
  (arg12 : Memref sig .tc .vmem S688x1024 .f32) (harg12 : arg12.IsWhole) (arg13 : Memref sig .tc .vmem S688x1024 .f32) (harg13 : arg13.IsWhole)
  (arg14 : Memref sig .tc .vmem S8x1024 .f32) (harg14 : arg14.IsWhole) (arg15 : Memref sig .tc .vmem S3x8x1024 .f32) (harg15 : arg15.IsWhole)
  (x : Vec F S688x2048 .f32) (g : Vec F S1x2048 .f32) (w : Vec F S1x2048x1024 .bf16) (wt : Vec F S2048x384 .bf16) (E : Set ℕ) (K : PUnit → sProp 𝕄)
    (h1 : k0_cond1 i = 1#1) (h2 : condStart i = 1#1) (h4 : ¬condGate i = 1#1) (h5 : ¬k0_cond5 i = 1#1) (h6 : ¬k0_cond6 i = 1#1) :
    iprop(owns (c : Thread nD τ) arg2 fullShare x ∗ owns (c : Thread nD τ) arg3 fullShare g ∗ owns (c : Thread nD τ) arg4 fullShare w ∗ owns (c : Thread nD τ) arg5 fullShare wt ∗ (∃ d, owns (c : Thread nD τ) arg10 fullShare d) ∗ (∃ d, owns (c : Thread nD τ) arg11 fullShare d) ∗ (∃ d, owns (c : Thread nD τ) arg12 fullShare d) ∗ (∃ d, owns (c : Thread nD τ) arg14 fullShare d) ∗ (∃ d, owns (c : Thread nD τ) arg15 fullShare d)
        ∗ (iprop(owns (c : Thread nD τ) arg2 fullShare x ∗ owns (c : Thread nD τ) arg3 fullShare g ∗ owns (c : Thread nD τ) arg4 fullShare w ∗ owns (c : Thread nD τ) arg5 fullShare wt ∗ owns (c : Thread nD τ) arg10 fullShare (k0_pay12 x g wt) ∗ owns (c : Thread nD τ) arg11 fullShare (k0_pay11 x g) ∗ owns (c : Thread nD τ) arg12 fullShare (k0_pay3 (k0_pay11 x g) w) ∗ owns (c : Thread nD τ) arg14 fullShare k0_pay1 ∗ owns (c : Thread nD τ) arg15 fullShare k0_pay2) -∗ K ⟨⟩))
      ⊢ wp frame (wpE (defs₀ (F := F)) Variants.none c none) E
          (cc0_proj_even i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_proj_even_eq_skeleton]; unfold cc0_proj_even_skel
  simp only [k0_part1_eq_skeleton]
  unfold owns
  iintro ⟨⟨%f2, %hf2, H2⟩, ⟨%f3, %hf3, H3⟩, ⟨%f4, %hf4, H4⟩, ⟨%f5, %hf5, H5⟩, ⟨%d10, %f10, -, H10⟩, ⟨%d11, %f11, -, H11⟩, ⟨%d12, %f12, -, H12⟩, ⟨%d14, %f14, -, H14⟩, ⟨%d15, %f15, -, H15⟩, Hk⟩
  obtain rfl := harg2.eq_unread hf2; obtain rfl := harg3.eq_unread hf3; obtain rfl := harg4.eq_unread hf4; obtain rfl := harg5.eq_unread hf5
  sl_exec (disch := first | sl_exact h1 | sl_exact h2 | sl_exact h4 | sl_exact h5 | sl_exact h6)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H10]
  · iexists _; isplitr
    swap; · iexact H10
    ipureintro
    refine (read_whole_store _ _ _ (by decide) _).trans ?_
    sl_unfold_run_values
    simp (disch := decide) only [View.ld_unit_lit', View.readCov_unit_lit', View.readCov_cons_unit_lit', View.readAt_eq_ld, Memref.IsWhole.read_unread]
    try rfl
  isplitl [H11]
  · iexists _; isplitr
    swap; · iexact H11
    ipureintro
    refine (read_whole_store _ _ _ (by decide) _).trans ?_
    sl_unfold_run_values
    simp (disch := decide) only [View.ld_unit_lit', View.readCov_unit_lit', View.readCov_cons_unit_lit', View.readAt_eq_ld, Memref.IsWhole.read_unread]
    try rfl
  isplitl [H12]
  · iexists _; isplitr
    swap; · iexact H12
    ipureintro
    refine (read_whole_store _ _ _ (by decide) _).trans ?_
    sl_unfold_run_values
    simp (disch := decide) only [View.ld_unit_lit', View.readCov_unit_lit', View.readCov_cons_unit_lit', View.readAt_eq_ld, Memref.IsWhole.read_unread]
    unfold run_start.sl.H11_1
    simp (disch := decide) only [View.ld_unit_lit', View.readCov_unit_lit', View.readCov_cons_unit_lit', View.readAt_eq_ld, Memref.IsWhole.read_unread]
  isplitl [H14]
  · iexists _; isplitr
    swap; · iexact H14
    ipureintro
    refine (read_whole_store _ _ _ (by decide) _).trans ?_
    sl_unfold_run_values
    simp (disch := decide) only [View.ld_unit_lit', View.readCov_unit_lit', View.readCov_cons_unit_lit', View.readAt_eq_ld, Memref.IsWhole.read_unread]
    try rfl
  iexists _; isplitr
  swap; · iexact H15
  ipureintro
  refine (read_whole_store _ _ _ (by decide) _).trans ?_
  sl_unfold_run_values
  simp (disch := decide) only [View.ld_unit_lit', View.readCov_unit_lit', View.readCov_cons_unit_lit', View.readAt_eq_ld, Memref.IsWhole.read_unread]
  try rfl

end Cert.Kernel6Ideal.ProjEven
-- ==== Proof.ProjEvenFrame.lean ====
/-
  The run of an even mixer's projection: what each buffer holds after each grid step, and that the program ends with its arguments
  unchanged. A block of 688 tokens takes six steps, and three blocks are a sequence. The first step norms the tokens into the first
  scratch buffer, which the other five read; the second and third scratch buffers keep the products of the first two steps for the
  third, which stores the first output. The last three steps store the second output. The last two scratch buffers carry the last
  rows of a block to the next block of its sequence.
-/
module

public import proofs.«01_k».proof.Proof.ProjEvenRun

@[expose] public section

set_option maxRecDepth 16384

noncomputable section

namespace Cert.Kernel6Ideal.ProjEven

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Steps -/

/-- A step is the step with number `6 * (block of tokens) + (block of columns)`. -/
theorem steps (t : Fin cfg0.N) : t.val < 288 := Nat.lt_of_lt_of_eq t.isLt N_0

/-- The step `k` of the block of tokens of step `t`. -/
def step (t : Fin cfg0.N) (k : Fin 6) : Fin cfg0.N := ⟨t.val / 6 * 6 + k.val, by have := steps t; have := k.isLt; have : cfg0.N = 288 := N_0; omega⟩

/-- The step of the block before, at the same block of columns. -/
def prev (t : Fin cfg0.N) : Fin cfg0.N := ⟨t.val - 6, Nat.lt_of_le_of_lt (Nat.sub_le _ _) t.isLt⟩

/-- Two steps of one block of tokens have the same steps. -/
theorem step_congr {t t' : Fin cfg0.N} (h : t.val / 6 = t'.val / 6) (k : Fin 6) : step t k = step t' k :=
  Fin.ext (by show t.val / 6 * 6 + k.val = t'.val / 6 * 6 + k.val; rw [h])

/-- A step is the one of its own block of columns. -/
theorem step_self (t : Fin cfg0.N) (k : Fin 6) (h : t.val % 6 = k.val) : step t k = t := Fin.ext (by show t.val / 6 * 6 + k.val = t.val; omega)

/-- The block of the second output a step stores. -/
def slot (t : Fin cfg0.N) : Fin 3 := ⟨t.val % 6 - 3, by omega⟩

/-- The body's conditions, at each step. -/
theorem cond_first : ∀ t : Fin cfg0.N, k0_cond1 (grid0.coords t) = 1#1 ↔ t.val % 6 = 0 := by decide +kernel
theorem cond_start : ∀ t : Fin cfg0.N, condStart (grid0.coords t) = 1#1 ↔ t.val % 18 < 6 := by decide +kernel
theorem cond_gate : ∀ t : Fin cfg0.N, condGate (grid0.coords t) = 1#1 ↔ t.val % 6 = 1 := by decide +kernel
theorem cond_taps : ∀ t : Fin cfg0.N, k0_cond5 (grid0.coords t) = 1#1 ↔ t.val % 6 = 2 := by decide +kernel
theorem cond_rkv : ∀ t : Fin cfg0.N, k0_cond6 (grid0.coords t) = 1#1 ↔ 3 ≤ t.val % 6 := by decide +kernel

/-- Where the last three steps read and store the carried row. -/
theorem off_row : ∀ t : Fin cfg0.N, 3 ≤ t.val % 6 → k0_off1 (grid0.coords t) = ![(slot t).val, 0, 0] := by decide +kernel

/-- At which steps an output's block is not stored into, and at which it is written back. -/
theorem idle_ya : ∀ t : Fin cfg0.N, cfg0.idle 6 (cfg0.grid.coords t) = decide (t.val % 6 ≠ 2) := by decide +kernel
theorem idle_rkv : ∀ t : Fin cfg0.N, cfg0.idle 7 (cfg0.grid.coords t) = decide (t.val % 6 < 3) := by decide +kernel
theorem idle_tail : ∀ t : Fin cfg0.N, cfg0.idle 8 (cfg0.grid.coords t) = decide (t.val % 6 ≠ 0) := by decide +kernel
theorem flush_ya : ∀ t : Fin cfg0.N, (cfg0.win 6).flush t = decide (t.val % 6 = 5) := by decide +kernel
theorem flush_rkv : ∀ t : Fin cfg0.N, (cfg0.win 7).flush t = decide (3 ≤ t.val % 6) := by decide +kernel
theorem flush_tail : ∀ t : Fin cfg0.N, (cfg0.win 8).flush t = decide (t.val % 6 = 5) := by decide +kernel

/-! ## What the buffers hold -/

/-- The normed tokens of the block of tokens of step `t`. -/
def normed (c : Dev nD) (t : Fin cfg0.N) : Vec F S688x2048 .bf16 := k0_pay11 (iblk m c 0 (step t 0)) (iblk m c 1 (step t 0))

/-- The products of the block's first two steps, and the elementwise product of the second's with the third's. -/
def gbAt (c : Dev nD) (t : Fin cfg0.N) : Vec F S688x1024 .f32 := k0_pay3 (normed m c t) (X0_2 m c (step t 0))
def gcAt (c : Dev nD) (t : Fin cfg0.N) : Vec F S688x1024 .f32 := k0_pay4 (normed m c t) (X0_2 m c (step t 1))
def zAt (c : Dev nD) (t : Fin cfg0.N) : Vec F S688x1024 .f32 := k0_pay13 (gcAt m c t) (normed m c t) (X0_2 m c (step t 2))

/-- The last row of the block's product of step `k`. -/
def lastRow (c : Dev nD) (t : Fin cfg0.N) (k : Fin 6) : Vec F S1x1x1024 .f32 := k0_pay9 (normed m c t) (X0_2 m c (step t k))

/-- The fourth scratch buffer before step `t`: in its first two rows the last two of the block, once they are stored, and before that
    of the block before, or zeros in the first block of a sequence. -/
def zcAt (c : Dev nD) (t : Fin cfg0.N) : Vec F S8x1024 .f32 :=
  if 3 ≤ t.val % 6 then putTwo (k0_pay6 (zAt m c t)) k0_pay1 else if t.val % 18 < 6 then k0_pay1 else putTwo (k0_pay6 (zAt m c (prev t))) k0_pay1

/-- The fifth scratch buffer before step `t`: in the first row of each of its three blocks the last row of the block's product, once it
    is stored, and before that of the block before, or zeros in the first block of a sequence. -/
def pcAt (c : Dev nD) (t : Fin cfg0.N) : Vec F S3x8x1024 .f32 := fun y =>
  if (y 1).val = 0 then
    (if (y 0).val + 3 < t.val % 6 then lastRow m c t ⟨(y 0).val + 3, by have : (y 0).val < 3 := (y 0).isLt; omega⟩ (ix3 0 0 (y 2))
      else if t.val % 18 < 6 then k0_pay2 y
      else lastRow m c (prev t) ⟨(y 0).val + 3, by have : (y 0).val < 3 := (y 0).isLt; omega⟩ (ix3 0 0 (y 2)))
  else k0_pay2 y

/-- The first output's block. -/
def yaAt (c : Dev nD) (t : Fin cfg0.N) : Vec F S688x1024 .bf16 :=
  k0_pay5 (k0_pay14 (gcAt m c t) (normed m c t) (X0_2 m c (step t 2)) (zcAt m c (step t 2)) (iblk m c 4 (step t 2))) (gbAt m c t)

/-- The second output's block, at the last three steps. -/
def rkvAt (c : Dev nD) (t : Fin cfg0.N) : Vec F S1x688x1024 .f32 :=
  k0_pay8 (normed m c t) (X0_2 m c t) (rowOf (slot t) (pcAt m c t)) (iblk m c 5 t)

/-- The third output's block. -/
def tailAt (c : Dev nD) (t : Fin cfg0.N) : Vec F S688x384 .f32 :=
  k0_pay12 (iblk m c 0 (step t 0)) (iblk m c 1 (step t 0)) (iblk m c 3 (step t 0))

/-- All of these are the same at two steps of one block of tokens. -/
theorem normed_congr (c : Dev nD) {t t' : Fin cfg0.N} (h : t.val / 6 = t'.val / 6) : normed m c t = normed m c t' := by
  unfold normed; rw [step_congr h]
theorem gbAt_congr (c : Dev nD) {t t' : Fin cfg0.N} (h : t.val / 6 = t'.val / 6) : gbAt m c t = gbAt m c t' := by
  unfold gbAt; rw [step_congr h, normed_congr m c h]
theorem gcAt_congr (c : Dev nD) {t t' : Fin cfg0.N} (h : t.val / 6 = t'.val / 6) : gcAt m c t = gcAt m c t' := by
  unfold gcAt; rw [step_congr h, normed_congr m c h]
theorem zAt_congr (c : Dev nD) {t t' : Fin cfg0.N} (h : t.val / 6 = t'.val / 6) : zAt m c t = zAt m c t' := by
  unfold zAt; rw [step_congr h, normed_congr m c h, gcAt_congr m c h]
theorem lastRow_congr (c : Dev nD) {t t' : Fin cfg0.N} (h : t.val / 6 = t'.val / 6) (k : Fin 6) : lastRow m c t k = lastRow m c t' k := by
  unfold lastRow; rw [step_congr h, normed_congr m c h]
theorem yaAt_congr (c : Dev nD) {t t' : Fin cfg0.N} (h : t.val / 6 = t'.val / 6) : yaAt m c t = yaAt m c t' := by
  unfold yaAt; rw [step_congr h, normed_congr m c h, gcAt_congr m c h, gbAt_congr m c h]
theorem tailAt_congr (c : Dev nD) {t t' : Fin cfg0.N} (h : t.val / 6 = t'.val / 6) : tailAt m c t = tailAt m c t' := by
  unfold tailAt; rw [step_congr h]

/-- A second store into the first two rows hides the first. -/
theorem putTwo_putTwo (X X' : Vec F S2x1024 .f32) (Y : Vec F S8x1024 .f32) : putTwo X (putTwo X' Y) = putTwo X Y := by
  funext y
  unfold putTwo
  by_cases h : (y 0).val < 2
  · rw [dif_pos h, dif_pos h]
  · rw [dif_neg h, dif_neg h, dif_neg h]

/-- The fourth scratch buffer once the block's own rows are stored, and before. -/
theorem zcAt_late (c : Dev nD) (t : Fin cfg0.N) (h : 3 ≤ t.val % 6) : zcAt m c t = putTwo (k0_pay6 (zAt m c t)) k0_pay1 := if_pos h
theorem zcAt_zero (c : Dev nD) (t : Fin cfg0.N) (h : t.val % 6 < 3) (h18 : t.val % 18 < 6) : zcAt m c t = k0_pay1 :=
  (if_neg (by omega)).trans (if_pos h18)
theorem zcAt_prev (c : Dev nD) (t : Fin cfg0.N) (h : t.val % 6 < 3) (h18 : ¬t.val % 18 < 6) : zcAt m c t = putTwo (k0_pay6 (zAt m c (prev t))) k0_pay1 :=
  (if_neg (by omega)).trans (if_neg h18)

/-- The third step puts the block's last two rows in the fourth scratch buffer; -/
theorem zc_taps (c : Dev nD) (t s : Fin cfg0.N) (h : s.val = t.val + 1) (ht : t.val % 6 = 2) :
    putTwo (k0_pay6 (zAt m c t)) (zcAt m c t) = zcAt m c s := by
  rw [zcAt_late m c s (by omega), zAt_congr m c (t := t) (t' := s) (by omega)]
  by_cases h18 : t.val % 18 < 6
  · rw [zcAt_zero m c t (by omega) h18]
  · rw [zcAt_prev m c t (by omega) h18, putTwo_putTwo]

/-- the other steps leave it. -/
theorem zc_keep (c : Dev nD) (t s : Fin cfg0.N) (h : s.val = t.val + 1) (ht : t.val % 6 ≠ 2) (hs : s.val % 18 ≠ 0) : zcAt m c t = zcAt m c s := by
  by_cases h5 : t.val % 6 = 5
  · rw [zcAt_late m c t (by omega), zcAt_prev m c s (by omega) (by omega), zAt_congr m c (t := t) (t' := prev s) (by show t.val / 6 = (s.val - 6) / 6; omega)]
  · by_cases h3 : 3 ≤ t.val % 6
    · rw [zcAt_late m c t h3, zcAt_late m c s (by omega), zAt_congr m c (t := t) (t' := s) (by omega)]
    · by_cases h18 : t.val % 18 < 6
      · rw [zcAt_zero m c t (by omega) h18, zcAt_zero m c s (by omega) (by omega)]
      · rw [zcAt_prev m c t (by omega) h18, zcAt_prev m c s (by omega) (by omega),
          zAt_congr m c (t := prev t) (t' := prev s) (by show (t.val - 6) / 6 = (s.val - 6) / 6; omega)]

/-- The fifth scratch buffer at a block's first row, and at its others. -/
theorem pcAt_zero (c : Dev nD) (t : Fin cfg0.N) (a : Fin 3) (x : Fin 1024) :
    pcAt m c t (ix3 a 0 x) = if a.val + 3 < t.val % 6 then lastRow m c t ⟨a.val + 3, by omega⟩ (ix3 0 0 x)
      else if t.val % 18 < 6 then k0_pay2 (ix3 a 0 x) else lastRow m c (prev t) ⟨a.val + 3, by omega⟩ (ix3 0 0 x) := if_pos rfl
theorem pcAt_other (c : Dev nD) (t : Fin cfg0.N) (a : Fin 3) (b : Fin 8) (x : Fin 1024) (h : b.val ≠ 0) : pcAt m c t (ix3 a b x) = k0_pay2 (ix3 a b x) :=
  if_neg h

/-- A replaced row, at an index. -/
theorem putRow_at (s : Fin 3) (X : Vec F S1x1x1024 .f32) (Y : Vec F S3x8x1024 .f32) (a : Fin 3) (b : Fin 8) (x : Fin 1024) :
    putRow s X Y (ix3 a b x) = if a.val = s.val ∧ b.val = 0 then X (ix3 0 0 x) else Y (ix3 a b x) := rfl

/-- The first three steps leave the fifth scratch buffer; -/
theorem pc_keep (c : Dev nD) (t s : Fin cfg0.N) (h : s.val = t.val + 1) (ht : t.val % 6 < 3) : pcAt m c t = pcAt m c s := by
  funext y
  obtain ⟨a, b, x, rfl⟩ : ∃ (a : Fin 3) (b : Fin 8) (x : Fin 1024), y = ix3 a b x := ⟨_, _, _, eq_ix3 y⟩
  by_cases h1 : b.val = 0
  · obtain rfl : b = 0 := Fin.ext h1
    rw [pcAt_zero m c t, pcAt_zero m c s, if_neg (show ¬a.val + 3 < t.val % 6 by omega), if_neg (show ¬a.val + 3 < s.val % 6 by omega),
      lastRow_congr m c (t := prev t) (t' := prev s) (by show (t.val - 6) / 6 = (s.val - 6) / 6; omega)]
    by_cases h18 : t.val % 18 < 6
    · rw [if_pos h18, if_pos (show s.val % 18 < 6 by omega)]
    · rw [if_neg h18, if_neg (show ¬s.val % 18 < 6 by omega)]
  · rw [pcAt_other m c t a b x h1, pcAt_other m c s a b x h1]

/-- each of the last three puts its product's last row in it. -/
theorem pc_rkv (c : Dev nD) (t s : Fin cfg0.N) (h : s.val = t.val + 1) (ht : 3 ≤ t.val % 6) (hs : s.val % 18 ≠ 0) :
    putRow (slot t) (k0_pay9 (normed m c t) (X0_2 m c t)) (pcAt m c t) = pcAt m c s := by
  funext y
  obtain ⟨a, b, x, rfl⟩ : ∃ (a : Fin 3) (b : Fin 8) (x : Fin 1024), y = ix3 a b x := ⟨_, _, _, eq_ix3 y⟩
  have hsl : (slot t).val = t.val % 6 - 3 := rfl
  rw [putRow_at]
  by_cases h1 : b.val = 0
  · obtain rfl : b = 0 := Fin.ext h1
    rw [pcAt_zero m c t, pcAt_zero m c s]
    by_cases h5 : t.val % 6 = 5
    · rw [if_neg (show ¬a.val + 3 < s.val % 6 by omega), if_neg (show ¬s.val % 18 < 6 by omega),
        lastRow_congr m c (t := prev s) (t' := t) (by show (s.val - 6) / 6 = t.val / 6; omega)]
      by_cases he : a.val = (slot t).val
      · rw [if_pos ⟨he, rfl⟩]
        unfold lastRow
        rw [step_self t ⟨a.val + 3, _⟩ (by show t.val % 6 = a.val + 3; omega)]
      · rw [if_neg (fun e => he e.1), if_pos (show a.val + 3 < t.val % 6 by omega)]
    · rw [lastRow_congr m c (t := s) (t' := t) (by omega), lastRow_congr m c (t := prev s) (t' := prev t) (by show (s.val - 6) / 6 = (t.val - 6) / 6; omega)]
      by_cases he : a.val = (slot t).val
      · rw [if_pos ⟨he, rfl⟩, if_pos (show a.val + 3 < s.val % 6 by omega)]
        unfold lastRow
        rw [step_self t ⟨a.val + 3, _⟩ (by show t.val % 6 = a.val + 3; omega)]
      · rw [if_neg (fun e => he e.1)]
        by_cases hl : a.val + 3 < t.val % 6
        · rw [if_pos hl, if_pos (show a.val + 3 < s.val % 6 by omega)]
        · rw [if_neg hl, if_neg (show ¬a.val + 3 < s.val % 6 by omega)]
          by_cases h18 : t.val % 18 < 6
          · rw [if_pos h18, if_pos (show s.val % 18 < 6 by omega)]
          · rw [if_neg h18, if_neg (show ¬s.val % 18 < 6 by omega)]
  · rw [if_neg (fun e => h1 e.2), pcAt_other m c t a b x h1, pcAt_other m c s a b x h1]

/-- In the first block of a sequence both hold zeros before the block's own rows are stored. -/
theorem zc_start (c : Dev nD) (s : Fin cfg0.N) (h : s.val % 18 = 1) : k0_pay1 = zcAt m c s := (zcAt_zero m c s (by omega) (by omega)).symm
theorem pc_start (c : Dev nD) (s : Fin cfg0.N) (h : s.val % 18 = 1) : k0_pay2 = pcAt m c s := by
  funext y
  obtain ⟨a, b, x, rfl⟩ : ∃ (a : Fin 3) (b : Fin 8) (x : Fin 1024), y = ix3 a b x := ⟨_, _, _, eq_ix3 y⟩
  by_cases h1 : b.val = 0
  · obtain rfl : b = 0 := Fin.ext h1
    rw [pcAt_zero m c s, if_neg (show ¬a.val + 3 < s.val % 6 by omega), if_pos (show s.val % 18 < 6 by omega)]
  · rw [pcAt_other m c s a b x h1]

/-- The memrefs the body is called with. -/
abbrev ms0 (t : Fin cfg0.N) : Memref sig .tc .vmem S688x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S1x2048x1024 .bf16 := win0_2.stage (cfg0.slots t 2)
abbrev ms3 (t : Fin cfg0.N) : Memref sig .tc .vmem S2048x384 .bf16 := win0_3.stage (cfg0.slots t 3)
abbrev ms4 (t : Fin cfg0.N) : Memref sig .tc .vmem S3x1024 .f32 := win0_4.stage (cfg0.slots t 4)
abbrev ms5 (t : Fin cfg0.N) : Memref sig .tc .vmem S1x1x1024 .f32 := win0_5.stage (cfg0.slots t 5)
abbrev ms6 (t : Fin cfg0.N) : Memref sig .tc .vmem S688x1024 .bf16 := win0_6.stage (cfg0.slots t 6)
abbrev ms7 (t : Fin cfg0.N) : Memref sig .tc .vmem S1x688x1024 .f32 := win0_7.stage (cfg0.slots t 7)
abbrev ms8 (t : Fin cfg0.N) : Memref sig .tc .vmem S688x384 .f32 := win0_8.stage (cfg0.slots t 8)
abbrev sc0 : Memref sig .tc .vmem S688x2048 .bf16 := Memref.whole cc0_scratch0
abbrev sc1 : Memref sig .tc .vmem S688x1024 .f32 := Memref.whole cc0_scratch1
abbrev sc2 : Memref sig .tc .vmem S688x1024 .f32 := Memref.whole cc0_scratch2
abbrev sc3 : Memref sig .tc .vmem S8x1024 .f32 := Memref.whole cc0_scratch3
abbrev sc4 : Memref sig .tc .vmem S3x8x1024 .f32 := Memref.whole cc0_scratch4

/-- The five scratch buffers at some contents, and the generator's register. -/
theorem rest_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- What holds before step `t`, the scratch buffers being at known contents: at a block's first step the last two are, at its second
    the first two as well, at its others all five. -/
def known (c : Dev nD) (t : Fin cfg0.N) : sProp 𝕄 :=
  if t.val % 6 = 0 then iprop((∃ d, owns (c : Thread nD τ) sc0 fullShare d) ∗ (∃ d, owns (c : Thread nD τ) sc1 fullShare d) ∗ (∃ d, owns (c : Thread nD τ) sc2 fullShare d) ∗ owns (c : Thread nD τ) sc3 fullShare (zcAt m c t) ∗ owns (c : Thread nD τ) sc4 fullShare (pcAt m c t) ∗ (∃ r, prngReg c r))
  else if t.val % 6 = 1 then iprop(owns (c : Thread nD τ) sc0 fullShare (normed m c t) ∗ owns (c : Thread nD τ) sc1 fullShare (gbAt m c t) ∗ (∃ d, owns (c : Thread nD τ) sc2 fullShare d) ∗ owns (c : Thread nD τ) sc3 fullShare (zcAt m c t) ∗ owns (c : Thread nD τ) sc4 fullShare (pcAt m c t) ∗ (∃ r, prngReg c r))
  else iprop(owns (c : Thread nD τ) sc0 fullShare (normed m c t) ∗ owns (c : Thread nD τ) sc1 fullShare (gbAt m c t) ∗ owns (c : Thread nD τ) sc2 fullShare (gcAt m c t) ∗ owns (c : Thread nD τ) sc3 fullShare (zcAt m c t) ∗ owns (c : Thread nD τ) sc4 fullShare (pcAt m c t) ∗ (∃ r, prngReg c r))

/-- What holds before step `n`: at a sequence's first step nothing is known of the scratch buffers. -/
def inv (c : Dev nD) (n : Fin (cfg0.N + 1)) : sProp 𝕄 :=
  if h : n.val % 18 = 0 then Pipeline.ΦA spec0 c
  else known m c ⟨n.val, by have := n.isLt; have : cfg0.N = 288 := N_0; omega⟩

/-- The proof data: each array as the launch finds it, what each buffer holds after each step, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => yaAt m c t
    | ⟨7, _⟩ => rkvAt m c t
    | ⟨8, _⟩ => tailAt m c t
  Φ t := inv m c t
  q _ := fullShare
  owed _ := 0

/-- The arrays of the proof data. -/
theorem A_eq (c : Dev nD) (w : Fin cfg0.W) : (dats m 0 c).A w = V m c (Pipeline.arrRef spec0 w) := by
  dsimp only [dats]

/-- What a step leaves in each buffer. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_ya (c : Dev nD) (t : Fin cfg0.N) : (dats m 0 c).after 6 t = yaAt m c t := by dsimp only [dats]
theorem after_rkv (c : Dev nD) (t : Fin cfg0.N) : (dats m 0 c).after 7 t = rkvAt m c t := by dsimp only [dats]
theorem after_tail (c : Dev nD) (t : Fin cfg0.N) : (dats m 0 c).after 8 t = tailAt m c t := by dsimp only [dats]

/-- What a step finds in each input's buffer: its block. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What a step finds in an output's buffer that has not been written back since the step before: what that step has left, or
    what it has found if it does not store into the buffer. -/
theorem before_out {c : Dev nD} (dat : Dat τ (Elt F) Unit ℕ (UR sig nD τ) ℕ cfg0 c) (w : Fin cfg0.W) (hw : (cfg0.win w).isOut = true)
    (hc : ∀ (i : cfg0.grid.Coords) a, (cfg0.win w).clip i a = none) (t s : Fin cfg0.N) (ht : t.val = s.val + 1)
    (hf : (cfg0.win w).flush s = false) (d) :
    dat.before w t d = if cfg0.idle w (cfg0.grid.coords s) = true then dat.before w s d else dat.after w s := by
  have e : s = ⟨t.val - 1, Nat.lt_of_le_of_lt (Nat.sub_le _ _) t.isLt⟩ := Fin.ext (by show s.val = t.val - 1; omega)
  rw [dat.before_of_pos w t (by omega) ((cfg0.win w).fetch_out hw t), ← e, hf, if_neg Bool.false_ne_true]
  unfold Dat.left
  cases h : cfg0.idle w (cfg0.grid.coords s)
  · rw [if_neg Bool.false_ne_true]
    show dat.kept w s d = _
    unfold Dat.kept
    rw [Pipeline.fill_of_clip_none w _ (hc _) d (dat.after w s), Pipeline.Window.fill_cut]
  · rw [if_pos rfl]

/-- A step after the third finds the first output's block in its buffer. -/
theorem before_ya (c : Dev nD) (d) : ∀ (n : ℕ) (hn : n < cfg0.N), 2 < n % 6 → (dats m 0 c).before 6 ⟨n, hn⟩ d = yaAt m c ⟨n, hn⟩
  | 0, _, h => absurd h (by decide)
  | n + 1, hn, h => by
    rw [before_out (dats m 0 c) 6 rfl (fun _ _ => rfl) ⟨n + 1, hn⟩ ⟨n, Nat.lt_of_succ_lt hn⟩ rfl
      (by rw [flush_ya]; exact decide_eq_false (by show ¬n % 6 = 5; omega)), idle_ya, after_ya,
      ← yaAt_congr m c (t := ⟨n, Nat.lt_of_succ_lt hn⟩) (t' := ⟨n + 1, hn⟩) (by show n / 6 = (n + 1) / 6; omega)]
    by_cases h0 : n % 6 = 2
    · rw [if_neg (by rw [decide_eq_true_eq]; exact not_not.mpr h0)]
    · rw [if_pos (decide_eq_true h0), before_ya c d n (Nat.lt_of_succ_lt hn) (by omega)]

/-- Every step but a block's first finds the third output's block in its buffer. -/
theorem before_tail (c : Dev nD) (d) : ∀ (n : ℕ) (hn : n < cfg0.N), n % 6 ≠ 0 → (dats m 0 c).before 8 ⟨n, hn⟩ d = tailAt m c ⟨n, hn⟩
  | 0, _, h => absurd h (by decide)
  | n + 1, hn, h => by
    rw [before_out (dats m 0 c) 8 rfl (fun _ _ => rfl) ⟨n + 1, hn⟩ ⟨n, Nat.lt_of_succ_lt hn⟩ rfl
      (by rw [flush_tail]; exact decide_eq_false (by show ¬n % 6 = 5; omega)), idle_tail, after_tail,
      ← tailAt_congr m c (t := ⟨n, Nat.lt_of_succ_lt hn⟩) (t' := ⟨n + 1, hn⟩) (by show n / 6 = (n + 1) / 6; omega)]
    by_cases h0 : n % 6 = 0
    · rw [if_neg (by rw [decide_eq_true_eq]; exact not_not.mpr h0)]
    · rw [if_pos (decide_eq_true h0), before_tail c d n (Nat.lt_of_succ_lt hn) (by omega)]

/-! ## What a step has to leave -/

/-- A buffer the step stores into, or writes back, is left at the proof data's contents. -/
theorem leaves_of {c : Dev nD} (dat : Dat τ (Elt F) Unit ℕ (UR sig nD τ) ℕ cfg0 c) (w : Fin cfg0.W) (t : Fin cfg0.N)
    (h : cfg0.idle w (cfg0.grid.coords t) = false ∨ (cfg0.win w).flush t = true) :
    dat.leavesExact w t = owns (c : Thread nD τ) ((cfg0.win w).stage (cfg0.slots t w)) fullShare (dat.after w t) := by
  unfold Dat.leavesExact
  rcases h with h | h
  · rw [h]
  · rw [h]; cases cfg0.idle w (cfg0.grid.coords t) <;> rfl

/-- At every step but the third the first output's buffer is left as it was found. -/
theorem pass_ya (c : Dev nD) (t : Fin cfg0.N) (h : t.val % 6 ≠ 2) :
    iprop(∃ d, owns (c : Thread nD τ) (ms6 t) fullShare ((dats m 0 c).before 6 t d)) ⊢ (dats m 0 c).leavesExact 6 t := by
  by_cases h5 : t.val % 6 = 5
  · rw [leaves_of _ _ _ (Or.inr (by rw [flush_ya]; exact decide_eq_true h5)), after_ya]
    iintro ⟨%d, H⟩
    rw [before_ya m c d t.val t.isLt (by omega)]
    iexact H
  · rw [Dat.leavesExact_idle _ _ _ (by rw [idle_ya]; exact decide_eq_true h) (by rw [flush_ya]; exact decide_eq_false h5)]

/-- Before the last three steps the second output's buffer is left as it was found. -/
theorem pass_rkv (c : Dev nD) (t : Fin cfg0.N) (h : t.val % 6 < 3) :
    iprop(∃ d, owns (c : Thread nD τ) (ms7 t) fullShare ((dats m 0 c).before 7 t d)) ⊢ (dats m 0 c).leavesExact 7 t := by
  rw [Dat.leavesExact_idle _ _ _ (by rw [idle_rkv]; exact decide_eq_true h) (by rw [flush_rkv]; exact decide_eq_false (by omega))]

/-- After a block's first step the third output's buffer is left as it was found. -/
theorem pass_tail (c : Dev nD) (t : Fin cfg0.N) (h : t.val % 6 ≠ 0) :
    iprop(∃ d, owns (c : Thread nD τ) (ms8 t) fullShare ((dats m 0 c).before 8 t d)) ⊢ (dats m 0 c).leavesExact 8 t := by
  by_cases h5 : t.val % 6 = 5
  · rw [leaves_of _ _ _ (Or.inr (by rw [flush_tail]; exact decide_eq_true h5)), after_tail]
    iintro ⟨%d, H⟩
    rw [before_tail m c d t.val t.isLt (by omega)]
    iexact H
  · rw [Dat.leavesExact_idle _ _ _ (by rw [idle_tail]; exact decide_eq_true h) (by rw [flush_tail]; exact decide_eq_false h5)]

/-- Before a sequence's first step. -/
theorem inv_start (c : Dev nD) (t : Fin cfg0.N) (h : t.val % 18 = 0) :
    (dats m 0 c).Φ t.castSucc = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  rw [← rest_eq]
  show inv m c t.castSucc = _
  unfold inv
  exact dif_pos h

/-- Before a first step of a block that is not its sequence's first. -/
theorem inv_cont (c : Dev nD) (t : Fin cfg0.N) (h : t.val % 6 = 0) (h18 : t.val % 18 ≠ 0) :
    (dats m 0 c).Φ t.castSucc = iprop((∃ d, owns (c : Thread nD τ) sc0 fullShare d) ∗ (∃ d, owns (c : Thread nD τ) sc1 fullShare d) ∗ (∃ d, owns (c : Thread nD τ) sc2 fullShare d) ∗ owns (c : Thread nD τ) sc3 fullShare (zcAt m c t) ∗ owns (c : Thread nD τ) sc4 fullShare (pcAt m c t) ∗ (∃ r, prngReg c r)) := by
  show inv m c t.castSucc = _
  unfold inv
  exact (dif_neg h18).trans (if_pos h)

/-- Before a second step. -/
theorem inv_second (c : Dev nD) (t : Fin cfg0.N) (h : t.val % 6 = 1) :
    (dats m 0 c).Φ t.castSucc = iprop(owns (c : Thread nD τ) sc0 fullShare (normed m c t) ∗ owns (c : Thread nD τ) sc1 fullShare (gbAt m c t) ∗ (∃ d, owns (c : Thread nD τ) sc2 fullShare d) ∗ owns (c : Thread nD τ) sc3 fullShare (zcAt m c t) ∗ owns (c : Thread nD τ) sc4 fullShare (pcAt m c t) ∗ (∃ r, prngReg c r)) := by
  show inv m c t.castSucc = _
  unfold inv
  exact (dif_neg (show ¬t.val % 18 = 0 by omega)).trans ((if_neg (show ¬t.val % 6 = 0 by omega)).trans (if_pos h))

/-- Before the other steps. -/
theorem inv_other (c : Dev nD) (t : Fin cfg0.N) (h : 2 ≤ t.val % 6) :
    (dats m 0 c).Φ t.castSucc = iprop(owns (c : Thread nD τ) sc0 fullShare (normed m c t) ∗ owns (c : Thread nD τ) sc1 fullShare (gbAt m c t) ∗ owns (c : Thread nD τ) sc2 fullShare (gcAt m c t) ∗ owns (c : Thread nD τ) sc3 fullShare (zcAt m c t) ∗ owns (c : Thread nD τ) sc4 fullShare (pcAt m c t) ∗ (∃ r, prngReg c r)) := by
  show inv m c t.castSucc = _
  unfold inv
  exact (dif_neg (show ¬t.val % 18 = 0 by omega)).trans ((if_neg (show ¬t.val % 6 = 0 by omega)).trans (if_neg (show ¬t.val % 6 = 1 by omega)))

/-- After a first step. -/
theorem next_first (c : Dev nD) (t : Fin cfg0.N) (h : t.val % 6 = 0) (zc : Vec F S8x1024 .f32) (pc : Vec F S3x8x1024 .f32)
    (hz : ∀ s : Fin cfg0.N, s.val = t.val + 1 → s.val % 18 ≠ 0 → zc = zcAt m c s) (hp : ∀ s : Fin cfg0.N, s.val = t.val + 1 → s.val % 18 ≠ 0 → pc = pcAt m c s) :
    iprop(owns (c : Thread nD τ) sc0 fullShare (normed m c t) ∗ owns (c : Thread nD τ) sc1 fullShare (gbAt m c t) ∗ (∃ d, owns (c : Thread nD τ) sc2 fullShare d) ∗ owns (c : Thread nD τ) sc3 fullShare zc ∗ owns (c : Thread nD τ) sc4 fullShare pc ∗ (∃ r, prngReg c r)) ⊢ (dats m 0 c).Φ t.succ := by
  have hs : t.val + 1 < cfg0.N := by have := steps t; have : cfg0.N = 288 := N_0; omega
  show _ ⊢ inv m c t.succ
  unfold inv
  rw [dif_neg (show ¬t.succ.val % 18 = 0 by show ¬(t.val + 1) % 18 = 0; omega)]
  show _ ⊢ known m c ⟨t.val + 1, hs⟩
  unfold known
  rw [if_neg (show ¬(t.val + 1) % 6 = 0 by omega), if_pos (show (t.val + 1) % 6 = 1 by omega),
    ← hz ⟨t.val + 1, hs⟩ rfl (by show (t.val + 1) % 18 ≠ 0; omega), ← hp ⟨t.val + 1, hs⟩ rfl (by show (t.val + 1) % 18 ≠ 0; omega),
    normed_congr m c (t := ⟨t.val + 1, hs⟩) (t' := t) (by show (t.val + 1) / 6 = t.val / 6; omega),
    gbAt_congr m c (t := ⟨t.val + 1, hs⟩) (t' := t) (by show (t.val + 1) / 6 = t.val / 6; omega)]

/-- After another step. -/
theorem next_other (c : Dev nD) (t : Fin cfg0.N) (h : t.val % 6 ≠ 0) (zc : Vec F S8x1024 .f32) (pc : Vec F S3x8x1024 .f32)
    (hz : ∀ s : Fin cfg0.N, s.val = t.val + 1 → s.val % 18 ≠ 0 → zc = zcAt m c s) (hp : ∀ s : Fin cfg0.N, s.val = t.val + 1 → s.val % 18 ≠ 0 → pc = pcAt m c s) :
    iprop(owns (c : Thread nD τ) sc0 fullShare (normed m c t) ∗ owns (c : Thread nD τ) sc1 fullShare (gbAt m c t) ∗ owns (c : Thread nD τ) sc2 fullShare (gcAt m c t) ∗ owns (c : Thread nD τ) sc3 fullShare zc ∗ owns (c : Thread nD τ) sc4 fullShare pc ∗ (∃ r, prngReg c r)) ⊢ (dats m 0 c).Φ t.succ := by
  show _ ⊢ inv m c t.succ
  unfold inv
  by_cases h18 : t.succ.val % 18 = 0
  · rw [dif_pos h18, rest_eq]
    iintro ⟨H0, H1, H2, H3, H4, Hg⟩
    isplitr [Hg]; swap; · iexact Hg
    isplitl [H0]; · iexists _; iexact H0
    isplitl [H1]; · iexists _; iexact H1
    isplitl [H2]; · iexists _; iexact H2
    isplitl [H3]; · iexists _; iexact H3
    iexists _; iexact H4
  have h18' : (t.val + 1) % 18 ≠ 0 := h18
  have hs : t.val + 1 < cfg0.N := by have := steps t; have : cfg0.N = 288 := N_0; omega
  rw [dif_neg h18]
  show _ ⊢ known m c ⟨t.val + 1, hs⟩
  unfold known
  rw [hz ⟨t.val + 1, hs⟩ rfl h18', hp ⟨t.val + 1, hs⟩ rfl h18']
  by_cases h5 : t.val % 6 = 5
  · rw [if_pos (show (t.val + 1) % 6 = 0 by omega)]
    iintro ⟨H0, H1, H2, H3, H4, Hg⟩
    isplitl [H0]; · iexists _; iexact H0
    isplitl [H1]; · iexists _; iexact H1
    isplitl [H2]; · iexists _; iexact H2
    isplitl [H3]; · iexact H3
    isplitl [H4]; · iexact H4
    iexact Hg
  · rw [if_neg (show ¬(t.val + 1) % 6 = 0 by omega), if_neg (show ¬(t.val + 1) % 6 = 1 by omega),
      normed_congr m c (t := ⟨t.val + 1, hs⟩) (t' := t) (by show (t.val + 1) / 6 = t.val / 6; omega),
      gbAt_congr m c (t := ⟨t.val + 1, hs⟩) (t' := t) (by show (t.val + 1) / 6 = t.val / 6; omega),
      gcAt_congr m c (t := ⟨t.val + 1, hs⟩) (t' := t) (by show (t.val + 1) / 6 = t.val / 6; omega)]

/-! ## The step -/

/-- What a step is called with, -/
def pre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def post (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (dats m 0 c).leavesExact 6 t ∗ (dats m 0 c).leavesExact 7 t ∗ (dats m 0 c).leavesExact 8 t)

/-- The second step of a block of tokens. -/
theorem body_gate (c : Dev nD) (t : Fin cfg0.N) (h : t.val % 6 = 1) :
    pre m c t ⊢ wp frame (wpE (defs₀ (F := F)) Variants.none c none) Set.univ (bodyAt0 t) (fun _ => post m c t) := by
  unfold pre post bodyAt0
  simp only [before_0, before_1, before_2, before_3, before_4, before_5]
  rw [show (dats m 0 c).owesAt () t.succ = (dats m 0 c).owesAt () t.castSucc from rfl,
    after_0, after_1, after_2, after_3, after_4, after_5, inv_second m c t h]
  iintro ⟨⟨S0, S1, S2, S3, S4, Hg⟩, Ho, ⟨%d0, H0⟩, ⟨%d1, H1⟩, ⟨%d2, H2⟩, ⟨%d3, H3⟩, ⟨%d4, H4⟩, ⟨%d5, H5⟩, H6, H7, H8⟩
  iapply (run_gate c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (Memref.isWhole_whole _) _ (Memref.isWhole_whole _) _ (Memref.isWhole_whole _) _ (Memref.isWhole_whole _) _ (Memref.isWhole_whole _) (X0_2 m c t) (normed m c t) Set.univ _ (fun h => by have := (cond_first t).mp h; omega) ((cond_gate t).mpr (by omega)) (fun h => by have := (cond_taps t).mp h; omega) (fun h => by have := (cond_rkv t).mp h; omega))
  isplitl [H2]; · iexact H2
  isplitl [S0]; · iexact S0
  isplitl [S2]; · iexact S2
  iintro ⟨H2, S0, S2⟩
  isplitl [S0 S1 S2 S3 S4 Hg]
  · iapply (next_other m c t (by omega) _ _ (fun s hs h18 => zc_keep m c t s hs (by omega) h18) (fun s hs _ => pc_keep m c t s hs (by omega)))
    isplitl [S0]; · iexact S0
    isplitl [S1]; · iexact S1
    isplitl [S2]; · rw [show gcAt m c t = k0_pay4 (normed m c t) (X0_2 m c t) by unfold gcAt; rw [step_self t 1 h]]; iexact S2
    isplitl [S3]; · iexact S3
    isplitl [S4]; · iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (pass_ya m c t (by omega)); iexact H6
  isplitl [H7]; · iapply (pass_rkv m c t (by omega)); iexact H7
  iapply (pass_tail m c t (by omega))
  iexact H8

/-- The third step of a block of tokens. -/
theorem body_taps (c : Dev nD) (t : Fin cfg0.N) (h : t.val % 6 = 2) :
    pre m c t ⊢ wp frame (wpE (defs₀ (F := F)) Variants.none c none) Set.univ (bodyAt0 t) (fun _ => post m c t) := by
  have e : step t 2 = t := step_self t 2 h
  have hz : ∀ s : Fin cfg0.N, s.val = t.val + 1 → putTwo (k0_pay6 (k0_pay13 (gcAt m c t) (normed m c t) (X0_2 m c t))) (zcAt m c t) = zcAt m c s := fun s hs => by
    rw [← zc_taps m c t s hs h]; unfold zAt; rw [e]
  unfold pre post bodyAt0
  simp only [before_0, before_1, before_2, before_3, before_4, before_5]
  rw [show (dats m 0 c).owesAt () t.succ = (dats m 0 c).owesAt () t.castSucc from rfl,
    after_0, after_1, after_2, after_3, after_4, after_5, leaves_of (dats m 0 c) 6 t (Or.inl (by rw [idle_ya]; exact decide_eq_false (by omega))), after_ya,
    inv_other m c t (by omega), show yaAt m c t = k0_pay5 (k0_pay14 (gcAt m c t) (normed m c t) (X0_2 m c t) (zcAt m c t) (iblk m c 4 t)) (gbAt m c t) by unfold yaAt; rw [e]]
  iintro ⟨⟨S0, S1, S2, S3, S4, Hg⟩, Ho, ⟨%d0, H0⟩, ⟨%d1, H1⟩, ⟨%d2, H2⟩, ⟨%d3, H3⟩, ⟨%d4, H4⟩, ⟨%d5, H5⟩, H6, H7, H8⟩
  icases H6 with ⟨%d6, H6⟩
  iapply (run_taps c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (Memref.isWhole_whole _) _ (Memref.isWhole_whole _) _ (Memref.isWhole_whole _) _ (Memref.isWhole_whole _) _ (Memref.isWhole_whole _) (X0_2 m c t) (iblk m c 4 t) (normed m c t) (gbAt m c t) (gcAt m c t) (zcAt m c t) Set.univ _ (fun h => by have := (cond_first t).mp h; omega) (fun h => by have := (cond_gate t).mp h; omega) ((cond_taps t).mpr (by omega)) (fun h => by have := (cond_rkv t).mp h; omega))
  isplitl [H2]; · iexact H2
  isplitl [H4]; · iexact H4
  isplitl [H6]; · iexists _; iexact H6
  isplitl [S0]; · iexact S0
  isplitl [S1]; · iexact S1
  isplitl [S2]; · iexact S2
  isplitl [S3]; · iexact S3
  iintro ⟨H2, H4, H6, S0, S1, S2, S3⟩
  isplitl [S0 S1 S2 S3 S4 Hg]
  · iapply (next_other m c t (by omega) _ _ (fun s hs _ => hz s hs) (fun s hs _ => pc_keep m c t s hs (by omega)))
    isplitl [S0]; · iexact S0
    isplitl [S1]; · iexact S1
    isplitl [S2]; · iexact S2
    isplitl [S3]; · iexact S3
    isplitl [S4]; · iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (pass_rkv m c t (by omega)); iexact H7
  iapply (pass_tail m c t (by omega))
  iexact H8

/-- The last three steps of a block of tokens. -/
theorem body_rkv (c : Dev nD) (t : Fin cfg0.N) (h : 3 ≤ t.val % 6) :
    pre m c t ⊢ wp frame (wpE (defs₀ (F := F)) Variants.none c none) Set.univ (bodyAt0 t) (fun _ => post m c t) := by
  unfold pre post bodyAt0
  simp only [before_0, before_1, before_2, before_3, before_4, before_5]
  rw [show (dats m 0 c).owesAt () t.succ = (dats m 0 c).owesAt () t.castSucc from rfl,
    after_0, after_1, after_2, after_3, after_4, after_5, leaves_of (dats m 0 c) 7 t (Or.inl (by rw [idle_rkv]; exact decide_eq_false (by omega))), after_rkv,
    inv_other m c t (by omega), show rkvAt m c t = k0_pay8 (normed m c t) (X0_2 m c t) (rowOf (slot t) (pcAt m c t)) (iblk m c 5 t) from rfl]
  iintro ⟨⟨S0, S1, S2, S3, S4, Hg⟩, Ho, ⟨%d0, H0⟩, ⟨%d1, H1⟩, ⟨%d2, H2⟩, ⟨%d3, H3⟩, ⟨%d4, H4⟩, ⟨%d5, H5⟩, H6, H7, H8⟩
  icases H7 with ⟨%d7, H7⟩
  iapply (run_rkv c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (Memref.isWhole_whole _) _ (Memref.isWhole_whole _) _ (Memref.isWhole_whole _) _ (Memref.isWhole_whole _) _ (Memref.isWhole_whole _) (X0_2 m c t) (iblk m c 5 t) (normed m c t) (pcAt m c t) (slot t) Set.univ _ (fun h => by have := (cond_first t).mp h; omega) (fun h => by have := (cond_gate t).mp h; omega) (fun h => by have := (cond_taps t).mp h; omega) ((cond_rkv t).mpr (by omega)) (off_row t h))
  isplitl [H2]; · iexact H2
  isplitl [H5]; · iexact H5
  isplitl [H7]; · iexists _; iexact H7
  isplitl [S0]; · iexact S0
  isplitl [S4]; · iexact S4
  iintro ⟨H2, H5, H7, S0, S4⟩
  isplitl [S0 S1 S2 S3 S4 Hg]
  · iapply (next_other m c t (by omega) _ _ (fun s hs h18 => zc_keep m c t s hs (by omega) h18) (fun s hs h18 => pc_rkv m c t s hs h h18))
    isplitl [S0]; · iexact S0
    isplitl [S1]; · iexact S1
    isplitl [S2]; · iexact S2
    isplitl [S3]; · iexact S3
    isplitl [S4]; · iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (pass_ya m c t (by omega)); iexact H6
  isplitl [H7]; · iexact H7
  iapply (pass_tail m c t (by omega))
  iexact H8

/-- The first step of a block of tokens that is not its sequence's first. -/
theorem body_cont (c : Dev nD) (t : Fin cfg0.N) (h : t.val % 6 = 0) (h18 : t.val % 18 ≠ 0) :
    pre m c t ⊢ wp frame (wpE (defs₀ (F := F)) Variants.none c none) Set.univ (bodyAt0 t) (fun _ => post m c t) := by
  have e : step t 0 = t := step_self t 0 h
  have n : normed m c t = k0_pay11 (iblk m c 0 t) (iblk m c 1 t) := by unfold normed; rw [e]
  have hb : gbAt m c t = k0_pay3 (k0_pay11 (iblk m c 0 t) (iblk m c 1 t)) (X0_2 m c t) := by unfold gbAt; rw [e, n]
  unfold pre post bodyAt0
  simp only [before_0, before_1, before_2, before_3, before_4, before_5]
  rw [show (dats m 0 c).owesAt () t.succ = (dats m 0 c).owesAt () t.castSucc from rfl,
    after_0, after_1, after_2, after_3, after_4, after_5, leaves_of (dats m 0 c) 8 t (Or.inl (by rw [idle_tail]; exact decide_eq_false (by omega))), after_tail,
    inv_cont m c t h h18, show tailAt m c t = k0_pay12 (iblk m c 0 t) (iblk m c 1 t) (iblk m c 3 t) by unfold tailAt; rw [e]]
  iintro ⟨⟨S0, S1, S2, S3, S4, Hg⟩, Ho, ⟨%d0, H0⟩, ⟨%d1, H1⟩, ⟨%d2, H2⟩, ⟨%d3, H3⟩, ⟨%d4, H4⟩, ⟨%d5, H5⟩, H6, H7, H8⟩
  icases H8 with ⟨%d8, H8⟩
  iapply (run_cont c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (Memref.isWhole_whole _) _ (Memref.isWhole_whole _) _ (Memref.isWhole_whole _) _ (Memref.isWhole_whole _) _ (Memref.isWhole_whole _) (iblk m c 0 t) (iblk m c 1 t) (X0_2 m c t) (iblk m c 3 t) Set.univ _ ((cond_first t).mpr (by omega)) (fun h => by have := (cond_start t).mp h; omega) (fun h => by have := (cond_gate t).mp h; omega) (fun h => by have := (cond_taps t).mp h; omega) (fun h => by have := (cond_rkv t).mp h; omega))
  isplitl [H0]; · iexact H0
  isplitl [H1]; · iexact H1
  isplitl [H2]; · iexact H2
  isplitl [H3]; · iexact H3
  isplitl [H8]; · iexists _; iexact H8
  isplitl [S0]; · iexact S0
  isplitl [S1]; · iexact S1
  iintro ⟨H0, H1, H2, H3, H8, S0, S1⟩
  isplitl [S0 S1 S2 S3 S4 Hg]
  · iapply (next_first m c t h _ _ (fun s hs h18 => zc_keep m c t s hs (by omega) h18) (fun s hs _ => pc_keep m c t s hs (by omega)))
    rw [n, hb]
    isplitl [S0]; · iexact S0
    isplitl [S1]; · iexact S1
    isplitl [S2]; · iexact S2
    isplitl [S3]; · iexact S3
    isplitl [S4]; · iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (pass_ya m c t (by omega)); iexact H6
  isplitl [H7]; · iapply (pass_rkv m c t (by omega)); iexact H7
  iexact H8

/-- The first step of a sequence. -/
theorem body_start (c : Dev nD) (t : Fin cfg0.N) (h18 : t.val % 18 = 0) :
    pre m c t ⊢ wp frame (wpE (defs₀ (F := F)) Variants.none c none) Set.univ (bodyAt0 t) (fun _ => post m c t) := by
  have h : t.val % 6 = 0 := by omega
  have e : step t 0 = t := step_self t 0 h
  have n : normed m c t = k0_pay11 (iblk m c 0 t) (iblk m c 1 t) := by unfold normed; rw [e]
  have hb : gbAt m c t = k0_pay3 (k0_pay11 (iblk m c 0 t) (iblk m c 1 t)) (X0_2 m c t) := by unfold gbAt; rw [e, n]
  unfold pre post bodyAt0
  simp only [before_0, before_1, before_2, before_3, before_4, before_5]
  rw [show (dats m 0 c).owesAt () t.succ = (dats m 0 c).owesAt () t.castSucc from rfl,
    after_0, after_1, after_2, after_3, after_4, after_5, leaves_of (dats m 0 c) 8 t (Or.inl (by rw [idle_tail]; exact decide_eq_false (by omega))), after_tail,
    inv_start m c t h18, show tailAt m c t = k0_pay12 (iblk m c 0 t) (iblk m c 1 t) (iblk m c 3 t) by unfold tailAt; rw [e]]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, H6, H7, H8⟩
  icases H8 with ⟨%d8, H8⟩
  iapply (run_start c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (Memref.isWhole_whole _) _ (Memref.isWhole_whole _) _ (Memref.isWhole_whole _) _ (Memref.isWhole_whole _) _ (Memref.isWhole_whole _) (iblk m c 0 t) (iblk m c 1 t) (X0_2 m c t) (iblk m c 3 t) Set.univ _ ((cond_first t).mpr (by omega)) ((cond_start t).mpr (by omega)) (fun h => by have := (cond_gate t).mp h; omega) (fun h => by have := (cond_taps t).mp h; omega) (fun h => by have := (cond_rkv t).mp h; omega))
  isplitl [H0]; · iexact H0
  isplitl [H1]; · iexact H1
  isplitl [H2]; · iexact H2
  isplitl [H3]; · iexact H3
  isplitl [H8]; · iexists _; iexact H8
  isplitl [S0]; · iexact S0
  isplitl [S1]; · iexact S1
  isplitl [S3]; · iexact S3
  isplitl [S4]; · iexact S4
  iintro ⟨H0, H1, H2, H3, H8, S0, S1, S3, S4⟩
  isplitl [S0 S1 S2 S3 S4 Hg]
  · iapply (next_first m c t h _ _ (fun s hs _ => zc_start m c s (by omega)) (fun s hs _ => pc_start m c s (by omega)))
    rw [n, hb]
    isplitl [S0]; · iexact S0
    isplitl [S1]; · iexact S1
    isplitl [S2]; · iexact S2
    isplitl [S3]; · iexact S3
    isplitl [S4]; · iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (pass_ya m c t (by omega)); iexact H6
  isplitl [H7]; · iapply (pass_rkv m c t (by omega)); iexact H7
  iexact H8

/-- Every step. -/
theorem body (c : Dev nD) (t : Fin cfg0.N) :
    pre m c t ⊢ wp frame (wpE (defs₀ (F := F)) Variants.none c none) Set.univ (bodyAt0 t) (fun _ => post m c t) := by
  by_cases h18 : t.val % 18 = 0
  · exact body_start m c t h18
  by_cases h0 : t.val % 6 = 0
  · exact body_cont m c t h0 h18
  by_cases h1 : t.val % 6 = 1
  · exact body_gate m c t h1
  by_cases h2 : t.val % 6 = 2
  · exact body_taps m c t h2
  · exact body_rkv m c t (by omega)

/-- The row of the table of bodies. -/
theorem row (t : Fin cfg0.N) : defs₀ (F := F) .tc cfg0.body (cfg0.bodyArgs t (cfg0.slots t)) = bodyAt0 t := by
  unfold defs₀; rw [Defs.onTc_tc]

/-- Every step meets its proof data. -/
theorem steps_meet (c : Dev nD) : BodyObligation (dats (F := F) m 0 c) (defs₀ (F := F)) Variants.none () Set.univ := fun t => by
  rw [bigSep_W0, bigSep_W0, row]
  exact triple_restated (body m c t) rfl .rfl fun _ => .rfl

/-! ## The run -/

set_option backward.isDefEq.respectTransparency.types false in
set_option maxHeartbeats 800000 in
/-- Every run ends, with every array at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (steps_meet m c).loose) (hshare := fun c => (dats m 0 c).share_full fun _ => rfl)
    (howed := fun _ _ => rfl) (V := V m) (hmain := hmain m Variants.none) (hA := A_eq m)
    (hin := fun c => by show _ ⊢ inv m c 0; unfold inv; rw [dif_pos (show ((0 : Fin (cfg0.N + 1)).val % 18 = 0) from rfl)])
    (hout := fun c => by
      show inv m c (Fin.last cfg0.N) ⊢ _
      unfold inv
      rw [dif_pos (show (Fin.last cfg0.N).val % 18 = 0 by rw [Fin.val_last, show cfg0.N = 288 from N_0])])

/-- The same, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The program ends with its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel6Ideal.ProjEven

end
-- ==== Proof.ProjEvenBits.lean ====
/-
  The run of an even mixer's projection at the machine's own numbers. The idealized program is the same program, so its run is that
  program's run.
-/
module

public import proofs.«01_k».proof.Proof.ProjEvenFrame
public import proofs.«01_k».proof.Proof.Gen.Kernel6

@[expose] public section

set_option maxRecDepth 16384

noncomputable section

namespace Cert.Kernel6.ProjEven

open Idealize.ShloMosaic Idealize.ShloMosaic.TcCoe

/-- The body is the idealized program's. -/
theorem bodies : Cert.Kernel6.defs₀ (F := Bits) = Cert.Kernel6Ideal.defs₀ (F := Bits) := by
  unfold Cert.Kernel6.defs₀ Cert.Kernel6Ideal.defs₀
  refine congrArg Defs.onTc (funext fun l => funext fun a => ?_)
  obtain ⟨_ | n, h⟩ := l
  · obtain ⟨t, s⟩ := a
    rfl
  · exact absurd h (Nat.not_lt.2 (Nat.le_add_left _ _))

/-- So is the pipeline. -/
theorem tables : Cert.Kernel6.defs (F := Bits) = Cert.Kernel6Ideal.defs (F := Bits) := by
  show Pipeline.defs Cert.Kernel6Ideal.pcfgs Cert.Kernel6.defs₀ = _
  rw [bodies]
  rfl

/-- The program ends with its arguments unchanged and its counters at zero. -/
theorem frame (m : (ℓ : Loc Cert.Kernel6.nD Cert.Kernel6.τ Cert.Kernel6.sig) → Buf (Elt Bits) ℓ) (g : Dev Cert.Kernel6.nD → PrngReg) :
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0) := by
  rw [tables]
  exact Cert.Kernel6Ideal.ProjEven.frame (F := Bits) m g

end Cert.Kernel6.ProjEven

end
-- ==== Proof.ProjEvenHeads.lean ====
/-
  The projection of an even mixer: its results as functions of the arguments, and the blocks a grid step computes, read at an index.
-/
module

public import proofs.«01_k».proof.Proof.ProjEvenRun
public import proofs.«01_k».proof.Proof.FeedArray
public import Idealize.ShloMosaic.Lib.WordCmp
public import Idealize.ShloMosaic.Lib.Affine
public import Idealize.ShloMosaic.Lib.KernelVsHost

@[expose] public section

set_option maxRecDepth 16384

noncomputable section

namespace Cert.ProjEven

open Cert.Shapes Cert.Layer Cert.Feed Idealize.ShloMosaic

/-- The shape of the projection's weights, one matrix for each layer of a kind. -/
abbrev ProjWeights : Shape := ⟨3, ![2, 2048, 6432]⟩
/-- The shape of the convolution's three taps, for each layer of a kind. -/
abbrev Taps : Shape := ⟨3, ![2, 3, 1024]⟩
/-- The shape of the token shift's shares, for each layer of a kind. -/
abbrev Shares : Shape := ⟨2, ![2, 3360]⟩

variable (H : FVec Ideal Tokens .f32) (g : FVec Ideal Scale .f32) (W : FVec Ideal ProjWeights .f32) (cw : FVec Ideal Taps .f32) (mu : FVec Ideal Shares .f32)

/-- A token's normed row times a column of the weights. -/
def projAt (R : Fin 33024) (l : Fin 6432) : EReal := ∑ a, normed H g R a * W (ix3 0 a l)

/-- What the convolution takes: the elementwise product of the second and third thousand columns. -/
def zOf (R : Fin 33024) (x : Fin 1024) : EReal := projAt H g W R ⟨1024 + x.val, by omega⟩ * projAt H g W R ⟨2048 + x.val, by omega⟩

/-- The same `k` tokens before, or zero where that is before the start of the token's sequence of 2064. -/
def zBefore (k : ℕ) (R : Fin 33024) (x : Fin 1024) : EReal := if k ≤ R.val % 2064 then zOf H g W ⟨R.val - k, by omega⟩ x else 0

/-- A token's gated convolution. -/
def yaAt (R : Fin 33024) (x : Fin 1024) : EReal :=
  projAt H g W R ⟨x.val, by omega⟩
    * (cw (ix3 0 0 x) * zBefore H g W 2 R x + cw (ix3 0 1 x) * zBefore H g W 1 R x + cw (ix3 0 2 x) * zOf H g W R x)

/-- A token's product, or zero where the token is the first of its sequence: what the shift reads for the token after it. -/
def shiftAt (R : Fin 33024) (l : Fin 6432) : EReal := if R.val % 2064 = 0 then 0 else projAt H g W ⟨R.val - 1, by omega⟩ l

/-- A column of the three shifted streams among the columns of the weights, and among the shares. -/
def streamCol (s : Fin 3) (x : Fin 1024) : Fin 6432 := ⟨3072 + s.val * 1024 + x.val, by omega⟩
def shareCol (s : Fin 3) (x : Fin 1024) : Fin 3360 := ⟨s.val * 1024 + x.val, by omega⟩

/-- A token's value of a stream, moved towards that of the token before. -/
def mixAt (s : Fin 3) (R : Fin 33024) (x : Fin 1024) : EReal :=
  projAt H g W R (streamCol s x) + (shiftAt H g W R (streamCol s x) - projAt H g W R (streamCol s x)) * mu (ix2 0 (shareCol s x))

/-- The three streams, a row for each place in a sequence, the sequences side by side. -/
def rkvAt (s : Fin 3) (p : Fin 2064) (n : Fin 16384) : EReal :=
  mixAt H g W mu s ⟨n.val / 1024 * 2064 + p.val, by omega⟩ ⟨n.val % 1024, by omega⟩

/-- A token's last columns, padded with zeros. -/
def tailAt (R : Fin 33024) (j : Fin 384) : EReal := if h : j.val < 288 then projAt H g W R ⟨6144 + j.val, by omega⟩ else 0

end Cert.ProjEven

namespace Cert.Kernel6Ideal.ProjEven

open Cert.Kernel6Ideal Cert.Kernel6Ideal.Gen Cert.Shapes Cert.Layer Cert.ProjEven Idealize.ShloMosaic Idealize.ShloMosaic.TcCoe

/-- The norm's side conditions hold for a block of tokens. -/
theorem rowFacts : RmsFacts 688 2048 := by constructor <;> decide

/-- The product of a block of normed tokens with a block of the weights. -/
def product (xn : FVec Ideal S688x2048 .bf16) (w : FVec Ideal S1x2048x1024 .bf16) : FVec Ideal S688x1024 .f32 :=
  proj (m := 688) (k := 2048) (n := 1024) xn (shapeCast S2048x1024 w shapeCasts_S1x2048x1024_S2048x1024)

/-- The product, at an index. -/
theorem product_apply (xn : FVec Ideal S688x2048 .bf16) (w : FVec Ideal S1x2048x1024 .bf16) (r : Fin 688) (l : Fin 1024) :
    product xn w (ix2 r l) = ∑ a : Fin 2048, xn (ix2 r a) * w (ix3 0 a l) := by
  unfold product
  rw [proj_apply]
  exact Finset.sum_congr rfl fun a _ => congrArg (xn (ix2 r a) * ·) (cast_dropUnit (m := 2048) (n := 1024) w _ a l)

/-- The stored products. -/
theorem gates_eq (xn : FVec Ideal S688x2048 .bf16) (w : FVec Ideal S1x2048x1024 .bf16) : k0_pay3 (F := Ideal) xn w = product xn w :=
  cast_self (m := 688) (n := 1024) _ _
theorem factors_eq (xn : FVec Ideal S688x2048 .bf16) (w : FVec Ideal S1x2048x1024 .bf16) : k0_pay4 (F := Ideal) xn w = product xn w :=
  cast_self (m := 688) (n := 1024) _ _
theorem stream_eq (xn : FVec Ideal S688x2048 .bf16) (w : FVec Ideal S1x2048x1024 .bf16) : k0_pay7 (F := Ideal) xn w = product xn w := rfl

/-- What the convolution takes, at an index. -/
theorem taken_apply (gc : FVec Ideal S688x1024 .f32) (xn : FVec Ideal S688x2048 .bf16) (w : FVec Ideal S1x2048x1024 .bf16) (r : Fin 688) (x : Fin 1024) :
    k0_pay13 (F := Ideal) gc xn w (ix2 r x) = gc (ix2 r x) * product xn w (ix2 r x) := rfl

/-- The zeros the carried rows start with. -/
theorem zeros_rows (y : S8x1024.Idx) : k0_pay1 (F := Ideal) y = 0 := Ideal.ofBits_zero_f32
theorem zeros_row (y : S3x8x1024.Idx) : k0_pay2 (F := Ideal) y = 0 := Ideal.ofBits_zero_f32

/-- The last two rows of a block. -/
theorem lastTwo_apply (z : FVec Ideal S688x1024 .f32) (y : Fin 2) (x : Fin 1024) :
    k0_pay6 (F := Ideal) z (ix2 y x) = z (ix2 ⟨686 + y.val, by omega⟩ x) :=
  (congrFun (cast_self (m := 2) (n := 1024) _ _) (ix2 y x)).trans
    (slice_mat (m := 688) (n := 1024) 686 0 z _ y x ⟨686 + y.val, by omega⟩ x rfl (by omega))

/-- The last row of a product. -/
theorem lastOne_apply (xn : FVec Ideal S688x2048 .bf16) (w : FVec Ideal S1x2048x1024 .bf16) (x : Fin 1024) :
    k0_pay9 (F := Ideal) xn w (ix3 0 0 x) = product xn w (ix2 687 x) :=
  (cast_addUnit (m := 1) (n := 1024) _ _ 0 0 x).trans (slice_mat (m := 688) (n := 1024) 687 0 _ _ 0 x 687 x rfl (by omega))

/-- A block turned down by `s` rows reads `s` rows up, around the end. -/
theorem turned_apply (s : ℕ) (hs : s < 688) (z : FVec Ideal S688x1024 .f32) (r : Fin 688) (x : Fin 1024) :
    dynamicRotate 0 (BitVec.ofNat 32 s) none z rotates_S688x1024_d0 (ix2 r x) = z (ix2 ⟨(r.val + 688 - s) % 688, by omega⟩ x) :=
  dynamicRotate_apply 0 _ z _ _ _ fun b => match b with
    | ⟨0, _⟩ => by
      have e : (BitVec.ofNat 32 s).toNat % 688 = s := by rw [BitVec.toNat_ofNat]; omega
      show (r.val + 688 - s) % 688 = (r.val + 688 - (BitVec.ofNat 32 s).toNat % 688) % 688
      rw [e]
    | ⟨1, _⟩ => rfl

/-- A block with one row replaced, chosen by comparing the row's number with it. -/
theorem chosen_apply (k : ℕ) (hk : k < 688) (A B : FVec Ideal S688x1024 .f32) (r : Fin 688) (x : Fin 1024) :
    select (cmpi .eq (iota .tc S688x1024 32 [0] iota_S688x1024_d0_w32) (broadcast S688x1024 (BitVec.ofNat 32 k))) A B (ix2 r x)
      = if r.val = k then A (ix2 r x) else B (ix2 r x) := by
  show (if IntOp.cmpi .eq (iota .tc S688x1024 32 [0] iota_S688x1024_d0_w32 (ix2 r x)) (BitVec.ofNat 32 k) = 1#1 then _ else _) = _
  rw [iota_single_apply]
  show (if IntOp.cmpi .eq (BitVec.ofNat 32 r.val) (BitVec.ofNat 32 k) = 1#1 then _ else _) = _
  have hr := r.isLt
  rw [WordCmp.cmpi_eq_eq_toNat, BitVec.toNat_ofNat, BitVec.toNat_ofNat, Nat.mod_eq_of_lt (by omega), Nat.mod_eq_of_lt (by omega)]
  by_cases h : r.val = k
  · simp [h]
  · simp [h]

/-- A row of a block, repeated down another. -/
theorem rowDown_apply {m : ℕ} (k : ℕ) (hk : k < m) (z : FVec Ideal ⟨2, ![m, 1024]⟩ .f32) (h : (⟨2, ![m, 1024]⟩ : Shape).Slices ![k, 0] S1x1024)
    (r : Fin 688) (x : Fin 1024) :
    broadcastTo S688x1024 (extractStridedSlice S1x1024 ![k, 0] z h) broadcasts_S1x1024_S688x1024 (ix2 r x) = z (ix2 ⟨k, hk⟩ x) :=
  (broadcast_row (m := 688) (n := 1024) _ _ r x).trans (slice_mat (m := m) (n := 1024) k 0 z h 0 x ⟨k, hk⟩ x rfl (by omega))

/-- The convolution of a block, at an index: the rows before the block's first are read from the carried rows. -/
theorem taps_apply (gc : FVec Ideal S688x1024 .f32) (xn : FVec Ideal S688x2048 .bf16) (w : FVec Ideal S1x2048x1024 .bf16)
    (zc : FVec Ideal S8x1024 .f32) (cw : FVec Ideal S3x1024 .f32) (r : Fin 688) (x : Fin 1024) :
    k0_pay14 (F := Ideal) gc xn w zc cw (ix2 r x)
      = cw (ix2 0 x) * (if r.val = 1 then zc (ix2 1 x) else if r.val = 0 then zc (ix2 0 x)
            else k0_pay13 (F := Ideal) gc xn w (ix2 ⟨(r.val + 688 - 2) % 688, by omega⟩ x))
        + cw (ix2 1 x) * (if r.val = 0 then zc (ix2 1 x) else k0_pay13 (F := Ideal) gc xn w (ix2 ⟨(r.val + 688 - 1) % 688, by omega⟩ x))
        + cw (ix2 2 x) * k0_pay13 (F := Ideal) gc xn w (ix2 r x) := by
  unfold k0_pay14
  generalize k0_pay13 (F := Ideal) gc xn w = z
  dsimp only
  refine congrArg₂ (· + ·) (congrArg₂ (· + ·) (congrArg₂ (· * ·) ?_ ?_) (congrArg₂ (· * ·) ?_ ?_)) (congrArg₂ (· * ·) ?_ rfl)
  · refine (rowDown_apply (m := 3) 0 (by decide) _ _ r x).trans ?_
    rw [cast_self]; rfl
  · refine (chosen_apply 1 (by decide) _ _ r x).trans ?_
    rw [cast_self, cast_self]
    refine if_congr Iff.rfl ?_ ((chosen_apply 0 (by decide) _ _ r x).trans (if_congr Iff.rfl ?_ (turned_apply 2 (by decide) z r x)))
    · refine (rowDown_apply (m := 2) 1 (by decide) _ _ r x).trans ?_
      exact slice_mat (m := 8) (n := 1024) 0 0 zc _ _ _ 1 x rfl (by omega)
    · refine (rowDown_apply (m := 2) 0 (by decide) _ _ r x).trans ?_
      exact slice_mat (m := 8) (n := 1024) 0 0 zc _ _ _ 0 x rfl (by omega)
  · refine (rowDown_apply (m := 3) 1 (by decide) _ _ r x).trans ?_
    rw [cast_self]; rfl
  · refine (chosen_apply 0 (by decide) _ _ r x).trans ?_
    rw [cast_self]
    exact if_congr Iff.rfl (rowDown_apply (m := 8) 1 (by decide) zc _ r x) (turned_apply 1 (by decide) z r x)
  · refine (rowDown_apply (m := 3) 2 (by decide) _ _ r x).trans ?_
    rw [cast_self]; rfl

/-- The gated convolution. -/
theorem gated_apply (y gb : FVec Ideal S688x1024 .f32) (r : Fin 688) (x : Fin 1024) :
    k0_pay5 (F := Ideal) y gb (ix2 r x) = gb (ix2 r x) * y (ix2 r x) := rfl

/-- The token shift of a block, at an index: the row before the block's first is the carried row. -/
theorem shift_apply (xn : FVec Ideal S688x2048 .bf16) (w : FVec Ideal S1x2048x1024 .bf16) (pc mu : FVec Ideal S1x1x1024 .f32) (r : Fin 688) (x : Fin 1024) :
    k0_pay8 (F := Ideal) xn w pc mu (ix3 0 r x)
      = product xn w (ix2 r x)
        + ((if r.val = 0 then pc (ix3 0 0 x) else product xn w (ix2 ⟨(r.val + 688 - 1) % 688, by omega⟩ x)) - product xn w (ix2 r x)) * mu (ix3 0 0 x) := by
  unfold k0_pay8
  rw [stream_eq]
  generalize product xn w = P
  dsimp only
  refine (cast_addUnit (m := 688) (n := 1024) _ _ 0 r x).trans ?_
  refine congrArg₂ (· + ·) rfl (congrArg₂ (· * ·) (congrArg₂ (· - ·) ?_ rfl) ?_)
  · refine (chosen_apply 0 (by decide) _ _ r x).trans (if_congr Iff.rfl ?_ (turned_apply 1 (by decide) P r x))
    rw [cast_self]
    exact (broadcast_row (m := 688) (n := 1024) _ _ r x).trans (cast_dropUnit (m := 1) (n := 1024) pc _ 0 x)
  · exact (broadcast_row (m := 688) (n := 1024) _ _ r x).trans (cast_dropUnit (m := 1) (n := 1024) mu _ 0 x)

/-- The block of normed tokens, at an index. -/
theorem normed_apply (x : FVec Ideal S688x2048 .f32) (g : FVec Ideal S1x2048 .f32) (r : Fin 688) (a : Fin 2048) :
    k0_pay10 (F := Ideal) x g (ix2 r a) = rms width (fun k => x (ix2 r k)) (fun k => g (ix2 0 k)) a := by
  have e : k0_pay10 (F := Ideal) x g = rmsBlock rowFacts width x (shapeCast S1x2048 g shapeCasts_S1x2048_S1x2048) := rfl
  rw [e, rmsBlock_apply, cast_self]

/-- The stored block of normed tokens is the same. -/
theorem stored_eq (x : FVec Ideal S688x2048 .f32) (g : FVec Ideal S1x2048 .f32) : k0_pay11 (F := Ideal) x g = k0_pay10 (F := Ideal) x g :=
  cast_self (m := 688) (n := 2048) _ _

/-- The block of the last columns, at an index. -/
theorem tail_apply (x : FVec Ideal S688x2048 .f32) (g : FVec Ideal S1x2048 .f32) (w : FVec Ideal S2048x384 .bf16) (r : Fin 688) (j : Fin 384) :
    k0_pay12 (F := Ideal) x g w (ix2 r j) = ∑ a : Fin 2048, k0_pay10 (F := Ideal) x g (ix2 r a) * w (ix2 a j) := by
  have e : k0_pay12 (F := Ideal) x g w
      = proj (m := 688) (k := 2048) (n := 384) (k0_pay10 (F := Ideal) x g) (shapeCast S2048x384 w shapeCasts_S2048x384_S2048x384) := rfl
  rw [e, proj_apply, cast_self]

end Cert.Kernel6Ideal.ProjEven

end
-- ==== Proof.ProjEvenArray.lean ====
/-
  The arrays the steps of an even mixer's projection leave.
-/
module

public import proofs.«01_k».proof.Proof.ProjEvenHeads
public import proofs.«01_k».proof.Proof.ProjEvenFrame
public import Idealize.ShloMosaic.Lib.Pipeline.Value
public import Idealize.ShloMosaic.Lib.KernelVsHost

@[expose] public section

set_option maxRecDepth 16384

noncomputable section

namespace Cert.Kernel6Ideal.ProjEven

open Cert.Kernel6Ideal Cert.Kernel6Ideal.Gen Cert.Shapes Cert.Layer Cert.Feed Cert.ProjEven Idealize.ShloMosaic Idealize.ShloMosaic.TcCoe Idealize.SL.Sem
open Idealize.ShloMosaic.Pipeline (Dat)

/-- The tokens' block of a step, for the input and the outputs. -/
theorem indexTokens : ∀ t : Fin cfg0.N, win0_0.index t = ![t.val / 6, 0] ∧ win0_6.index t = ![t.val / 6, 0]
    ∧ win0_7.index t = ![t.val % 6 - 3, t.val / 6 % 3, t.val / 18] ∧ win0_8.index t = ![t.val / 6, 0] := by decide +kernel
/-- The weights' and the shares' blocks of a step. -/
theorem indexWeights : ∀ t : Fin cfg0.N, win0_2.index t = ![0, 0, t.val % 6] ∧ win0_5.index t = ![t.val % 6 - 3, 0, 0] := by decide +kernel
/-- The one block of the scale, the last columns' weights and the taps. -/
theorem indexWhole : ∀ t : Fin cfg0.N, win0_1.index t = ![0, 0] ∧ win0_3.index t = ![0, 0] ∧ win0_4.index t = ![0, 0] := by decide +kernel

variable (m : (ℓ : Loc nD τ sig) → Buf (Elt Ideal) ℓ)

/-- The arguments. -/
abbrev tokens (c : Dev nD) : FVec Ideal Tokens .f32 := m ((c : Thread nD τ).loc main_arg0)
abbrev scale (c : Dev nD) : FVec Ideal Scale .f32 := m ((c : Thread nD τ).loc main_arg1)
abbrev weights (c : Dev nD) : FVec Ideal ProjWeights .f32 := m ((c : Thread nD τ).loc main_arg2)
abbrev taps (c : Dev nD) : FVec Ideal Taps .f32 := m ((c : Thread nD τ).loc main_arg3)
abbrev shares (c : Dev nD) : FVec Ideal Shares .f32 := m ((c : Thread nD τ).loc main_arg4)

/-- The token of a step's row. -/
def tokenOf (t : Fin cfg0.N) (r : Fin 688) : Fin 33024 := ⟨t.val / 6 * 688 + r.val, by have := steps t; omega⟩

/-- The column of the weights of a column of block `k`. -/
def colOf (k : Fin 6) (l : Fin 1024) : Fin 6432 := ⟨k.val * 1024 + l.val, by omega⟩

/-- The steps of a block of tokens have the same tokens. -/
theorem tokenOf_step (t : Fin cfg0.N) (k : Fin 6) (r : Fin 688) : tokenOf (step t k) r = tokenOf t r :=
  Fin.ext (by show (t.val / 6 * 6 + k.val) / 6 * 688 + r.val = t.val / 6 * 688 + r.val; omega)

/-- The staged weights are the argument's. -/
theorem V_weights (c : Dev nD) (i : S2x2048x6432.Idx) : V (F := Ideal) m c main_v4 i = weights m c i := by
  have e : V (F := Ideal) m c main_v4 = truncf (F := Ideal) .bf16 (weights m c) bitsLt_bf16_f32 := rfl
  rw [e]; rfl

/-- The scale laid out as a row is the argument's. -/
theorem V_scale (c : Dev nD) (a : Fin 2048) : V (F := Ideal) m c main_v12 (ix2 0 a) = scale m c (ix1 a) := by
  have e : V (F := Ideal) m c main_v12 = shapeCast S1x2048 (scale m c) shapeCasts_S2048_S1x2048 := rfl
  rw [e]; exact cast_asRow (n := 2048) _ _ a

/-- The layer's taps. -/
theorem V_taps (c : Dev nD) (k : Fin 3) (x : Fin 1024) : V (F := Ideal) m c main_v11 (ix2 k x) = taps m c (ix3 0 k x) := by
  have e : V (F := Ideal) m c main_v11
    = shapeCast S3x1024 (extractStridedSlice S1x3x1024 ![0, 0, 0] (taps m c) slices_S2x3x1024_S1x3x1024_0_0_0) shapeCasts_S1x3x1024_S3x1024 := rfl
  rw [e]
  refine (cast_dropUnit (m := 3) (n := 1024) _ _ k x).trans ?_
  exact extractStridedSlice_apply _ _ _ _ (ix3 0 k x) (fun b => match b with
    | ⟨0, _⟩ => rfl
    | ⟨1, _⟩ => by show k.val = 0 + k.val; omega
    | ⟨2, _⟩ => by show x.val = 0 + x.val; omega)

/-- The layer's shares, a row for each stream. -/
theorem V_shares (c : Dev nD) (s : Fin 3) (x : Fin 1024) : V (F := Ideal) m c main_v3 (ix3 s 0 x) = shares m c (ix2 0 (shareCol s x)) := by
  have e : V (F := Ideal) m c main_v3
    = shapeCast S3x1x1024 (extractStridedSlice S3072 ![0] (shapeCast S3360 (extractStridedSlice S1x3360 ![0, 0] (shares m c) slices_S2x3360_S1x3360_0_0)
        shapeCasts_S1x3360_S3360) slices_S3360_S3072_0) shapeCasts_S3072_S3x1x1024 := rfl
  rw [e]
  refine (shapeCast_apply _ _ _ (ix1 (⟨s.val * 1024 + x.val, by omega⟩ : Fin 3072)) (by
    rw [Shape.rowMajor_val_one, Shape.rowMajor_val_three]
    show s.val * 1024 + x.val = (s.val * 1 + 0) * 1024 + x.val
    omega)).trans ?_
  refine (extractStridedSlice_apply _ _ _ _ (ix1 (shareCol s x)) (fun b => match b with
    | ⟨0, _⟩ => by show s.val * 1024 + x.val = 0 + (s.val * 1024 + x.val); omega)).trans ?_
  refine (shapeCast_apply _ _ _ (ix2 (0 : Fin 1) (shareCol s x)) (by
    rw [Shape.rowMajor_val_two, Shape.rowMajor_val_one]
    show 0 * 3360 + (shareCol s x).val = (shareCol s x).val
    omega)).trans ?_
  exact slice_mat (m := 2) (n := 3360) 0 0 _ _ 0 _ 0 (shareCol s x) rfl (by omega)

/-- The last columns' staged weights are the argument's, padded with zeros. -/
theorem V_tail (c : Dev nD) (a : Fin 2048) (j : Fin 384) :
    V (F := Ideal) m c main_v9 (ix2 a j) = if h : j.val < 288 then weights m c (ix3 0 a ⟨6144 + j.val, by omega⟩) else 0 := by
  have e : V (F := Ideal) m c main_v9 (ix2 a j) = pad S2048x384 ![0, 0] ![0, 96] ![0, 0]
      (extractStridedSlice S2048x288 ![0, 6144] (shapeCast S2048x6432 (extractStridedSlice S1x2048x6432 ![0, 0, 0] (weights m c) slices_S2x2048x6432_S1x2048x6432_0_0_0)
        shapeCasts_S1x2048x6432_S2048x6432) slices_S2048x6432_S2048x288_0_6144)
      (sitofp (F := Ideal) .f32 (constantI S_ 32 0#32)) pads_S2048x288_S2048x384_000_0960 h_S_ (ix2 a j) := rfl
  rw [e]
  by_cases h : j.val < 288
  · rw [dif_pos h]
    refine (pad_apply_of_inside _ _ _ _ _ _ _ (ix2 a j) (ix2 a (⟨j.val, h⟩ : Fin 288)) (fun b => match b with
      | ⟨0, _⟩ => by show a.val = 0 + a.val * (0 + 1); omega
      | ⟨1, _⟩ => by show j.val = 0 + j.val * (0 + 1); omega)).trans ?_
    refine (slice_mat (m := 2048) (n := 6432) 0 6144 _ _ a ⟨j.val, h⟩ a ⟨6144 + j.val, by omega⟩ (by omega) rfl).trans ?_
    refine (cast_dropUnit (m := 2048) (n := 6432) _ _ a _).trans ?_
    exact extractStridedSlice_apply _ _ _ _ (ix3 0 a ⟨6144 + j.val, by omega⟩) (fun b => match b with
      | ⟨0, _⟩ => rfl
      | ⟨1, _⟩ => by show a.val = 0 + a.val; omega
      | ⟨2, _⟩ => by show 6144 + j.val = 0 + (6144 + j.val); omega)
  · rw [dif_neg h]
    refine (pad_apply_of_not_inside _ _ _ _ _ _ _ (ix2 a j) 1 (fun hin => h ?_)).trans ?_
    · have h2 := hin.2.2
      change (j.val - 0) / (0 + 1) < 288 at h2
      omega
    · show ((((0#32 : BitVec 32).toInt : ℝ)) : EReal) = 0
      simp

/-- A step's block of the tokens. -/
theorem iblk_tokens (c : Dev nD) (t : Fin cfg0.N) (r : Fin 688) (a : Fin 2048) :
    iblk (F := Ideal) m c 0 t (ix2 r a) = tokens m c (ix2 (tokenOf t r) a) := by
  unfold tokens
  rw [← V_main_arg0 m c]
  blk_ext [iblk, (indexTokens t).1, tokenOf]

/-- A step's blocks of the scale, the last columns' weights and the taps. -/
theorem iblk_scale (c : Dev nD) (t : Fin cfg0.N) (a : Fin 2048) : iblk (F := Ideal) m c 1 t (ix2 0 a) = scale m c (ix1 a) := by
  refine Eq.trans ?_ (V_scale m c a)
  blk_ext [iblk, (indexWhole t).1]
theorem iblk_tail (c : Dev nD) (t : Fin cfg0.N) (a : Fin 2048) (j : Fin 384) :
    iblk (F := Ideal) m c 3 t (ix2 a j) = if h : j.val < 288 then weights m c (ix3 0 a ⟨6144 + j.val, by omega⟩) else 0 := by
  refine Eq.trans ?_ (V_tail m c a j)
  blk_ext [iblk, (indexWhole t).2.1]
theorem iblk_taps (c : Dev nD) (t : Fin cfg0.N) (k : Fin 3) (x : Fin 1024) : iblk (F := Ideal) m c 4 t (ix2 k x) = taps m c (ix3 0 k x) := by
  refine Eq.trans ?_ (V_taps m c k x)
  blk_ext [iblk, (indexWhole t).2.2]

/-- A step's block of the shares. -/
theorem iblk_shares (c : Dev nD) (t : Fin cfg0.N) (x : Fin 1024) : iblk (F := Ideal) m c 5 t (ix3 0 0 x) = shares m c (ix2 0 (shareCol (slot t) x)) := by
  refine Eq.trans ?_ (V_shares m c (slot t) x)
  blk_ext [iblk, (indexWeights t).2, slot]

/-- A step's block of the weights. -/
theorem block_weights (c : Dev nD) (t : Fin cfg0.N) (k : Fin 6) (a : Fin 2048) (l : Fin 1024) :
    X0_2 (F := Ideal) m c (step t k) (ix3 0 a l) = weights m c (ix3 0 a (colOf k l)) := by
  have e : (step t k).val % 6 = k.val := by show (t.val / 6 * 6 + k.val) % 6 = k.val; omega
  refine Eq.trans ?_ (V_weights m c _)
  unfold X0_2 Pipeline.Window.fill
  rw [dif_pos (moved0_2 (step t k) _)]
  blk_ext [iblk, (indexWeights (step t k)).1, e, colOf]

/-- The normed tokens of a step. -/
theorem normed_at (c : Dev nD) (t : Fin cfg0.N) (r : Fin 688) (a : Fin 2048) :
    k0_pay10 (F := Ideal) (iblk m c 0 (step t 0)) (iblk m c 1 (step t 0)) (ix2 r a) = Cert.Feed.normed (tokens m c) (scale m c) (tokenOf t r) a := by
  rw [normed_apply]
  unfold Cert.Feed.normed
  rw [← tokenOf_step t 0 r]
  congr 1
  · exact funext fun k => iblk_tokens m c (step t 0) r k
  · exact funext fun k => iblk_scale m c (step t 0) k

/-- A product of a block of tokens with a block of the weights. -/
theorem product_at (c : Dev nD) (t : Fin cfg0.N) (k : Fin 6) (r : Fin 688) (l : Fin 1024) :
    product (normed (F := Ideal) m c t) (X0_2 (F := Ideal) m c (step t k)) (ix2 r l)
      = projAt (tokens m c) (scale m c) (weights m c) (tokenOf t r) (colOf k l) := by
  rw [product_apply]
  unfold normed
  rw [stored_eq]
  exact Finset.sum_congr rfl fun a _ => congrArg₂ (· * ·) (normed_at m c t r a) (block_weights m c t k a l)

/-- What the convolution takes of a block of tokens. -/
theorem z_at (c : Dev nD) (t : Fin cfg0.N) (r : Fin 688) (x : Fin 1024) :
    zAt (F := Ideal) m c t (ix2 r x) = zOf (tokens m c) (scale m c) (weights m c) (tokenOf t r) x := by
  unfold zAt zOf
  rw [taken_apply, product_at]
  unfold gcAt
  rw [factors_eq, product_at]
  exact congrArg₂ (· * ·) (congrArg _ (Fin.ext (by show 1 * 1024 + x.val = 1024 + x.val; omega)))
    (congrArg _ (Fin.ext (by show 2 * 1024 + x.val = 2048 + x.val; omega)))

/-- The carried rows are the last two of the block before, or zeros at the start of a sequence. -/
theorem carried_at (c : Dev nD) (t : Fin cfg0.N) (k r : ℕ) (R : Fin 33024) (y : Fin 2) (x : Fin 1024) (hR : R.val = t.val / 6 * 688 + r)
    (hy : r + 2 = k + y.val) (hk : k ≤ 2) (hr : r < k) :
    zcAt (F := Ideal) m c (step t 2) (ix2 ⟨y.val, by omega⟩ x) = zBefore (tokens m c) (scale m c) (weights m c) k R x := by
  have hs := steps t
  have e2 : (step t 2).val = t.val / 6 * 6 + 2 := rfl
  unfold zBefore
  by_cases h18 : t.val % 18 < 6
  · rw [zcAt_zero m c (step t 2) (by omega) (by omega), zeros_rows, if_neg (show ¬k ≤ R.val % 2064 by omega)]
  · rw [zcAt_prev m c (step t 2) (by omega) (by omega), if_pos (show k ≤ R.val % 2064 by omega)]
    refine (dif_pos (show (ix2 (⟨y.val, by omega⟩ : Fin 8) x 0).val < 2 from y.isLt)).trans ?_
    refine (lastTwo_apply _ y x).trans ((z_at m c _ _ x).trans (congrArg (fun R => zOf _ _ _ R x) (Fin.ext ?_)))
    show ((step t 2).val - 6) / 6 * 688 + (686 + y.val) = R.val - k
    omega

/-- What the convolution takes `k` rows up in the same block. -/
theorem up_at (c : Dev nD) (t : Fin cfg0.N) (k : ℕ) (r : Fin 688) (x : Fin 1024) (hk : k ≤ r.val) :
    zAt (F := Ideal) m c t (ix2 ⟨(r.val + 688 - k) % 688, by omega⟩ x) = zBefore (tokens m c) (scale m c) (weights m c) k (tokenOf t r) x := by
  have hs := steps t
  have hR : (tokenOf t r).val = t.val / 6 * 688 + r.val := rfl
  unfold zBefore
  rw [z_at, if_pos (show k ≤ (tokenOf t r).val % 2064 by omega)]
  refine congrArg (fun R => zOf _ _ _ R x) (Fin.ext ?_)
  show t.val / 6 * 688 + (r.val + 688 - k) % 688 = (tokenOf t r).val - k
  omega

/-- What the first output's buffer holds after a step. -/
theorem ya_at (c : Dev nD) (t : Fin cfg0.N) (r : Fin 688) (x : Fin 1024) :
    Cert.Kernel6Ideal.ProjEven.yaAt (F := Ideal) m c t (ix2 r x)
      = Cert.ProjEven.yaAt (tokens m c) (scale m c) (weights m c) (taps m c) (tokenOf t r) x := by
  unfold Cert.Kernel6Ideal.ProjEven.yaAt Cert.ProjEven.yaAt
  rw [gated_apply, taps_apply, iblk_taps, iblk_taps, iblk_taps]
  refine congrArg₂ (· * ·) ?_ (congrArg₂ (· + ·) (congrArg₂ (· + ·) (congrArg _ ?_) (congrArg _ ?_)) (congrArg _ (z_at m c t r x)))
  · unfold gbAt
    rw [gates_eq, product_at]
    exact congrArg _ (Fin.ext (by show 0 * 1024 + x.val = x.val; omega))
  · by_cases h1 : r.val = 1
    · rw [if_pos h1]; exact carried_at m c t 2 1 _ 1 x (by show _ = _; rw [← h1]; rfl) rfl (by omega) (by omega)
    by_cases h0 : r.val = 0
    · rw [if_neg h1, if_pos h0]; exact carried_at m c t 2 0 _ 0 x (by show _ = _; rw [← h0]; rfl) rfl (by omega) (by omega)
    · rw [if_neg h1, if_neg h0]; exact up_at m c t 2 r x (by omega)
  · by_cases h0 : r.val = 0
    · rw [if_pos h0]; exact carried_at m c t 1 0 _ 1 x (by show _ = _; rw [← h0]; rfl) rfl (by omega) (by omega)
    · rw [if_neg h0]; exact up_at m c t 1 r x (by omega)

/-- The last row of a block's product. -/
theorem lastRow_at (c : Dev nD) (t : Fin cfg0.N) (k : Fin 6) (x : Fin 1024) :
    lastRow (F := Ideal) m c t k (ix3 0 0 x) = projAt (tokens m c) (scale m c) (weights m c) (tokenOf t 687) (colOf k x) :=
  (lastOne_apply _ _ x).trans (product_at m c t k 687 x)

/-- What the second output's buffer holds after one of the last three steps. -/
theorem rkv_at (c : Dev nD) (t : Fin cfg0.N) (h3 : 3 ≤ t.val % 6) (r : Fin 688) (x : Fin 1024) :
    Cert.Kernel6Ideal.ProjEven.rkvAt (F := Ideal) m c t (ix3 0 r x)
      = mixAt (tokens m c) (scale m c) (weights m c) (shares m c) (slot t) (tokenOf t r) x := by
  have hs := steps t
  have hsl : (slot t).val = t.val % 6 - 3 := rfl
  have hc : colOf ⟨t.val % 6, by omega⟩ x = streamCol (slot t) x :=
    Fin.ext (by show t.val % 6 * 1024 + x.val = 3072 + (slot t).val * 1024 + x.val; omega)
  have hk : (⟨(slot t).val + 3, by omega⟩ : Fin 6) = ⟨t.val % 6, by omega⟩ := Fin.ext (by show (slot t).val + 3 = t.val % 6; omega)
  have hR : (tokenOf t r).val = t.val / 6 * 688 + r.val := rfl
  have hp : ∀ r', product (normed (F := Ideal) m c t) (X0_2 (F := Ideal) m c t) (ix2 r' x)
      = projAt (tokens m c) (scale m c) (weights m c) (tokenOf t r') (streamCol (slot t) x) := fun r' => by
    have e := product_at m c t ⟨t.val % 6, by omega⟩ r' x
    rw [step_self t ⟨t.val % 6, by omega⟩ rfl, hc] at e
    exact e
  unfold Cert.Kernel6Ideal.ProjEven.rkvAt mixAt
  rw [shift_apply, iblk_shares, hp, hp]
  refine congrArg (_ + ·) (congrArg (· * _) (congrArg (· - _) ?_))
  unfold shiftAt
  by_cases h0 : r.val = 0
  · rw [if_pos h0]
    refine (pcAt_zero m c t (slot t) x).trans ?_
    rw [if_neg (show ¬(slot t).val + 3 < t.val % 6 by omega), hk]
    by_cases h18 : t.val % 18 < 6
    · rw [if_pos h18, zeros_row, if_pos (show (tokenOf t r).val % 2064 = 0 by omega)]
    · rw [if_neg h18, lastRow_at, hc, if_neg (show ¬(tokenOf t r).val % 2064 = 0 by omega)]
      refine congrArg (fun R => projAt _ _ _ R _) (Fin.ext ?_)
      show (t.val - 6) / 6 * 688 + 687 = (tokenOf t r).val - 1
      omega
  · rw [if_neg h0, if_neg (show ¬(tokenOf t r).val % 2064 = 0 by omega)]
    refine congrArg (fun R => projAt _ _ _ R _) (Fin.ext ?_)
    show t.val / 6 * 688 + (r.val + 688 - 1) % 688 = (tokenOf t r).val - 1
    omega

/-- What the third output's buffer holds after a step. -/
theorem tail_at (c : Dev nD) (t : Fin cfg0.N) (r : Fin 688) (j : Fin 384) :
    Cert.Kernel6Ideal.ProjEven.tailAt (F := Ideal) m c t (ix2 r j) = Cert.ProjEven.tailAt (tokens m c) (scale m c) (weights m c) (tokenOf t r) j := by
  unfold Cert.Kernel6Ideal.ProjEven.tailAt Cert.ProjEven.tailAt
  rw [tail_apply]
  by_cases h : j.val < 288
  · rw [dif_pos h]
    exact Finset.sum_congr rfl fun a _ => congrArg₂ (· * ·) (normed_at m c t r a) ((iblk_tail m c (step t 0) a j).trans (dif_pos h))
  · rw [dif_neg h]
    exact Finset.sum_eq_zero fun a _ => (congrArg (_ * ·) ((iblk_tail m c (step t 0) a j).trans (dif_neg h))).trans (mul_zero _)

/-- The three results. -/
def yaArray (c : Dev nD) : Vec Ideal S33024x1024 .bf16 := fun i =>
  Cert.ProjEven.yaAt (tokens m c) (scale m c) (weights m c) (taps m c) (i 0) (i 1)
def rkvArray (c : Dev nD) : Vec Ideal S3x2064x16384 .f32 := fun i =>
  Cert.ProjEven.rkvAt (tokens m c) (scale m c) (weights m c) (shares m c) (i 0) (i 1) (i 2)
def tailArray (c : Dev nD) : Vec Ideal S33024x384 .f32 := fun i => Cert.ProjEven.tailAt (tokens m c) (scale m c) (weights m c) (i 0) (i 1)

/-- The call leaves the gated convolution in its first result. -/
theorem ya_eq (c : Dev nD) : (dats (F := Ideal) m 0 c).arrAt 6 cfg0.N = yaArray m c := by
  refine (dats (F := Ideal) m 0 c).arrAt_eq_of_covers 6 _ (by decide +kernel) fun t hf y => ?_
  blk_simp
  rw [after_ya]
  obtain ⟨r, x, rfl⟩ : ∃ (r : Fin 688) (x : Fin 1024), y = ix2 r x := ⟨_, _, ValueIdx.eq_ix2 y⟩
  have e0 : (win0_6.blk t).view.emb (ix2 r x) 0 = tokenOf t r := Fin.ext (by blk_simp [(indexTokens t).2.1, tokenOf])
  have e1 : (win0_6.blk t).view.emb (ix2 r x) 1 = x := Fin.ext (by blk_simp [(indexTokens t).2.1])
  show _ = Cert.ProjEven.yaAt _ _ _ _ ((win0_6.blk t).view.emb (ix2 r x) 0) ((win0_6.blk t).view.emb (ix2 r x) 1)
  rw [e0, e1]
  exact ya_at m c t r x

/-- The call leaves the three shifted streams in its second result. -/
theorem rkv_eq (c : Dev nD) : (dats (F := Ideal) m 0 c).arrAt 7 cfg0.N = rkvArray m c := by
  refine (dats (F := Ideal) m 0 c).arrAt_eq_of_covers 7 _ (by decide +kernel) fun t hf y => ?_
  have h3 : 3 ≤ t.val % 6 := of_decide_eq_true ((flush_rkv t).symm.trans hf)
  have hs := steps t
  blk_simp
  rw [after_rkv]
  obtain ⟨z, r, x, rfl⟩ : ∃ (z : Fin 1) (r : Fin 688) (x : Fin 1024), y = ix3 z r x := ⟨_, _, _, ValueIdx.eq_ix3 y⟩
  obtain rfl : z = 0 := Fin.ext (by omega)
  have e0 : (win0_7.blk t).view.emb (ix3 0 r x) 0 = slot t := Fin.ext (by blk_simp [(indexTokens t).2.2.1, slot]; rfl)
  have e1 : ((win0_7.blk t).view.emb (ix3 0 r x) 1).val = t.val / 6 % 3 * 688 + r.val := by blk_simp [(indexTokens t).2.2.1]
  have e2 : ((win0_7.blk t).view.emb (ix3 0 r x) 2).val = t.val / 18 * 1024 + x.val := by blk_simp [(indexTokens t).2.2.1]
  show _ = Cert.ProjEven.rkvAt _ _ _ _ ((win0_7.blk t).view.emb (ix3 0 r x) 0) ((win0_7.blk t).view.emb (ix3 0 r x) 1) ((win0_7.blk t).view.emb (ix3 0 r x) 2)
  rw [e0]
  refine (rkv_at m c t h3 r x).trans ?_
  unfold Cert.ProjEven.rkvAt
  congr 1
  · refine Fin.ext ?_
    show t.val / 6 * 688 + r.val = ((win0_7.blk t).view.emb (ix3 0 r x) 2).val / 1024 * 2064 + ((win0_7.blk t).view.emb (ix3 0 r x) 1).val
    rw [e1, e2]; omega
  · refine Fin.ext ?_
    show x.val = ((win0_7.blk t).view.emb (ix3 0 r x) 2).val % 1024
    rw [e2]; omega

/-- The call leaves the padded last columns in its third result. -/
theorem tail_eq (c : Dev nD) : (dats (F := Ideal) m 0 c).arrAt 8 cfg0.N = tailArray m c := by
  refine (dats (F := Ideal) m 0 c).arrAt_eq_of_covers 8 _ (by decide +kernel) fun t hf y => ?_
  blk_simp
  rw [after_tail]
  obtain ⟨r, j, rfl⟩ : ∃ (r : Fin 688) (j : Fin 384), y = ix2 r j := ⟨_, _, ValueIdx.eq_ix2 y⟩
  have e0 : (win0_8.blk t).view.emb (ix2 r j) 0 = tokenOf t r := Fin.ext (by blk_simp [(indexTokens t).2.2.2, tokenOf])
  have e1 : (win0_8.blk t).view.emb (ix2 r j) 1 = j := Fin.ext (by blk_simp [(indexTokens t).2.2.2])
  show _ = Cert.ProjEven.tailAt _ _ _ ((win0_8.blk t).view.emb (ix2 r j) 0) ((win0_8.blk t).view.emb (ix2 r j) 1)
  rw [e0, e1]
  exact tail_at m c t r j

variable (ρ : Dev nD → PrngReg)

/-- The program ends with the three results in place and its arguments unchanged. -/
theorem run_results : θ_run defs (onTc (τ := τ) (main (F := Ideal))) ⟨m, fun _ => 0, ρ⟩ (fun r => ∀ c : Dev nD,
      r.2.mem ((c.tc : Thread nD τ).loc main_v13_0) = yaArray m c
      ∧ r.2.mem ((c.tc : Thread nD τ).loc main_v13_1) = rkvArray m c
      ∧ r.2.mem ((c.tc : Thread nD τ).loc main_v13_2) = tailArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 6).trans (ya_eq m c), ((h.1 c).1 7).trans (rkv_eq m c), ((h.1 c).1 8).trans (tail_eq m c), h.2.1 c⟩)
    (θ_run_and (run_main (F := Ideal) m ρ) (frame (F := Ideal) m ρ))

end Cert.Kernel6Ideal.ProjEven

end
-- ==== Proof.ProjEvenReference.lean ====
/-
  The reference of an even mixer's projection, read at an index.
-/
module

public import proofs.«01_k».proof.Proof.Gen.Reference6Ideal.Read
public import proofs.«01_k».proof.Proof.FeedReference
public import proofs.«01_k».proof.Proof.ProjEvenHeads
public import Idealize.ShloMosaic.Lib.Pipeline.Value
public import Idealize.ShloMosaic.Lib.KernelVsHost

@[expose] public section

set_option maxRecDepth 16384

noncomputable section

namespace Cert.Reference6Ideal.ProjEven

open Cert.Reference6Ideal Cert.Reference6Ideal.Gen Cert.Reference6Ideal.Read Cert.Shapes Cert.Layer Cert.Feed Cert.ProjEven Idealize.ShloMosaic
open Idealize.ShloMosaic.TcCoe Idealize.SL.Sem

variable (H : FVec Ideal S33024x2048 .f32) (g : FVec Ideal S2048 .f32) (W : FVec Ideal S2x2048x6432 .f32) (cw : FVec Ideal S2x3x1024 .f32)
  (mu : FVec Ideal S2x3360 .f32)

/-- The layer's weights. -/
theorem weights_at (a : Fin 2048) (l : Fin 6432) : val_main_v14 (F := Ideal) W (ix2 a l) = W (ix3 0 a l) := by
  show shapeCast S2048x6432 (val_main_v13 (F := Ideal) W) _ (ix2 a l) = _
  refine (cast_dropUnit (m := 2048) (n := 6432) _ _ a l).trans ?_
  rw [val_main_v13_apply]
  exact congrArg W (ValueIdx.eq_ix3 _)

/-- The product of a row. -/
theorem product_at (R : Fin 33024) (l : Fin 6432) : val_main_v15 (F := Ideal) H g W (ix2 R l) = projAt H g W R l := by
  have e : val_main_v12 (F := Ideal) H g = Cert.Reference2Ideal.Read.val_main_v12 (F := Ideal) H g := rfl
  rw [val_main_v15_apply, e]
  refine Finset.sum_congr rfl fun a _ => ?_
  exact congrArg₂ (· * ·) (Eq.trans (congrArg _ (ValueIdx.eq_ix2 _)) (Cert.Reference2Ideal.Feed.norm_at H g R a))
    (Eq.trans (congrArg _ (ValueIdx.eq_ix2 _)) (weights_at W a l))

/-- The token of a place in a sequence. -/
def tokenAt (b : Fin 16) (p : Fin 2064) : Fin 33024 := ⟨b.val * 2064 + p.val, by omega⟩

/-- Rows split into sequences read the row of the token. -/
theorem split_apply {n : ℕ} (x : FVec Ideal ⟨2, ![33024, n]⟩ .f32) (h : (⟨2, ![33024, n]⟩ : Shape).ShapeCasts ⟨3, ![16, 2064, n]⟩)
    (b : Fin 16) (p : Fin 2064) (l : Fin n) : shapeCast ⟨3, ![16, 2064, n]⟩ x h (ix3 b p l) = x (ix2 (tokenAt b p) l) :=
  shapeCast_apply x h _ _ (by
    rw [Shape.rowMajor_val_two, Shape.rowMajor_val_three]
    show (b.val * 2064 + p.val) * n + l.val = (b.val * 2064 + p.val) * n + l.val
    rfl)

/-! ## The convolution -/

/-- What the convolution takes. -/
theorem z_at (b : Fin 16) (p : Fin 2064) (x : Fin 1024) : val_main_v19 (F := Ideal) H g W (ix3 b p x) = zOf H g W (tokenAt b p) x := by
  refine (split_apply (n := 1024) (val_main_v18 (F := Ideal) H g W) _ b p x).trans ?_
  rw [val_main_v18_apply, val_main_v16_apply, val_main_v17_apply]
  exact congrArg₂ (· * ·) ((congrArg _ (ValueIdx.eq_ix2 _)).trans (product_at H g W _ _)) ((congrArg _ (ValueIdx.eq_ix2 _)).trans (product_at H g W _ _))

/-- The zero a sequence is padded with. -/
theorem padding (v : S_.Idx) : sitofp (F := Ideal) .f32 (constantI S_ 32 0#32) v = 0 := by
  show ((((0#32 : BitVec 32).toInt : ℝ)) : EReal) = 0
  simp

/-- What the convolution takes, two zeros before each sequence: read at place `p + (2 - k)`, it is what it takes `k` tokens before. -/
theorem padded_at (k : ℕ) (hk : k ≤ 2) (b : Fin 16) (p : Fin 2064) (q : Fin 2066) (hq : q.val + k = p.val + 2) (x : Fin 1024) :
    val_main_v20 (F := Ideal) H g W (ix3 b q x) = zBefore H g W k (tokenAt b p) x := by
  have e : val_main_v20 (F := Ideal) H g W = pad S16x2066x1024 ![0, 2, 0] ![0, 0, 0] ![0, 0, 0] (val_main_v19 (F := Ideal) H g W)
    (sitofp (F := Ideal) .f32 (constantI S_ 32 0#32)) pads_S16x2064x1024_S16x2066x1024_000_200_000 h_S_ := rfl
  have hR : (tokenAt b p).val = b.val * 2064 + p.val := rfl
  rw [e]
  unfold zBefore
  by_cases h : k ≤ p.val
  · rw [if_pos (show k ≤ (tokenAt b p).val % 2064 by omega)]
    refine (pad_apply_of_inside _ _ _ _ _ _ _ (ix3 b q x) (ix3 b (⟨p.val - k, by omega⟩ : Fin 2064) x) (fun a => match a with
      | ⟨0, _⟩ => by show b.val = 0 + b.val * (0 + 1); omega
      | ⟨1, _⟩ => by show q.val = 2 + (p.val - k) * (0 + 1); omega
      | ⟨2, _⟩ => by show x.val = 0 + x.val * (0 + 1); omega)).trans ?_
    rw [z_at]
    refine congrArg (fun R => zOf H g W R x) (Fin.ext ?_)
    show b.val * 2064 + (p.val - k) = (tokenAt b p).val - k
    omega
  · rw [if_neg (show ¬k ≤ (tokenAt b p).val % 2064 by omega)]
    refine (pad_apply_of_not_inside _ _ _ _ _ _ _ (ix3 b q x) 1 (fun hin => h ?_)).trans (padding _)
    have h1 := hin.1
    change 2 ≤ q.val at h1
    omega

/-- The layer's taps. -/
theorem taps_at (k : Fin 3) (x : Fin 1024) : val_main_v22 (F := Ideal) cw (ix2 k x) = cw (ix3 0 k x) := by
  refine (cast_dropUnit (m := 3) (n := 1024) (val_main_v21 (F := Ideal) cw) _ k x).trans ?_
  rw [val_main_v21_apply]
  exact congrArg cw (ValueIdx.eq_ix3 _)

/-- One tap of the taps, as the program picks it and repeats it over the tokens. -/
theorem tap_at (k : ℕ) (hk : k < 3) (h : S3x1024.Slices ![k, 0] S1x1024) (b : Fin 16) (p : Fin 2064) (x : Fin 1024) :
    broadcastInDim S16x2064x1024 ![0, 1, 2] bcast_S1x1x1024_S16x2064x1024_0_1_2 (broadcastInDim S1x1x1024 ![2] bcast_S1024_S1x1x1024_2
      (shapeCast S1024 (extractStridedSlice S1x1024 ![k, 0] (val_main_v22 (F := Ideal) cw) h) shapeCasts_S1x1024_S1024)) (ix3 b p x)
      = cw (ix3 0 ⟨k, hk⟩ x) := by
  rw [broadcastInDim_apply _ bcast_S1x1x1024_S16x2064x1024_0_1_2 _ (ix3 b p x) (ix3 0 0 x) (fun a => match a with
      | ⟨0, _⟩ => (if_pos rfl).symm
      | ⟨1, _⟩ => (if_pos rfl).symm
      | ⟨2, _⟩ => by show x.val = if (1024 : Nat) = 1 then 0 else x.val; rw [if_neg (by decide)]),
    broadcastInDim_apply _ bcast_S1024_S1x1x1024_2 _ (ix3 0 0 x) (ix1 x) (fun a => match a with
      | ⟨0, _⟩ => by show x.val = if (1024 : Nat) = 1 then 0 else x.val; rw [if_neg (by decide)])]
  refine (shapeCast_apply _ _ _ (ix2 (0 : Fin 1) x) (by
    rw [Shape.rowMajor_val_two, Shape.rowMajor_val_one]
    show 0 * 1024 + x.val = x.val
    omega)).trans ?_
  exact (slice_mat (m := 3) (n := 1024) k 0 _ h 0 x ⟨k, hk⟩ x rfl (by omega)).trans (taps_at cw _ x)

/-- The convolution of a token. -/
theorem mixed_at (b : Fin 16) (p : Fin 2064) (x : Fin 1024) : val_main_v42 (F := Ideal) H g W cw (ix3 b p x)
    = cw (ix3 0 0 x) * zBefore H g W 2 (tokenAt b p) x + cw (ix3 0 1 x) * zBefore H g W 1 (tokenAt b p) x + cw (ix3 0 2 x) * zOf H g W (tokenAt b p) x := by
  have z0 : zBefore H g W 0 (tokenAt b p) x = zOf H g W (tokenAt b p) x := if_pos (Nat.zero_le _)
  rw [val_main_v42_apply, val_main_v35_apply, val_main_v28_apply, val_main_v34_apply, val_main_v41_apply,
    val_main_v25_apply, val_main_v31_apply, val_main_v38_apply, ← z0]
  exact congrArg₂ (· + ·) (congrArg₂ (· + ·)
    (congrArg₂ (· * ·) (tap_at cw 0 (by decide) _ b p x)
      ((congrArg _ (ValueIdx.eq_ix3 _)).trans (padded_at H g W 2 (by omega) b p _ (rfl) x)))
    (congrArg₂ (· * ·) (tap_at cw 1 (by decide) _ b p x)
      ((congrArg _ (ValueIdx.eq_ix3 _)).trans (padded_at H g W 1 (by omega) b p _ (by show 1 + p.val + 1 = p.val + 2; omega) x))))
    (congrArg₂ (· * ·) (tap_at cw 2 (by decide) _ b p x)
      ((congrArg _ (ValueIdx.eq_ix3 _)).trans (padded_at H g W 0 (by omega) b p _ (by show 2 + p.val + 0 = p.val + 2; omega) x)))

/-- A token is the one of its place in its sequence. -/
theorem tokenAt_div (R : Fin 33024) : tokenAt ⟨R.val / 2064, by omega⟩ ⟨R.val % 2064, by omega⟩ = R :=
  Fin.ext (by show R.val / 2064 * 2064 + R.val % 2064 = R.val; omega)

/-- The reference's first result. -/
theorem ya_at (R : Fin 33024) (x : Fin 1024) : val_main_v61 (F := Ideal) H g W cw (ix2 R x) = yaAt H g W cw R x := by
  rw [val_main_v61_apply]
  show val_main_v45 (F := Ideal) H g W cw (ix2 R x) = _
  rw [val_main_v45_apply, val_main_v43_apply]
  unfold yaAt
  refine congrArg₂ (· * ·) ((congrArg _ (ValueIdx.eq_ix2 _)).trans ((product_at H g W R _).trans (congrArg _ (Fin.ext rfl)))) ?_
  refine (shapeCast_apply (val_main_v42 (F := Ideal) H g W cw) _ _ (ix3 (⟨R.val / 2064, by omega⟩ : Fin 16) (⟨R.val % 2064, by omega⟩ : Fin 2064) x) (by
    rw [Shape.rowMajor_val_three, Shape.rowMajor_val_two]
    show (R.val / 2064 * 2064 + R.val % 2064) * 1024 + x.val = R.val * 1024 + x.val
    omega)).trans ?_
  rw [mixed_at, tokenAt_div]

/-! ## The token shift -/

/-- The shifted streams before the shift. -/
theorem stream_at (b : Fin 16) (p : Fin 2064) (l : Fin 3072) :
    val_main_v47 (F := Ideal) H g W (ix3 b p l) = projAt H g W (tokenAt b p) ⟨3072 + l.val, by omega⟩ := by
  refine (split_apply (n := 3072) (val_main_v46 (F := Ideal) H g W) _ b p l).trans ?_
  rw [val_main_v46_apply]
  exact (congrArg _ (ValueIdx.eq_ix2 _)).trans (product_at H g W _ _)

/-- What the shift reads of the token before. -/
theorem before_at (b : Fin 16) (p : Fin 2064) (l : Fin 3072) :
    val_main_v49 (F := Ideal) H g W (ix3 b p l) = shiftAt H g W (tokenAt b p) ⟨3072 + l.val, by omega⟩ := by
  have e : val_main_v48 (F := Ideal) H g W = pad S16x2065x3072 ![0, 1, 0] ![0, 0, 0] ![0, 0, 0] (val_main_v47 (F := Ideal) H g W)
    (sitofp (F := Ideal) .f32 (constantI S_ 32 0#32)) pads_S16x2064x3072_S16x2065x3072_000_100_000 h_S_ := rfl
  have hR : (tokenAt b p).val = b.val * 2064 + p.val := rfl
  rw [val_main_v49_apply, e]
  unfold shiftAt
  refine (congrArg _ (ValueIdx.eq_ix3 _)).trans ?_
  by_cases h : p.val = 0
  · rw [if_pos (show (tokenAt b p).val % 2064 = 0 by omega)]
    refine (pad_apply_of_not_inside _ _ _ _ _ _ _ _ 1 (fun hin => ?_)).trans (padding _)
    have h1 := hin.1
    change 1 ≤ p.val at h1
    omega
  · rw [if_neg (show ¬(tokenAt b p).val % 2064 = 0 by omega)]
    refine (pad_apply_of_inside _ _ _ _ _ _ _ _ (ix3 b (⟨p.val - 1, by omega⟩ : Fin 2064) l) (fun a => match a with
      | ⟨0, _⟩ => by show b.val = 0 + b.val * (0 + 1); omega
      | ⟨1, _⟩ => by show p.val = 1 + (p.val - 1) * (0 + 1); omega
      | ⟨2, _⟩ => by show l.val = 0 + l.val * (0 + 1); omega)).trans ?_
    rw [stream_at]
    refine congrArg (fun R => projAt H g W R _) (Fin.ext ?_)
    show b.val * 2064 + (p.val - 1) = (tokenAt b p).val - 1
    omega

/-- The layer's shares, repeated over the tokens. -/
theorem shares_at (b : Fin 16) (p : Fin 2064) (l : Fin 3072) : val_main_v55 (F := Ideal) mu (ix3 b p l) = mu (ix2 0 ⟨l.val, by omega⟩) := by
  rw [val_main_v55_apply, val_main_v54_apply, val_main_v53_apply]
  have e : idx_main_v53 (idx_main_v54 (idx_main_v55 (ix3 b p l))) = ix1 (⟨l.val, by omega⟩ : Fin 3360) :=
    (ValueIdx.eq_ix1 _).trans (congrArg ix1 (Fin.ext rfl))
  rw [e]
  refine (shapeCast_apply (val_main_v51 (F := Ideal) mu) _ _ (ix2 (0 : Fin 1) (⟨l.val, by omega⟩ : Fin 3360)) (by
    rw [Shape.rowMajor_val_two, Shape.rowMajor_val_one]
    show 0 * 3360 + l.val = l.val
    omega)).trans ?_
  exact slice_mat (m := 2) (n := 3360) 0 0 mu _ 0 _ 0 ⟨l.val, by omega⟩ rfl (by show l.val = 0 + l.val; omega)

/-- The shifted streams. -/
theorem mix_at (b : Fin 16) (p : Fin 2064) (s : Fin 3) (x : Fin 1024) (l : Fin 3072) (hl : l.val = s.val * 1024 + x.val) :
    val_main_v57 (F := Ideal) H g W mu (ix3 b p l) = mixAt H g W mu s (tokenAt b p) x := by
  have ec : (⟨3072 + l.val, by omega⟩ : Fin 6432) = streamCol s x := Fin.ext (by show 3072 + l.val = 3072 + s.val * 1024 + x.val; omega)
  have es : (⟨l.val, by omega⟩ : Fin 3360) = shareCol s x := Fin.ext hl
  rw [val_main_v57_apply, val_main_v56_apply, val_main_v50_apply, stream_at, before_at, shares_at, ec, es]
  rfl

/-- The reference's second result. -/
theorem rkv_at (s : Fin 3) (p : Fin 2064) (n : Fin 16384) : val_main_v60 (F := Ideal) H g W mu (ix3 s p n) = rkvAt H g W mu s p n := by
  have hn := n.isLt
  refine (shapeCast_apply (val_main_v59 (F := Ideal) H g W mu) _ _
    (ix4 s p (⟨n.val / 1024, by omega⟩ : Fin 16) (⟨n.val % 1024, by omega⟩ : Fin 1024)) (by
    rw [Shape.rowMajor_val_four, Shape.rowMajor_val_three]
    show ((s.val * 2064 + p.val) * 16 + n.val / 1024) * 1024 + n.val % 1024 = (s.val * 2064 + p.val) * 16384 + n.val
    omega)).trans ?_
  have e : idx_main_v59 (ix4 s p (⟨n.val / 1024, by omega⟩ : Fin 16) (⟨n.val % 1024, by omega⟩ : Fin 1024))
    = ix4 (⟨n.val / 1024, by omega⟩ : Fin 16) p s (⟨n.val % 1024, by omega⟩ : Fin 1024) := ValueIdx.eq_ix4 _
  rw [val_main_v59_apply, e]
  refine (shapeCast_apply (val_main_v57 (F := Ideal) H g W mu) _ _
    (ix3 (⟨n.val / 1024, by omega⟩ : Fin 16) p (⟨s.val * 1024 + n.val % 1024, by omega⟩ : Fin 3072)) (by
    rw [Shape.rowMajor_val_three, Shape.rowMajor_val_four]
    show (n.val / 1024 * 2064 + p.val) * 3072 + (s.val * 1024 + n.val % 1024) = ((n.val / 1024 * 2064 + p.val) * 3 + s.val) * 1024 + n.val % 1024
    omega)).trans ?_
  exact mix_at H g W mu _ p s ⟨n.val % 1024, by omega⟩ _ rfl

/-- The reference's third result. -/
theorem tail_at (R : Fin 33024) (j : Fin 384) : val_main_v63 (F := Ideal) H g W (ix2 R j) = tailAt H g W R j := by
  have e : val_main_v63 (F := Ideal) H g W = pad S33024x384 ![0, 0] ![0, 96] ![0, 0] (val_main_v62 (F := Ideal) H g W)
    (sitofp (F := Ideal) .f32 (constantI S_ 32 0#32)) pads_S33024x288_S33024x384_000_0960 h_S_ := rfl
  rw [e]
  unfold tailAt
  by_cases h : j.val < 288
  · rw [dif_pos h]
    refine (pad_apply_of_inside _ _ _ _ _ _ _ (ix2 R j) (ix2 R (⟨j.val, h⟩ : Fin 288)) (fun b => match b with
      | ⟨0, _⟩ => by show R.val = 0 + R.val * (0 + 1); omega
      | ⟨1, _⟩ => by show j.val = 0 + j.val * (0 + 1); omega)).trans ?_
    rw [val_main_v62_apply]
    exact (congrArg _ (ValueIdx.eq_ix2 _)).trans (product_at H g W R _)
  · rw [dif_neg h]
    refine (pad_apply_of_not_inside _ _ _ _ _ _ _ (ix2 R j) 1 (fun hin => h ?_)).trans (padding _)
    have h2 := hin.2.2
    change (j.val - 0) / (0 + 1) < 288 at h2
    omega

end Cert.Reference6Ideal.ProjEven

end
-- ==== Proof.lean ====
/-
  The proof of `Cert.Claim`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Equal
public import proofs.«01_k».proof.Proof.FeedReference
public import proofs.«01_k».proof.Proof.OutOdd
public import proofs.«01_k».proof.Proof.OutEven
public import Idealize.ShloMosaic.Adequacy
public import Idealize.ShloMosaic.Init
public import proofs.«01_k».proof.Proof.ProjOddBits
public import proofs.«01_k».proof.Proof.ProjOddFrame
public import proofs.«01_k».proof.Proof.ProjOddArray
public import proofs.«01_k».proof.Proof.ProjOddReference
public import proofs.«01_k».proof.Proof.ProjEvenBits
public import proofs.«01_k».proof.Proof.ProjEvenFrame
public import proofs.«01_k».proof.Proof.ProjEvenArray
public import proofs.«01_k».proof.Proof.ProjEvenReference

@[expose] public section

noncomputable section

namespace Cert.Proof

open Idealize.ShloMosaic Idealize.ShloMosaic.TcCoe Idealize.SL.Sem

/-- The attention's reference runs, leaves its arguments as they were and every semaphore counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
      ∧ r.2.sem = fun _ => 0) :=
  (θ_run (Cert.ReferenceIdeal.defs (F := Ideal)) _ _).mono (fun r h => ⟨fun c => (h c).2, sem_eq_zero_of_no_sems (by decide) r.2⟩)
    (Cert.ReferenceIdeal.Value.run (F := Ideal) m g)

/-- The attention computes its reference's result. -/
theorem attention : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => Cert.KernelIdeal.Fox.foxArray (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run (Cert.KernelIdeal.defs (F := Ideal)) _ _).mono (fun r h c => ⟨?_, (h c).2⟩) (Cert.KernelIdeal.Value.run_blocks (F := Ideal) m g)
    exact (h c).1.trans (Cert.KernelIdeal.Fox.arr_eq m c)
  · refine (θ_run (Cert.ReferenceIdeal.defs (F := Ideal)) _ _).mono (fun r h c => ⟨?_, (h c).2⟩) (Cert.ReferenceIdeal.Value.run (F := Ideal) m' g')
    refine (h c).1.trans ((Cert.ReferenceIdeal.Read.val_main_v41_eq m' c).trans ?_)
    rw [(hagree c).1, (hagree c).2]
    exact (Cert.Fox.array_eq _ _ (hpre c)).symm

/-- The feed-forward reference runs, leaves its arguments as they were and every semaphore counter at zero. -/
theorem feedReference_frame : Cert.quiescent_Reference2Ideal (hReference2Ideal := Cert.Reference2Ideal.Gen.facts) := fun m g _ =>
  (θ_run (Cert.Reference2Ideal.defs (F := Ideal)) _ _).mono (fun r h => ⟨fun c => (h c).2, sem_eq_zero_of_no_sems (by decide) r.2⟩)
    (Cert.Reference2Ideal.Value.run (F := Ideal) m g)

/-- The feed-forward half computes its reference's result. -/
theorem feedForward : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Feed.feedArray m c, ?_, ?_⟩
  · refine (θ_run (Cert.Kernel2Ideal.defs (F := Ideal)) _ _).mono (fun r h c => ⟨?_, (h c).2⟩) (Cert.Kernel2Ideal.Value.run_blocks (F := Ideal) m g)
    exact (h c).1.trans (Cert.Kernel2Ideal.Feed.arr_eq m c)
  · refine (θ_run (Cert.Reference2Ideal.defs (F := Ideal)) _ _).mono (fun r h c => ⟨?_, (h c).2⟩) (Cert.Reference2Ideal.Value.run (F := Ideal) m' g')
    refine (h c).1.trans ((Cert.Reference2Ideal.Read.val_main_v38_eq m' c).trans ?_)
    rw [(hagree c).1, (hagree c).2.1, (hagree c).2.2.1, (hagree c).2.2.2.1, (hagree c).2.2.2.2]
    exact funext fun i => (congrArg _ (ValueIdx.eq_ix2 i)).trans (Cert.Reference2Ideal.Feed.result_at _ _ _ _ _ (i 0) (i 1))

/-- The odd mixer's output reference runs, leaves its arguments as they were and every semaphore counter at zero. -/
theorem outOddReference_frame : Cert.quiescent_Reference3Ideal (hReference3Ideal := Cert.Reference3Ideal.Gen.facts) := fun m g _ =>
  (θ_run (Cert.Reference3Ideal.defs (F := Ideal)) _ _).mono (fun r h => ⟨fun c => (h c).2, sem_eq_zero_of_no_sems (by decide) r.2⟩)
    (Cert.Reference3Ideal.Value.run (F := Ideal) m g)

/-- The odd mixer's output computes its reference's result. -/
theorem outOdd : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.Out.outArray m c, ?_, ?_⟩
  · refine (θ_run (Cert.Kernel3Ideal.defs (F := Ideal)) _ _).mono (fun r h c => ⟨?_, (h c).2⟩) (Cert.Kernel3Ideal.Value.run_blocks (F := Ideal) m g)
    exact (h c).1.trans (Cert.Kernel3Ideal.Out.arr_eq m c)
  · refine (θ_run (Cert.Reference3Ideal.defs (F := Ideal)) _ _).mono (fun r h c => ⟨?_, (h c).2⟩) (Cert.Reference3Ideal.Value.run (F := Ideal) m' g')
    refine (h c).1.trans ((Cert.Reference3Ideal.Read.val_main_v24_eq _ _ _ _ _).trans ?_)
    rw [(hagree c).1, (hagree c).2.1, (hagree c).2.2.1, (hagree c).2.2.2.1, (hagree c).2.2.2.2]
    exact funext fun i => (congrArg _ (ValueIdx.eq_ix2 i)).trans (Cert.Reference3Ideal.Out.result_at _ _ _ _ _ (i 0) (i 1))

/-- The even mixer's output reference runs, leaves its arguments as they were and every semaphore counter at zero. -/
theorem outEvenReference_frame : Cert.quiescent_Reference4Ideal (hReference4Ideal := Cert.Reference4Ideal.Gen.facts) := fun m g _ =>
  (θ_run (Cert.Reference4Ideal.defs (F := Ideal)) _ _).mono (fun r h => ⟨fun c => (h c).2, sem_eq_zero_of_no_sems (by decide) r.2⟩)
    (Cert.Reference4Ideal.Value.run (F := Ideal) m g)

/-- The even mixer's output computes its reference's result. -/
theorem outEven : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Kernel4Ideal.Out.outArray m c, ?_, ?_⟩
  · refine (θ_run (Cert.Kernel4Ideal.defs (F := Ideal)) _ _).mono (fun r h c => ⟨?_, (h c).2⟩) (Cert.Kernel4Ideal.Value.run_blocks (F := Ideal) m g)
    exact (h c).1.trans (Cert.Kernel4Ideal.Out.arr_eq m c)
  · refine (θ_run (Cert.Reference4Ideal.defs (F := Ideal)) _ _).mono (fun r h c => ⟨?_, (h c).2⟩) (Cert.Reference4Ideal.Value.run (F := Ideal) m' g')
    refine (h c).1.trans ((Cert.Reference4Ideal.Read.val_main_v23_eq _ _ _ _ _ _).trans ?_)
    rw [(hagree c).1, (hagree c).2.1, (hagree c).2.2.1, (hagree c).2.2.2.1, (hagree c).2.2.2.2.1, (hagree c).2.2.2.2.2]
    exact funext fun i => (congrArg _ (ValueIdx.eq_ix2 i)).trans (Cert.Reference4Ideal.Out.result_at _ _ _ _ _ _ (i 0) (i 1))

/-- The odd mixer's projection reference runs, leaves its arguments as they were and every semaphore counter at zero. -/
theorem projOddReference_frame : Cert.quiescent_Reference5Ideal (hReference5Ideal := Cert.Reference5Ideal.Gen.facts) := fun m g _ =>
  (θ_run (Cert.Reference5Ideal.defs (F := Ideal)) _ _).mono (fun r h => ⟨fun c => (h c).2.2.2, sem_eq_zero_of_no_sems (by decide) r.2⟩)
    (Cert.Reference5Ideal.Value.run (F := Ideal) m g)

/-- The odd mixer's projection computes its reference's three results. -/
theorem projOdd : Cert.algebraic_Kernel5Ideal_Reference5Ideal (hKernel5Ideal := Cert.Kernel5Ideal.Gen.facts)
    (hReference5Ideal := Cert.Reference5Ideal.Gen.facts) := by
  intro m g m' g' _ hagree
  refine ⟨fun c => Cert.Kernel5Ideal.ProjOdd.qkvArray m c, fun c => Cert.Kernel5Ideal.ProjOdd.gateArray m c,
    fun c => Cert.Kernel5Ideal.ProjOdd.tailArray m c, Cert.Kernel5Ideal.ProjOdd.run_results m g, ?_⟩
  refine (θ_run (Cert.Reference5Ideal.defs (F := Ideal)) _ _).mono (fun r h c => ⟨?_, ?_, ?_, (h c).2.2.2⟩) (Cert.Reference5Ideal.Value.run (F := Ideal) m' g')
  · refine (h c).1.trans ((Cert.Reference5Ideal.Read.val_main_v56_eq m' c).trans ?_)
    rw [(hagree c).1, (hagree c).2.1, (hagree c).2.2.1, (hagree c).2.2.2.1, (hagree c).2.2.2.2]
    exact funext fun i => (congrArg _ (ValueIdx.eq_ix2 i)).trans (Cert.Reference5Ideal.ProjOdd.qkv_at _ _ _ _ _ (i 0) (i 1))
  · refine (h c).2.1.trans ((Cert.Reference5Ideal.Read.val_main_v57_eq _ _ _).trans ?_)
    rw [(hagree c).1, (hagree c).2.1, (hagree c).2.2.1]
    exact funext fun i => (congrArg _ (ValueIdx.eq_ix2 i)).trans (Cert.Reference5Ideal.ProjOdd.gate_at _ _ _ (i 0) (i 1))
  · refine (h c).2.2.1.trans ((Cert.Reference5Ideal.Read.val_main_v59_eq _ _ _).trans ?_)
    rw [(hagree c).1, (hagree c).2.1, (hagree c).2.2.1]
    exact funext fun i => (congrArg _ (ValueIdx.eq_ix2 i)).trans (Cert.Reference5Ideal.ProjOdd.tail_at _ _ _ (i 0) (i 1))

/-- The even mixer's projection's reference leaves its arguments as they were and its semaphores at zero. -/
theorem projEvenReference_frame : Cert.quiescent_Reference6Ideal (hReference6Ideal := Cert.Reference6Ideal.Gen.facts) := fun m g _ =>
  (θ_run (Cert.Reference6Ideal.defs (F := Ideal)) _ _).mono (fun r h => ⟨fun c => (h c).2.2.2, sem_eq_zero_of_no_sems (by decide) r.2⟩)
    (Cert.Reference6Ideal.Value.run (F := Ideal) m g)

/-- The even mixer's projection computes its reference's three results. -/
theorem projEven : Cert.algebraic_Kernel6Ideal_Reference6Ideal (hKernel6Ideal := Cert.Kernel6Ideal.Gen.facts)
    (hReference6Ideal := Cert.Reference6Ideal.Gen.facts) := by
  intro m g m' g' _ hagree
  refine ⟨fun c => Cert.Kernel6Ideal.ProjEven.yaArray m c, fun c => Cert.Kernel6Ideal.ProjEven.rkvArray m c,
    fun c => Cert.Kernel6Ideal.ProjEven.tailArray m c, Cert.Kernel6Ideal.ProjEven.run_results m g, ?_⟩
  refine (θ_run (Cert.Reference6Ideal.defs (F := Ideal)) _ _).mono (fun r h c => ⟨?_, ?_, ?_, (h c).2.2.2⟩) (Cert.Reference6Ideal.Value.run (F := Ideal) m' g')
  · refine (h c).1.trans ((Cert.Reference6Ideal.Read.val_main_v61_eq m' c).trans ?_)
    rw [(hagree c).1, (hagree c).2.1, (hagree c).2.2.1, (hagree c).2.2.2.1]
    exact funext fun i => (congrArg _ (ValueIdx.eq_ix2 i)).trans (Cert.Reference6Ideal.ProjEven.ya_at _ _ _ _ (i 0) (i 1))
  · refine (h c).2.1.trans ((Cert.Reference6Ideal.Read.val_main_v60_eq m' c).trans ?_)
    rw [(hagree c).1, (hagree c).2.1, (hagree c).2.2.1, (hagree c).2.2.2.2]
    exact funext fun i => (congrArg _ (ValueIdx.eq_ix3 i)).trans (Cert.Reference6Ideal.ProjEven.rkv_at _ _ _ _ (i 0) (i 1) (i 2))
  · refine (h c).2.2.1.trans ((Cert.Reference6Ideal.Read.val_main_v63_eq _ _ _).trans ?_)
    rw [(hagree c).1, (hagree c).2.1, (hagree c).2.2.1]
    exact funext fun i => (congrArg _ (ValueIdx.eq_ix2 i)).trans (Cert.Reference6Ideal.ProjEven.tail_at _ _ _ (i 0) (i 1))

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_finite.Gen.facts,
    fun m g _ => Cert.Kernel.Gen.frame m g, fun m g _ => Cert.KernelIdeal.Gen.frame m g, fun m g _ => Cert.KernelIdeal.Gen.frame m g,
    fun m g _ => reference_frame m g, fun m g _ => reference_frame m g,
    fun m g _ => Cert.Kernel2.Gen.frame m g, fun m g _ => Cert.Kernel2Ideal.Gen.frame m g, feedReference_frame,
    fun m g _ => Cert.Kernel3.Gen.frame m g, fun m g _ => Cert.Kernel3Ideal.Gen.frame m g, outOddReference_frame,
    fun m g _ => Cert.Kernel4.Gen.frame m g, fun m g _ => Cert.Kernel4Ideal.Gen.frame m g, outEvenReference_frame,
    fun m g _ => Cert.Kernel5.ProjOdd.frame m g, fun m g _ => Cert.Kernel5Ideal.ProjOdd.frame m g, projOddReference_frame,
    fun m g _ => Cert.Kernel6.ProjEven.frame m g, fun m g _ => Cert.Kernel6Ideal.ProjEven.frame m g, projEvenReference_frame,
    IdealRules.named_const.statement Cert.KernelIdeal.κ "log2e" .f32 0x3FB8AA3B#32 (((Real.log 2)⁻¹ : ℝ) : EReal) rfl,
    attention, trivial, feedForward, trivial, outOdd, trivial, outEven,
    IdealRules.named_const.statement Cert.Kernel5Ideal.κ "qscale" .f32 0x3E0293EE#32 (((Real.sqrt 128)⁻¹ * (Real.log 2)⁻¹ : ℝ) : EReal) rfl,
    projOdd, trivial, projEven⟩

end Cert.Proof

end
